-- ==== Defs.lean ====
def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_qk [hPre_finite_qk : Cert.Pre_finite_qk.Facts] (m : (ℓ : Loc Cert.CrossIdeal.nD Cert.CrossIdeal.τ Cert.CrossIdeal.sig) → Buf (Elt Ideal) ℓ) : Prop :=
  ∀ c : Dev Cert.CrossIdeal.nD,
    (Cert.Pre_finite_qk.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))).1 = (fun _ => 1#1)
    ∧ (Cert.Pre_finite_qk.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))).2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_qk [hPre_finite_qk : Cert.Pre_finite_qk.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_qk.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))).1 = (fun _ => 1#1)
    ∧ (Cert.Pre_finite_qk.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_finite_input [hPre_finite_input : Cert.Pre_finite_input.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_finite_input.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6)) (m ((c.tc : Thread Cert.ProjectIdeal.nD Cert.ProjectIdeal.τ).loc Cert.ProjectIdeal.main_arg7))).1 = (fun _ => 1#1)
    ∧ (Cert.Pre_finite_input.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6)) (m ((c.tc : Thread Cert.ProjectIdeal.nD Cert.ProjectIdeal.τ).loc Cert.ProjectIdeal.main_arg7))).2.1 = (fun _ => 1#1)
    ∧ (Cert.Pre_finite_input.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6)) (m ((c.tc : Thread Cert.ProjectIdeal.nD Cert.ProjectIdeal.τ).loc Cert.ProjectIdeal.main_arg7))).2.2 = (fun _ => 1#1)

def Pre_ProjectRefIdeal (m : (ℓ : Loc Cert.ProjectRefIdeal.nD Cert.ProjectRefIdeal.τ Cert.ProjectRefIdeal.sig) → Buf (Elt Ideal) ℓ) : Prop :=
  True

def Pre_ProjectRefIdeal_finite_input [hPre_finite_input : Cert.Pre_finite_input.Facts] (m : (ℓ : Loc Cert.ProjectRefIdeal.nD Cert.ProjectRefIdeal.τ Cert.ProjectRefIdeal.sig) → Buf (Elt Ideal) ℓ) : Prop :=
  ∀ c : Dev Cert.ProjectRefIdeal.nD,
    (Cert.Pre_finite_input.fn (F := Ideal) (m ((c.tc : Thread Cert.ProjectRefIdeal.nD Cert.ProjectRefIdeal.τ).loc Cert.ProjectRefIdeal.main_arg0)) (m ((c.tc : Thread Cert.ProjectRefIdeal.nD Cert.ProjectRefIdeal.τ).loc Cert.ProjectRefIdeal.main_arg1)) (m ((c.tc : Thread Cert.ProjectRefIdeal.nD Cert.ProjectRefIdeal.τ).loc Cert.ProjectRefIdeal.main_arg2)) (m ((c.tc : Thread Cert.ProjectRefIdeal.nD Cert.ProjectRefIdeal.τ).loc Cert.ProjectRefIdeal.main_arg3)) (m ((c.tc : Thread Cert.ProjectRefIdeal.nD Cert.ProjectRefIdeal.τ).loc Cert.ProjectRefIdeal.main_arg4)) (m ((c.tc : Thread Cert.ProjectRefIdeal.nD Cert.ProjectRefIdeal.τ).loc Cert.ProjectRefIdeal.main_arg5)) (m ((c.tc : Thread Cert.ProjectRefIdeal.nD Cert.ProjectRefIdeal.τ).loc Cert.ProjectRefIdeal.main_arg6)) (m ((c.tc : Thread Cert.ProjectRefIdeal.nD Cert.ProjectRefIdeal.τ).loc Cert.ProjectRefIdeal.main_arg7))).1 = (fun _ => 1#1)
    ∧ (Cert.Pre_finite_input.fn (F := Ideal) (m ((c.tc : Thread Cert.ProjectRefIdeal.nD Cert.ProjectRefIdeal.τ).loc Cert.ProjectRefIdeal.main_arg0)) (m ((c.tc : Thread Cert.ProjectRefIdeal.nD Cert.ProjectRefIdeal.τ).loc Cert.ProjectRefIdeal.main_arg1)) (m ((c.tc : Thread Cert.ProjectRefIdeal.nD Cert.ProjectRefIdeal.τ).loc Cert.ProjectRefIdeal.main_arg2)) (m ((c.tc : Thread Cert.ProjectRefIdeal.nD Cert.ProjectRefIdeal.τ).loc Cert.ProjectRefIdeal.main_arg3)) (m ((c.tc : Thread Cert.ProjectRefIdeal.nD Cert.ProjectRefIdeal.τ).loc Cert.ProjectRefIdeal.main_arg4)) (m ((c.tc : Thread Cert.ProjectRefIdeal.nD Cert.ProjectRefIdeal.τ).loc Cert.ProjectRefIdeal.main_arg5)) (m ((c.tc : Thread Cert.ProjectRefIdeal.nD Cert.ProjectRefIdeal.τ).loc Cert.ProjectRefIdeal.main_arg6)) (m ((c.tc : Thread Cert.ProjectRefIdeal.nD Cert.ProjectRefIdeal.τ).loc Cert.ProjectRefIdeal.main_arg7))).2.1 = (fun _ => 1#1)
    ∧ (Cert.Pre_finite_input.fn (F := Ideal) (m ((c.tc : Thread Cert.ProjectRefIdeal.nD Cert.ProjectRefIdeal.τ).loc Cert.ProjectRefIdeal.main_arg0)) (m ((c.tc : Thread Cert.ProjectRefIdeal.nD Cert.ProjectRefIdeal.τ).loc Cert.ProjectRefIdeal.main_arg1)) (m ((c.tc : Thread Cert.ProjectRefIdeal.nD Cert.ProjectRefIdeal.τ).loc Cert.ProjectRefIdeal.main_arg2)) (m ((c.tc : Thread Cert.ProjectRefIdeal.nD Cert.ProjectRefIdeal.τ).loc Cert.ProjectRefIdeal.main_arg3)) (m ((c.tc : Thread Cert.ProjectRefIdeal.nD Cert.ProjectRefIdeal.τ).loc Cert.ProjectRefIdeal.main_arg4)) (m ((c.tc : Thread Cert.ProjectRefIdeal.nD Cert.ProjectRefIdeal.τ).loc Cert.ProjectRefIdeal.main_arg5)) (m ((c.tc : Thread Cert.ProjectRefIdeal.nD Cert.ProjectRefIdeal.τ).loc Cert.ProjectRefIdeal.main_arg6)) (m ((c.tc : Thread Cert.ProjectRefIdeal.nD Cert.ProjectRefIdeal.τ).loc Cert.ProjectRefIdeal.main_arg7))).2.2 = (fun _ => 1#1)

def Pre_Tokens (m : (ℓ : Loc Cert.Tokens.nD Cert.Tokens.τ Cert.Tokens.sig) → Buf (Elt Bits) ℓ) : Prop :=
  True

def Pre_TokensIdeal (m : (ℓ : Loc Cert.TokensIdeal.nD Cert.TokensIdeal.τ Cert.TokensIdeal.sig) → Buf (Elt Ideal) ℓ) : Prop :=
  True

def Pre_TokensIdeal_finite_tokens [hPre_finite_tokens : Cert.Pre_finite_tokens.Facts] (m : (ℓ : Loc Cert.TokensIdeal.nD Cert.TokensIdeal.τ Cert.TokensIdeal.sig) → Buf (Elt Ideal) ℓ) : Prop :=
  ∀ c : Dev Cert.TokensIdeal.nD,
    (Cert.Pre_finite_tokens.fn (F := Ideal) (m ((c.tc : Thread Cert.TokensIdeal.nD Cert.TokensIdeal.τ).loc Cert.TokensIdeal.main_arg0)) (m ((c.tc : Thread Cert.TokensIdeal.nD Cert.TokensIdeal.τ).loc Cert.TokensIdeal.main_arg1)) (m ((c.tc : Thread Cert.TokensIdeal.nD Cert.TokensIdeal.τ).loc Cert.TokensIdeal.main_arg2)) (m ((c.tc : Thread Cert.TokensIdeal.nD Cert.TokensIdeal.τ).loc Cert.TokensIdeal.main_arg3))).1 = (fun _ => 1#1)
    ∧ (Cert.Pre_finite_tokens.fn (F := Ideal) (m ((c.tc : Thread Cert.TokensIdeal.nD Cert.TokensIdeal.τ).loc Cert.TokensIdeal.main_arg0)) (m ((c.tc : Thread Cert.TokensIdeal.nD Cert.TokensIdeal.τ).loc Cert.TokensIdeal.main_arg1)) (m ((c.tc : Thread Cert.TokensIdeal.nD Cert.TokensIdeal.τ).loc Cert.TokensIdeal.main_arg2)) (m ((c.tc : Thread Cert.TokensIdeal.nD Cert.TokensIdeal.τ).loc Cert.TokensIdeal.main_arg3))).2.1 = (fun _ => 1#1)
    ∧ (Cert.Pre_finite_tokens.fn (F := Ideal) (m ((c.tc : Thread Cert.TokensIdeal.nD Cert.TokensIdeal.τ).loc Cert.TokensIdeal.main_arg0)) (m ((c.tc : Thread Cert.TokensIdeal.nD Cert.TokensIdeal.τ).loc Cert.TokensIdeal.main_arg1)) (m ((c.tc : Thread Cert.TokensIdeal.nD Cert.TokensIdeal.τ).loc Cert.TokensIdeal.main_arg2)) (m ((c.tc : Thread Cert.TokensIdeal.nD Cert.TokensIdeal.τ).loc Cert.TokensIdeal.main_arg3))).2.2 = (fun _ => 1#1)

def Pre_TokensRefIdeal (m : (ℓ : Loc Cert.TokensRefIdeal.nD Cert.TokensRefIdeal.τ Cert.TokensRefIdeal.sig) → Buf (Elt Ideal) ℓ) : Prop :=
  True

def Pre_TokensRefIdeal_finite_tokens [hPre_finite_tokens : Cert.Pre_finite_tokens.Facts] (m : (ℓ : Loc Cert.TokensRefIdeal.nD Cert.TokensRefIdeal.τ Cert.TokensRefIdeal.sig) → Buf (Elt Ideal) ℓ) : Prop :=
  ∀ c : Dev Cert.TokensRefIdeal.nD,
    (Cert.Pre_finite_tokens.fn (F := Ideal) (m ((c.tc : Thread Cert.TokensRefIdeal.nD Cert.TokensRefIdeal.τ).loc Cert.TokensRefIdeal.main_arg0)) (m ((c.tc : Thread Cert.TokensRefIdeal.nD Cert.TokensRefIdeal.τ).loc Cert.TokensRefIdeal.main_arg1)) (m ((c.tc : Thread Cert.TokensRefIdeal.nD Cert.TokensRefIdeal.τ).loc Cert.TokensRefIdeal.main_arg2)) (m ((c.tc : Thread Cert.TokensRefIdeal.nD Cert.TokensRefIdeal.τ).loc Cert.TokensRefIdeal.main_arg3))).1 = (fun _ => 1#1)
    ∧ (Cert.Pre_finite_tokens.fn (F := Ideal) (m ((c.tc : Thread Cert.TokensRefIdeal.nD Cert.TokensRefIdeal.τ).loc Cert.TokensRefIdeal.main_arg0)) (m ((c.tc : Thread Cert.TokensRefIdeal.nD Cert.TokensRefIdeal.τ).loc Cert.TokensRefIdeal.main_arg1)) (m ((c.tc : Thread Cert.TokensRefIdeal.nD Cert.TokensRefIdeal.τ).loc Cert.TokensRefIdeal.main_arg2)) (m ((c.tc : Thread Cert.TokensRefIdeal.nD Cert.TokensRefIdeal.τ).loc Cert.TokensRefIdeal.main_arg3))).2.1 = (fun _ => 1#1)
    ∧ (Cert.Pre_finite_tokens.fn (F := Ideal) (m ((c.tc : Thread Cert.TokensRefIdeal.nD Cert.TokensRefIdeal.τ).loc Cert.TokensRefIdeal.main_arg0)) (m ((c.tc : Thread Cert.TokensRefIdeal.nD Cert.TokensRefIdeal.τ).loc Cert.TokensRefIdeal.main_arg1)) (m ((c.tc : Thread Cert.TokensRefIdeal.nD Cert.TokensRefIdeal.τ).loc Cert.TokensRefIdeal.main_arg2)) (m ((c.tc : Thread Cert.TokensRefIdeal.nD Cert.TokensRefIdeal.τ).loc Cert.TokensRefIdeal.main_arg3))).2.2 = (fun _ => 1#1)

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandRefIdeal (m : (ℓ : Loc Cert.BandRefIdeal.nD Cert.BandRefIdeal.τ Cert.BandRefIdeal.sig) → Buf (Elt Ideal) ℓ) : Prop :=
  True

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossIdeal_pre_finite_qk [hCrossIdeal : Cert.CrossIdeal.Facts] [hPre_finite_qk : Cert.Pre_finite_qk.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_qk m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_CrossRefIdeal_pre_finite_qk [hCrossRefIdeal : Cert.CrossRefIdeal.Facts] [hPre_finite_qk : Cert.Pre_finite_qk.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_qk m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_ProjectIdeal_pre_finite_input [hProjectIdeal : Cert.ProjectIdeal.Facts] [hPre_finite_input : Cert.Pre_finite_input.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_finite_input m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6)
      ∧ r.2.mem ((c.tc : Thread Cert.ProjectRefIdeal.nD Cert.ProjectRefIdeal.τ).loc Cert.ProjectRefIdeal.main_arg7) = m ((c.tc : Thread Cert.ProjectRefIdeal.nD Cert.ProjectRefIdeal.τ).loc Cert.ProjectRefIdeal.main_arg7))
      ∧ r.2.sem = fun _ => 0)

def quiescent_ProjectRefIdeal_pre_finite_input [hProjectRefIdeal : Cert.ProjectRefIdeal.Facts] [hPre_finite_input : Cert.Pre_finite_input.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal_finite_input m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6)
      ∧ r.2.mem ((c.tc : Thread Cert.ProjectRefIdeal.nD Cert.ProjectRefIdeal.τ).loc Cert.ProjectRefIdeal.main_arg7) = m ((c.tc : Thread Cert.ProjectRefIdeal.nD Cert.ProjectRefIdeal.τ).loc Cert.ProjectRefIdeal.main_arg7))
      ∧ r.2.sem = fun _ => 0)

def quiescent_Tokens [hTokens : Cert.Tokens.Facts] : Prop :=
  ∀ (m : (ℓ : Loc Cert.Tokens.nD Cert.Tokens.τ Cert.Tokens.sig) → Buf (Elt Bits) ℓ) (g : Dev Cert.Tokens.nD → PrngReg), Pre_Tokens m →
    θ_run (Cert.Tokens.defs (F := Bits)) (onTc (τ := Cert.Tokens.τ) (Cert.Tokens.main (F := Bits))) ⟨m, fun _ => 0, g⟩ (fun r => (∀ c : Dev Cert.Tokens.nD,
      r.2.mem ((c.tc : Thread Cert.Tokens.nD Cert.Tokens.τ).loc Cert.Tokens.main_arg0) = m ((c.tc : Thread Cert.Tokens.nD Cert.Tokens.τ).loc Cert.Tokens.main_arg0)
      ∧ r.2.mem ((c.tc : Thread Cert.Tokens.nD Cert.Tokens.τ).loc Cert.Tokens.main_arg1) = m ((c.tc : Thread Cert.Tokens.nD Cert.Tokens.τ).loc Cert.Tokens.main_arg1)
      ∧ r.2.mem ((c.tc : Thread Cert.Tokens.nD Cert.Tokens.τ).loc Cert.Tokens.main_arg2) = m ((c.tc : Thread Cert.Tokens.nD Cert.Tokens.τ).loc Cert.Tokens.main_arg2)
      ∧ r.2.mem ((c.tc : Thread Cert.Tokens.nD Cert.Tokens.τ).loc Cert.Tokens.main_arg3) = m ((c.tc : Thread Cert.Tokens.nD Cert.Tokens.τ).loc Cert.Tokens.main_arg3))
      ∧ r.2.sem = fun _ => 0)

def quiescent_TokensIdeal [hTokensIdeal : Cert.TokensIdeal.Facts] : Prop :=
  ∀ (m : (ℓ : Loc Cert.TokensIdeal.nD Cert.TokensIdeal.τ Cert.TokensIdeal.sig) → Buf (Elt Ideal) ℓ) (g : Dev Cert.TokensIdeal.nD → PrngReg), Pre_TokensIdeal m →
    θ_run (Cert.TokensIdeal.defs (F := Ideal)) (onTc (τ := Cert.TokensIdeal.τ) (Cert.TokensIdeal.main (F := Ideal))) ⟨m, fun _ => 0, g⟩ (fun r => (∀ c : Dev Cert.TokensIdeal.nD,
      r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
      ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
      ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
      ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3))
      ∧ r.2.sem = fun _ => 0)

def quiescent_TokensIdeal_pre_finite_tokens [hTokensIdeal : Cert.TokensIdeal.Facts] [hPre_finite_tokens : Cert.Pre_finite_tokens.Facts] : Prop :=
  ∀ (m : (ℓ : Loc Cert.TokensIdeal.nD Cert.TokensIdeal.τ Cert.TokensIdeal.sig) → Buf (Elt Ideal) ℓ) (g : Dev Cert.TokensIdeal.nD → PrngReg), Pre_TokensIdeal_finite_tokens m →
    θ_run (Cert.TokensIdeal.defs (F := Ideal)) (onTc (τ := Cert.TokensIdeal.τ) (Cert.TokensIdeal.main (F := Ideal))) ⟨m, fun _ => 0, g⟩ (fun r => (∀ c : Dev Cert.TokensIdeal.nD,
      r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
      ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
      ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
      ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3))
      ∧ r.2.sem = fun _ => 0)

def quiescent_TokensRefIdeal [hTokensRefIdeal : Cert.TokensRefIdeal.Facts] : Prop :=
  ∀ (m : (ℓ : Loc Cert.TokensRefIdeal.nD Cert.TokensRefIdeal.τ Cert.TokensRefIdeal.sig) → Buf (Elt Ideal) ℓ) (g : Dev Cert.TokensRefIdeal.nD → PrngReg), Pre_TokensRefIdeal m →
    θ_run (Cert.TokensRefIdeal.defs (F := Ideal)) (onTc (τ := Cert.TokensRefIdeal.τ) (Cert.TokensRefIdeal.main (F := Ideal))) ⟨m, fun _ => 0, g⟩ (fun r => (∀ c : Dev Cert.TokensRefIdeal.nD,
      r.2.mem ((c.tc : Thread Cert.TokensRefIdeal.nD Cert.TokensRefIdeal.τ).loc Cert.TokensRefIdeal.main_arg0) = m ((c.tc : Thread Cert.TokensRefIdeal.nD Cert.TokensRefIdeal.τ).loc Cert.TokensRefIdeal.main_arg0)
      ∧ r.2.mem ((c.tc : Thread Cert.TokensRefIdeal.nD Cert.TokensRefIdeal.τ).loc Cert.TokensRefIdeal.main_arg1) = m ((c.tc : Thread Cert.TokensRefIdeal.nD Cert.TokensRefIdeal.τ).loc Cert.TokensRefIdeal.main_arg1)
      ∧ r.2.mem ((c.tc : Thread Cert.TokensRefIdeal.nD Cert.TokensRefIdeal.τ).loc Cert.TokensRefIdeal.main_arg2) = m ((c.tc : Thread Cert.TokensRefIdeal.nD Cert.TokensRefIdeal.τ).loc Cert.TokensRefIdeal.main_arg2)
      ∧ r.2.mem ((c.tc : Thread Cert.TokensRefIdeal.nD Cert.TokensRefIdeal.τ).loc Cert.TokensRefIdeal.main_arg3) = m ((c.tc : Thread Cert.TokensRefIdeal.nD Cert.TokensRefIdeal.τ).loc Cert.TokensRefIdeal.main_arg3))
      ∧ r.2.sem = fun _ => 0)

def quiescent_TokensRefIdeal_pre_finite_tokens [hTokensRefIdeal : Cert.TokensRefIdeal.Facts] [hPre_finite_tokens : Cert.Pre_finite_tokens.Facts] : Prop :=
  ∀ (m : (ℓ : Loc Cert.TokensRefIdeal.nD Cert.TokensRefIdeal.τ Cert.TokensRefIdeal.sig) → Buf (Elt Ideal) ℓ) (g : Dev Cert.TokensRefIdeal.nD → PrngReg), Pre_TokensRefIdeal_finite_tokens m →
    θ_run (Cert.TokensRefIdeal.defs (F := Ideal)) (onTc (τ := Cert.TokensRefIdeal.τ) (Cert.TokensRefIdeal.main (F := Ideal))) ⟨m, fun _ => 0, g⟩ (fun r => (∀ c : Dev Cert.TokensRefIdeal.nD,
      r.2.mem ((c.tc : Thread Cert.TokensRefIdeal.nD Cert.TokensRefIdeal.τ).loc Cert.TokensRefIdeal.main_arg0) = m ((c.tc : Thread Cert.TokensRefIdeal.nD Cert.TokensRefIdeal.τ).loc Cert.TokensRefIdeal.main_arg0)
      ∧ r.2.mem ((c.tc : Thread Cert.TokensRefIdeal.nD Cert.TokensRefIdeal.τ).loc Cert.TokensRefIdeal.main_arg1) = m ((c.tc : Thread Cert.TokensRefIdeal.nD Cert.TokensRefIdeal.τ).loc Cert.TokensRefIdeal.main_arg1)
      ∧ r.2.mem ((c.tc : Thread Cert.TokensRefIdeal.nD Cert.TokensRefIdeal.τ).loc Cert.TokensRefIdeal.main_arg2) = m ((c.tc : Thread Cert.TokensRefIdeal.nD Cert.TokensRefIdeal.τ).loc Cert.TokensRefIdeal.main_arg2)
      ∧ r.2.mem ((c.tc : Thread Cert.TokensRefIdeal.nD Cert.TokensRefIdeal.τ).loc Cert.TokensRefIdeal.main_arg3) = m ((c.tc : Thread Cert.TokensRefIdeal.nD Cert.TokensRefIdeal.τ).loc Cert.TokensRefIdeal.main_arg3))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def preserves_Cross_CrossIdeal : Prop :=
  True

def algebraic_CrossIdeal_CrossRefIdeal_pre_finite_qk [hCrossIdeal : Cert.CrossIdeal.Facts] [hCrossRefIdeal : Cert.CrossRefIdeal.Facts] [hPre_finite_qk : Cert.Pre_finite_qk.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_qk m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v22) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v8_2)) (v3 : (c : Dev Cert.MixIdeal.nD) → Buf (Elt Ideal) ((c.tc : Thread Cert.MixIdeal.nD Cert.MixIdeal.τ).loc Cert.MixIdeal.main_v8_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v8_2) = v2 c
          ∧ r.2.mem ((c.tc : Thread Cert.MixIdeal.nD Cert.MixIdeal.τ).loc Cert.MixIdeal.main_v8_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v41) = v0 c
          ∧ r.2.mem ((c.tc : Thread Cert.MixRefIdeal.nD Cert.MixRefIdeal.τ).loc Cert.MixRefIdeal.main_v61) = v1 c
          ∧ r.2.mem ((c.tc : Thread Cert.MixRefIdeal.nD Cert.MixRefIdeal.τ).loc Cert.MixRefIdeal.main_v58) = v2 c
          ∧ r.2.mem ((c.tc : Thread Cert.MixRefIdeal.nD Cert.MixRefIdeal.τ).loc Cert.MixRefIdeal.main_v60) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_Project_ProjectIdeal : Prop :=
  True

def algebraic_ProjectIdeal_ProjectRefIdeal_pre_finite_input [hProjectIdeal : Cert.ProjectIdeal.Facts] [hProjectRefIdeal : Cert.ProjectRefIdeal.Facts] [hPre_finite_input : Cert.Pre_finite_input.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal_finite_input m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)
      ∧ m' ((c.tc : Thread Cert.ProjectRefIdeal.nD Cert.ProjectRefIdeal.τ).loc Cert.ProjectRefIdeal.main_arg6) = m ((c.tc : Thread Cert.ProjectIdeal.nD Cert.ProjectIdeal.τ).loc Cert.ProjectIdeal.main_arg6)
      ∧ m' ((c.tc : Thread Cert.ProjectRefIdeal.nD Cert.ProjectRefIdeal.τ).loc Cert.ProjectRefIdeal.main_arg7) = m ((c.tc : Thread Cert.ProjectIdeal.nD Cert.ProjectIdeal.τ).loc Cert.ProjectIdeal.main_arg7)) →
    ∃ (v0 : (c : Dev Cert.ProjectIdeal.nD) → Buf (Elt Ideal) ((c.tc : Thread Cert.ProjectIdeal.nD Cert.ProjectIdeal.τ).loc Cert.ProjectIdeal.main_v22_0)) (v1 : (c : Dev Cert.ProjectIdeal.nD) → Buf (Elt Ideal) ((c.tc : Thread Cert.ProjectIdeal.nD Cert.ProjectIdeal.τ).loc Cert.ProjectIdeal.main_v22_1)) (v2 : (c : Dev Cert.ProjectIdeal.nD) → Buf (Elt Ideal) ((c.tc : Thread Cert.ProjectIdeal.nD Cert.ProjectIdeal.τ).loc Cert.ProjectIdeal.main_v22_2)) (v3 : (c : Dev Cert.ProjectIdeal.nD) → Buf (Elt Ideal) ((c.tc : Thread Cert.ProjectIdeal.nD Cert.ProjectIdeal.τ).loc Cert.ProjectIdeal.main_v22_3)) (v4 : (c : Dev Cert.ProjectIdeal.nD) → Buf (Elt Ideal) ((c.tc : Thread Cert.ProjectIdeal.nD Cert.ProjectIdeal.τ).loc Cert.ProjectIdeal.main_v22_4)) (v5 : (c : Dev Cert.ProjectIdeal.nD) → Buf (Elt Ideal) ((c.tc : Thread Cert.ProjectIdeal.nD Cert.ProjectIdeal.τ).loc Cert.ProjectIdeal.main_v22_5)) (v6 : (c : Dev Cert.ProjectIdeal.nD) → Buf (Elt Ideal) ((c.tc : Thread Cert.ProjectIdeal.nD Cert.ProjectIdeal.τ).loc Cert.ProjectIdeal.main_v22_6)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v22_0) = v0 c
          ∧ r.2.mem ((c.tc : Thread Cert.ProjectIdeal.nD Cert.ProjectIdeal.τ).loc Cert.ProjectIdeal.main_v22_1) = v1 c
          ∧ r.2.mem ((c.tc : Thread Cert.ProjectIdeal.nD Cert.ProjectIdeal.τ).loc Cert.ProjectIdeal.main_v22_2) = v2 c
          ∧ r.2.mem ((c.tc : Thread Cert.ProjectIdeal.nD Cert.ProjectIdeal.τ).loc Cert.ProjectIdeal.main_v22_3) = v3 c
          ∧ r.2.mem ((c.tc : Thread Cert.ProjectIdeal.nD Cert.ProjectIdeal.τ).loc Cert.ProjectIdeal.main_v22_4) = v4 c
          ∧ r.2.mem ((c.tc : Thread Cert.ProjectIdeal.nD Cert.ProjectIdeal.τ).loc Cert.ProjectIdeal.main_v22_5) = v5 c
          ∧ r.2.mem ((c.tc : Thread Cert.ProjectIdeal.nD Cert.ProjectIdeal.τ).loc Cert.ProjectIdeal.main_v22_6) = v6 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v35) = v0 c
          ∧ r.2.mem ((c.tc : Thread Cert.ProjectRefIdeal.nD Cert.ProjectRefIdeal.τ).loc Cert.ProjectRefIdeal.main_v50) = v1 c
          ∧ r.2.mem ((c.tc : Thread Cert.ProjectRefIdeal.nD Cert.ProjectRefIdeal.τ).loc Cert.ProjectRefIdeal.main_v16) = v2 c
          ∧ r.2.mem ((c.tc : Thread Cert.ProjectRefIdeal.nD Cert.ProjectRefIdeal.τ).loc Cert.ProjectRefIdeal.main_v65) = v3 c
          ∧ r.2.mem ((c.tc : Thread Cert.ProjectRefIdeal.nD Cert.ProjectRefIdeal.τ).loc Cert.ProjectRefIdeal.main_v80) = v4 c
          ∧ r.2.mem ((c.tc : Thread Cert.ProjectRefIdeal.nD Cert.ProjectRefIdeal.τ).loc Cert.ProjectRefIdeal.main_v19) = v5 c
          ∧ r.2.mem ((c.tc : Thread Cert.ProjectRefIdeal.nD Cert.ProjectRefIdeal.τ).loc Cert.ProjectRefIdeal.main_v95) = v6 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5)
          ∧ r.2.mem ((c.tc : Thread Cert.ProjectRefIdeal.nD Cert.ProjectRefIdeal.τ).loc Cert.ProjectRefIdeal.main_arg6) = m' ((c.tc : Thread Cert.ProjectRefIdeal.nD Cert.ProjectRefIdeal.τ).loc Cert.ProjectRefIdeal.main_arg6)
          ∧ r.2.mem ((c.tc : Thread Cert.ProjectRefIdeal.nD Cert.ProjectRefIdeal.τ).loc Cert.ProjectRefIdeal.main_arg7) = m' ((c.tc : Thread Cert.ProjectRefIdeal.nD Cert.ProjectRefIdeal.τ).loc Cert.ProjectRefIdeal.main_arg7))

def preserves_Tokens_TokensIdeal : Prop :=
  True

def algebraic_TokensIdeal_TokensRefIdeal_pre_finite_tokens [hTokensIdeal : Cert.TokensIdeal.Facts] [hTokensRefIdeal : Cert.TokensRefIdeal.Facts] [hPre_finite_tokens : Cert.Pre_finite_tokens.Facts] : Prop :=
  ∀ (m : (ℓ : Loc Cert.TokensIdeal.nD Cert.TokensIdeal.τ Cert.TokensIdeal.sig) → Buf (Elt Ideal) ℓ) (g : Dev Cert.TokensIdeal.nD → PrngReg)
    (m' : (ℓ : Loc Cert.TokensRefIdeal.nD Cert.TokensRefIdeal.τ Cert.TokensRefIdeal.sig) → Buf (Elt Ideal) ℓ) (g' : Dev Cert.TokensRefIdeal.nD → PrngReg), Pre_TokensIdeal_finite_tokens m →
    (∀ c : Dev Cert.TokensIdeal.nD,
      m' ((c.tc : Thread Cert.TokensRefIdeal.nD Cert.TokensRefIdeal.τ).loc Cert.TokensRefIdeal.main_arg0) = m ((c.tc : Thread Cert.TokensIdeal.nD Cert.TokensIdeal.τ).loc Cert.TokensIdeal.main_arg0)
      ∧ m' ((c.tc : Thread Cert.TokensRefIdeal.nD Cert.TokensRefIdeal.τ).loc Cert.TokensRefIdeal.main_arg1) = m ((c.tc : Thread Cert.TokensIdeal.nD Cert.TokensIdeal.τ).loc Cert.TokensIdeal.main_arg1)
      ∧ m' ((c.tc : Thread Cert.TokensRefIdeal.nD Cert.TokensRefIdeal.τ).loc Cert.TokensRefIdeal.main_arg2) = m ((c.tc : Thread Cert.TokensIdeal.nD Cert.TokensIdeal.τ).loc Cert.TokensIdeal.main_arg2)
      ∧ m' ((c.tc : Thread Cert.TokensRefIdeal.nD Cert.TokensRefIdeal.τ).loc Cert.TokensRefIdeal.main_arg3) = m ((c.tc : Thread Cert.TokensIdeal.nD Cert.TokensIdeal.τ).loc Cert.TokensIdeal.main_arg3)) →
    ∃ (v0 : (c : Dev Cert.TokensIdeal.nD) → Buf (Elt Ideal) ((c.tc : Thread Cert.TokensIdeal.nD Cert.TokensIdeal.τ).loc Cert.TokensIdeal.main_v6_0)) (v1 : (c : Dev Cert.TokensIdeal.nD) → Buf (Elt Ideal) ((c.tc : Thread Cert.TokensIdeal.nD Cert.TokensIdeal.τ).loc Cert.TokensIdeal.main_v6_1)),
      θ_run (Cert.TokensIdeal.defs (F := Ideal)) (onTc (τ := Cert.TokensIdeal.τ) (Cert.TokensIdeal.main (F := Ideal))) ⟨m, fun _ => 0, g⟩ (fun r => ∀ c : Dev Cert.TokensIdeal.nD,
          r.2.mem ((c.tc : Thread Cert.TokensIdeal.nD Cert.TokensIdeal.τ).loc Cert.TokensIdeal.main_v6_0) = v0 c
          ∧ r.2.mem ((c.tc : Thread Cert.TokensIdeal.nD Cert.TokensIdeal.τ).loc Cert.TokensIdeal.main_v6_1) = v1 c
          ∧ r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
          ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
          ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
          ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3))
      ∧ θ_run (Cert.TokensRefIdeal.defs (F := Ideal)) (onTc (τ := Cert.TokensRefIdeal.τ) (Cert.TokensRefIdeal.main (F := Ideal))) ⟨m', fun _ => 0, g'⟩ (fun r => ∀ c : Dev Cert.TokensRefIdeal.nD,
          r.2.mem ((c.tc : Thread Cert.TokensRefIdeal.nD Cert.TokensRefIdeal.τ).loc Cert.TokensRefIdeal.main_v32) = v0 c
          ∧ r.2.mem ((c.tc : Thread Cert.TokensRefIdeal.nD Cert.TokensRefIdeal.τ).loc Cert.TokensRefIdeal.main_v15) = v1 c
          ∧ r.2.mem ((c.tc : Thread Cert.TokensRefIdeal.nD Cert.TokensRefIdeal.τ).loc Cert.TokensRefIdeal.main_arg0) = m' ((c.tc : Thread Cert.TokensRefIdeal.nD Cert.TokensRefIdeal.τ).loc Cert.TokensRefIdeal.main_arg0)
          ∧ r.2.mem ((c.tc : Thread Cert.TokensRefIdeal.nD Cert.TokensRefIdeal.τ).loc Cert.TokensRefIdeal.main_arg1) = m' ((c.tc : Thread Cert.TokensRefIdeal.nD Cert.TokensRefIdeal.τ).loc Cert.TokensRefIdeal.main_arg1)
          ∧ r.2.mem ((c.tc : Thread Cert.TokensRefIdeal.nD Cert.TokensRefIdeal.τ).loc Cert.TokensRefIdeal.main_arg2) = m' ((c.tc : Thread Cert.TokensRefIdeal.nD Cert.TokensRefIdeal.τ).loc Cert.TokensRefIdeal.main_arg2)
          ∧ r.2.mem ((c.tc : Thread Cert.TokensRefIdeal.nD Cert.TokensRefIdeal.τ).loc Cert.TokensRefIdeal.main_arg3) = m' ((c.tc : Thread Cert.TokensRefIdeal.nD Cert.TokensRefIdeal.τ).loc Cert.TokensRefIdeal.main_arg3))

def preserves_Band_BandIdeal : Prop :=
  IdealRules.named_const.Statement Cert.BandIdeal.κ "mask" .f32 0xF149F2CA#32 ⊥

def algebraic_BandIdeal_BandRefIdeal [hBandIdeal : Cert.BandIdeal.Facts] [hBandRefIdeal : Cert.BandRefIdeal.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)) →
    ∃ (v0 : (c : Dev Cert.BandIdeal.nD) → Buf (Elt Ideal) ((c.tc : Thread Cert.BandIdeal.nD Cert.BandIdeal.τ).loc Cert.BandIdeal.main_v3)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v3) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v159) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3))

def Claim : Prop :=
  ∃ (hCross : Cert.Cross.Facts) (hCrossIdeal : Cert.CrossIdeal.Facts) (hCrossRefIdeal : Cert.CrossRefIdeal.Facts) (hMix : Cert.Mix.Facts) (hMixIdeal : Cert.MixIdeal.Facts) (hMixRefIdeal : Cert.MixRefIdeal.Facts) (hProject : Cert.Project.Facts) (hProjectIdeal : Cert.ProjectIdeal.Facts) (hProjectRefIdeal : Cert.ProjectRefIdeal.Facts) (hTokens : Cert.Tokens.Facts) (hTokensIdeal : Cert.TokensIdeal.Facts) (hTokensRefIdeal : Cert.TokensRefIdeal.Facts) (hBand : Cert.Band.Facts) (hBandIdeal : Cert.BandIdeal.Facts) (hBandRefIdeal : Cert.BandRefIdeal.Facts) (hPre_finite_qk : Cert.Pre_finite_qk.Facts) (hPre_finite_input : Cert.Pre_finite_input.Facts) (hPre_finite_tokens : Cert.Pre_finite_tokens.Facts),
    quiescent_Cross (hCross := hCross)
    ∧ quiescent_CrossIdeal (hCrossIdeal := hCrossIdeal)
    ∧ quiescent_CrossIdeal_pre_finite_qk (hCrossIdeal := hCrossIdeal) (hPre_finite_qk := hPre_finite_qk)
    ∧ quiescent_CrossRefIdeal (hCrossRefIdeal := hCrossRefIdeal)
    ∧ quiescent_CrossRefIdeal_pre_finite_qk (hCrossRefIdeal := hCrossRefIdeal) (hPre_finite_qk := hPre_finite_qk)
    ∧ quiescent_Mix (hMix := hMix)
    ∧ quiescent_MixIdeal (hMixIdeal := hMixIdeal)
    ∧ quiescent_MixRefIdeal (hMixRefIdeal := hMixRefIdeal)
    ∧ quiescent_Project (hProject := hProject)
    ∧ quiescent_ProjectIdeal (hProjectIdeal := hProjectIdeal)
    ∧ quiescent_ProjectIdeal_pre_finite_input (hProjectIdeal := hProjectIdeal) (hPre_finite_input := hPre_finite_input)
    ∧ quiescent_ProjectRefIdeal (hProjectRefIdeal := hProjectRefIdeal)
    ∧ quiescent_ProjectRefIdeal_pre_finite_input (hProjectRefIdeal := hProjectRefIdeal) (hPre_finite_input := hPre_finite_input)
    ∧ quiescent_Tokens (hTokens := hTokens)
    ∧ quiescent_TokensIdeal (hTokensIdeal := hTokensIdeal)
    ∧ quiescent_TokensIdeal_pre_finite_tokens (hTokensIdeal := hTokensIdeal) (hPre_finite_tokens := hPre_finite_tokens)
    ∧ quiescent_TokensRefIdeal (hTokensRefIdeal := hTokensRefIdeal)
    ∧ quiescent_TokensRefIdeal_pre_finite_tokens (hTokensRefIdeal := hTokensRefIdeal) (hPre_finite_tokens := hPre_finite_tokens)
    ∧ quiescent_Band (hBand := hBand)
    ∧ quiescent_BandIdeal (hBandIdeal := hBandIdeal)
    ∧ quiescent_BandRefIdeal (hBandRefIdeal := hBandRefIdeal)
    ∧ preserves_Cross_CrossIdeal
    ∧ algebraic_CrossIdeal_CrossRefIdeal_pre_finite_qk (hCrossIdeal := hCrossIdeal) (hCrossRefIdeal := hCrossRefIdeal) (hPre_finite_qk := hPre_finite_qk)
    ∧ preserves_Mix_MixIdeal
    ∧ algebraic_MixIdeal_MixRefIdeal (hMixIdeal := hMixIdeal) (hMixRefIdeal := hMixRefIdeal)
    ∧ preserves_Project_ProjectIdeal
    ∧ algebraic_ProjectIdeal_ProjectRefIdeal_pre_finite_input (hProjectIdeal := hProjectIdeal) (hProjectRefIdeal := hProjectRefIdeal) (hPre_finite_input := hPre_finite_input)
    ∧ preserves_Tokens_TokensIdeal
    ∧ algebraic_TokensIdeal_TokensRefIdeal_pre_finite_tokens (hTokensIdeal := hTokensIdeal) (hTokensRefIdeal := hTokensRefIdeal) (hPre_finite_tokens := hPre_finite_tokens)
    ∧ preserves_Band_BandIdeal
    ∧ algebraic_BandIdeal_BandRefIdeal (hBandIdeal := hBandIdeal) (hBandRefIdeal := hBandRefIdeal)
-- ==== Pre_finite_input.lean ====
abbrev S65536x1024 : Shape := ⟨2, ![65536, 1024]⟩
abbrev S1024 : Shape := ⟨1, ![1024]⟩
abbrev S1024x2560 : Shape := ⟨2, ![1024, 2560]⟩
abbrev S64 : Shape := ⟨1, ![64]⟩
abbrev S_ : Shape := ⟨0, ![]⟩

class Facts : Prop where
  bcast_S_S65536x1024 : S_.BroadcastsInDim S65536x1024 (![] : Fin 0 → Fin S65536x1024.rank)
  bcast_S_S1024 : S_.BroadcastsInDim S1024 (![] : Fin 0 → Fin S1024.rank)
  bcast_S_S1024x2560 : S_.BroadcastsInDim S1024x2560 (![] : Fin 0 → Fin S1024x2560.rank)

variable [Facts]

def fn {F : FTy → Type} [FloatOps F] (main_arg0 : FVec F S65536x1024 .f32) (main_arg1 : FVec F S1024 .f32) (main_arg2 : FVec F S1024x2560 .f32) (main_arg3 : FVec F S64 .f32) (main_arg4 : FVec F S64 .f32) (main_arg5 : FVec F S64 .f32) (main_arg6 : FVec F S64 .f32) (main_arg7 : FVec F S64 .f32) : IVec S65536x1024 1 × IVec S1024 1 × IVec S1024x2560 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2560 .f32 := Host.absf main_arg2
  let main_cst_1 : FVec F S_ .f32 := constant S_ .f32 0x7F800000#32
  let main_v7 : FVec F S1024x2560 .f32 := broadcastInDim S1024x2560 ![] bcast_S_S1024x2560 main_cst_1
  let main_v8 : IVec S1024x2560 1 := cmpf .olt main_v6 main_v7
  (main_v2, main_v5, main_v8)
-- ==== Pre_finite_qk.lean ====
abbrev S16x4096x256 : Shape := ⟨3, ![16, 4096, 256]⟩
abbrev S16x256x256 : Shape := ⟨3, ![16, 256, 256]⟩
abbrev S_ : Shape := ⟨0, ![]⟩

class Facts : Prop where
  bcast_S_S16x4096x256 : S_.BroadcastsInDim S16x4096x256 (![] : Fin 0 → Fin S16x4096x256.rank)
  bcast_S_S16x256x256 : S_.BroadcastsInDim S16x256x256 (![] : Fin 0 → Fin S16x256x256.rank)

variable [Facts]

def fn {F : FTy → Type} [FloatOps F] (main_arg0 : FVec F S16x4096x256 .f32) (main_arg1 : FVec F S16x256x256 .f32) (main_arg2 : FVec F S16x256x256 .f32) : IVec S16x4096x256 1 × IVec S16x256x256 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_v3 : FVec F S16x256x256 .f32 := Host.absf main_arg1
  let main_cst_0 : FVec F S_ .f32 := constant S_ .f32 0x7F800000#32
  let main_v4 : FVec F S16x256x256 .f32 := broadcastInDim S16x256x256 ![] bcast_S_S16x256x256 main_cst_0
  let main_v5 : IVec S16x256x256 1 := cmpf .olt main_v3 main_v4
  (main_v2, main_v5)
-- ==== Pre_finite_tokens.lean ====
abbrev S16x256x1024 : Shape := ⟨3, ![16, 256, 1024]⟩
abbrev S1024 : Shape := ⟨1, ![1024]⟩
abbrev S1024x512 : Shape := ⟨2, ![1024, 512]⟩
abbrev S64 : Shape := ⟨1, ![64]⟩
abbrev S_ : Shape := ⟨0, ![]⟩

class Facts : Prop where
  bcast_S_S16x256x1024 : S_.BroadcastsInDim S16x256x1024 (![] : Fin 0 → Fin S16x256x1024.rank)
  bcast_S_S1024 : S_.BroadcastsInDim S1024 (![] : Fin 0 → Fin S1024.rank)
  bcast_S_S1024x512 : S_.BroadcastsInDim S1024x512 (![] : Fin 0 → Fin S1024x512.rank)

variable [Facts]

def fn {F : FTy → Type} [FloatOps F] (main_arg0 : FVec F S16x256x1024 .f32) (main_arg1 : FVec F S1024 .f32) (main_arg2 : FVec F S1024x512 .f32) (main_arg3 : FVec F S64 .f32) : IVec S16x256x1024 1 × IVec S1024 1 × IVec S1024x512 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x512 .f32 := Host.absf main_arg2
  let main_cst_1 : FVec F S_ .f32 := constant S_ .f32 0x7F800000#32
  let main_v7 : FVec F S1024x512 .f32 := broadcastInDim S1024x512 ![] bcast_S_S1024x512 main_cst_1
  let main_v8 : IVec S1024x512 1 := cmpf .olt main_v6 main_v7
  (main_v2, main_v5, main_v8)
-- ==== Cross.lean ====
abbrev S16x4096x256 : Shape := ⟨3, ![16, 4096, 256]⟩
abbrev S16x256x256 : Shape := ⟨3, ![16, 256, 256]⟩
abbrev S1x512x256 : Shape := ⟨3, ![1, 512, 256]⟩
abbrev S1x256x256 : Shape := ⟨3, ![1, 256, 256]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x4096x256, .f32⟩
  | .hbm, ⟨1, _⟩ => ⟨S16x256x256, .f32⟩
  | .hbm, ⟨2, _⟩ => ⟨S16x256x256, .f32⟩
  | .hbm, ⟨3, _⟩ => ⟨S16x4096x256, .f32⟩
  | .local _ .vmem, ⟨0, _⟩ => ⟨S1x512x256, .f32⟩
  | .local _ .vmem, ⟨1, _⟩ => ⟨S1x512x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x512x256, .f32⟩
  | .local _ .vmem, ⟨7, _⟩ => ⟨S1x512x256, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossRefIdeal.lean ====
abbrev S16x4096x256 : Shape := ⟨3, ![16, 4096, 256]⟩
abbrev S16x256x256 : Shape := ⟨3, ![16, 256, 256]⟩
abbrev S16x4096x4x64 : Shape := ⟨4, ![16, 4096, 4, 64]⟩
abbrev S16x4x4096x64 : Shape := ⟨4, ![16, 4, 4096, 64]⟩
abbrev S16x256x4x64 : Shape := ⟨4, ![16, 256, 4, 64]⟩
abbrev S16x4x256x64 : Shape := ⟨4, ![16, 4, 256, 64]⟩
abbrev S16x4x4096x256 : Shape := ⟨4, ![16, 4, 4096, 256]⟩
abbrev S_ : Shape := ⟨0, ![]⟩
abbrev S16x4x4096 : Shape := ⟨3, ![16, 4, 4096]⟩
abbrev S16x4x4096x1 : Shape := ⟨4, ![16, 4, 4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x256x256, .f32⟩
  | .hbm, ⟨2, _⟩ => ⟨S16x256x256, .f32⟩
  | .hbm, ⟨3, _⟩ => ⟨S16x4096x4x64, .f32⟩
  | .hbm, ⟨4, _⟩ => ⟨S16x4x4096x64, .f32⟩
  | .hbm, ⟨5, _⟩ => ⟨S16x256x4x64, .f32⟩
  | .hbm, ⟨6, _⟩ => ⟨S16x4x256x64, .f32⟩
  | .hbm, ⟨7, _⟩ => ⟨S16x256x4x64, .f32⟩
  | .hbm, ⟨8, _⟩ => ⟨S16x4x256x64, .f32⟩
  | .hbm, ⟨9, _⟩ => ⟨S16x4x4096x256, .f32⟩
  | .hbm, ⟨10, _⟩ => ⟨S_, .f32⟩
  | .hbm, ⟨11, _⟩ => ⟨S16x4x4096x256, .f32⟩
  | .hbm, ⟨12, _⟩ => ⟨S16x4x4096x256, .f32⟩
  | .hbm, ⟨13, _⟩ => ⟨S_, .f32⟩
  | .hbm, ⟨14, _⟩ => ⟨S16x4x4096, .f32⟩
  | .hbm, ⟨15, _⟩ => ⟨S_, .f32⟩
  | .hbm, ⟨16, _⟩ => ⟨S16x4x4096, .f32⟩
  | .hbm, ⟨17, _⟩ => ⟨S16x4x4096, .f32⟩
  | .hbm, ⟨18, _⟩ => ⟨S16x4x4096x1, .f32⟩
  | .hbm, ⟨19, _⟩ => ⟨S16x4x4096x256, .f32⟩
  | .hbm, ⟨20, _⟩ => ⟨S16x4x4096x256, .f32⟩
  | .hbm, ⟨21, _⟩ => ⟨S16x4x4096x256, .f32⟩
  | .hbm, ⟨22, _⟩ => ⟨S_, .f32⟩
  | .hbm, ⟨23, _⟩ => ⟨S16x4x4096, .f32⟩
  | .hbm, ⟨24, _⟩ => ⟨S16x4x4096x1, .f32⟩
  | .hbm, ⟨25, _⟩ => ⟨S16x4x4096x256, .f32⟩
  | .hbm, ⟨26, _⟩ => ⟨S16x4x4096x256, .f32⟩
  | .hbm, ⟨27, _⟩ => ⟨S16x4x4096x64, .f32⟩
  | .hbm, ⟨28, _⟩ => ⟨S16x4096x4x64, .f32⟩
  | .hbm, ⟨29, _⟩ => ⟨S16x4096x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Mix.lean ====
abbrev S65536x384 : Shape := ⟨2, ![65536, 384]⟩
abbrev S65536x256 : Shape := ⟨2, ![65536, 256]⟩
abbrev S65536x1024 : Shape := ⟨2, ![65536, 1024]⟩
abbrev S384 : Shape := ⟨1, ![384]⟩
abbrev S256 : Shape := ⟨1, ![256]⟩
abbrev S1024x1024 : Shape := ⟨2, ![1024, 1024]⟩
abbrev S1024 : Shape := ⟨1, ![1024]⟩
abbrev S1024x2048 : Shape := ⟨2, ![1024, 2048]⟩
abbrev S8x128x128 : Shape := ⟨3, ![8, 128, 128]⟩
abbrev S1x384 : Shape := ⟨2, ![1, 384]⟩
abbrev S1x256 : Shape := ⟨2, ![1, 256]⟩
abbrev S1x1024 : Shape := ⟨2, ![1, 1024]⟩
abbrev S8x128x65536 : Shape := ⟨3, ![8, 128, 65536]⟩
abbrev S512x384 : Shape := ⟨2, ![512, 384]⟩
abbrev S512x256 : Shape := ⟨2, ![512, 256]⟩
abbrev S512x1024 : Shape := ⟨2, ![512, 1024]⟩
abbrev S8x128x512 : Shape := ⟨3, ![8, 128, 512]⟩
abbrev S512 : Shape := ⟨1, ![512]⟩
abbrev S512x1 : Shape := ⟨2, ![512, 1]⟩
abbrev S384x1024 : Shape := ⟨2, ![384, 1024]⟩
abbrev S256x1024 : Shape := ⟨2, ![256, 1024]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 24
  | .vmem => 24
  | .smem => 0
  | _ => 0

abbrev bufTy : (tb : Table) → Fin (tcTables nBuf tb) → BufTy
  | .hbm, ⟨0, _⟩ => ⟨S65536x384, .f32⟩
  | .hbm, ⟨1, _⟩ => ⟨S65536x384, .f32⟩
  | .hbm, ⟨2, _⟩ => ⟨S65536x256, .f32⟩
  | .hbm, ⟨3, _⟩ => ⟨S65536x1024, .f32⟩
  | .hbm, ⟨4, _⟩ => ⟨S384, .f32⟩
  | .hbm, ⟨5, _⟩ => ⟨S384, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S8x128x128, .f32⟩
  | .hbm, ⟨11, _⟩ => ⟨S8x128x128, .f32⟩
  | .hbm, ⟨12, _⟩ => ⟨S1x384, .f32⟩
  | .hbm, ⟨13, _⟩ => ⟨S1x384, .f32⟩
  | .hbm, ⟨14, _⟩ => ⟨S1x256, .f32⟩
  | .hbm, ⟨15, _⟩ => ⟨S1024x1024, .bf16⟩
  | .hbm, ⟨16, _⟩ => ⟨S1x1024, .f32⟩
  | .hbm, ⟨17, _⟩ => ⟨S1024x2048, .bf16⟩
  | .hbm, ⟨18, _⟩ => ⟨S8x128x128, .bf16⟩
  | .hbm, ⟨19, _⟩ => ⟨S8x128x128, .bf16⟩
  | .hbm, ⟨20, _⟩ => ⟨S65536x1024, .f32⟩
  | .hbm, ⟨21, _⟩ => ⟨S65536x1024, .bf16⟩
  | .hbm, ⟨22, _⟩ => ⟨S8x128x65536, .f32⟩
  | .hbm, ⟨23, _⟩ => ⟨S8x128x65536, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x384, .f32⟩
  | .local _ .vmem, ⟨9, _⟩ => ⟨S1x384, .f32⟩
  | .local _ .vmem, ⟨10, _⟩ => ⟨S1x256, .f32⟩
  | .local _ .vmem, ⟨11, _⟩ => ⟨S1024x1024, .bf16⟩
  | .local _ .vmem, ⟨12, _⟩ => ⟨S1x1024, .f32⟩
  | .local _ .vmem, ⟨13, _⟩ => ⟨S1024x2048, .bf16⟩
  | .local _ .vmem, ⟨14, _⟩ => ⟨S8x128x128, .bf16⟩
  | .local _ .vmem, ⟨15, _⟩ => ⟨S8x128x128, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x128x512, .f32⟩
  | .local _ .vmem, ⟨21, _⟩ => ⟨S8x128x512, .f32⟩
  | .local _ .vmem, ⟨22, _⟩ => ⟨S8x128x512, .f32⟩
  | .local _ .vmem, ⟨23, _⟩ => ⟨S8x128x512, .f32⟩
  | _, _ => ⟨S65536x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixRefIdeal.lean ====
abbrev S65536x384 : Shape := ⟨2, ![65536, 384]⟩
abbrev S65536x256 : Shape := ⟨2, ![65536, 256]⟩
abbrev S65536x1024 : Shape := ⟨2, ![65536, 1024]⟩
abbrev S384 : Shape := ⟨1, ![384]⟩
abbrev S256 : Shape := ⟨1, ![256]⟩
abbrev S1024x1024 : Shape := ⟨2, ![1024, 1024]⟩
abbrev S1024 : Shape := ⟨1, ![1024]⟩
abbrev S1024x2048 : Shape := ⟨2, ![1024, 2048]⟩
abbrev S8x128x128 : Shape := ⟨3, ![8, 128, 128]⟩
abbrev S_ : Shape := ⟨0, ![]⟩
abbrev S65536 : Shape := ⟨1, ![65536]⟩
abbrev S65536x1 : Shape := ⟨2, ![65536, 1]⟩
abbrev S1x384 : Shape := ⟨2, ![1, 384]⟩
abbrev S1x256 : Shape := ⟨2, ![1, 256]⟩
abbrev S1x1024 : Shape := ⟨2, ![1, 1024]⟩
abbrev S65536x2048 : Shape := ⟨2, ![65536, 2048]⟩
abbrev S65536x8x256 : Shape := ⟨3, ![65536, 8, 256]⟩
abbrev S65536x8x128 : Shape := ⟨3, ![65536, 8, 128]⟩
abbrev S8x128x65536 : Shape := ⟨3, ![8, 128, 65536]⟩

abbrev nBuf : Space → Nat
  | .hbm => 86
  | .vmem => 0
  | .smem => 0
  | _ => 0

abbrev bufTy : (tb : Table) → Fin (tcTables nBuf tb) → BufTy
  | .hbm, ⟨0, _⟩ => ⟨S65536x384, .f32⟩
  | .hbm, ⟨1, _⟩ => ⟨S65536x384, .f32⟩
  | .hbm, ⟨2, _⟩ => ⟨S65536x256, .f32⟩
  | .hbm, ⟨3, _⟩ => ⟨S65536x1024, .f32⟩
  | .hbm, ⟨4, _⟩ => ⟨S384, .f32⟩
  | .hbm, ⟨5, _⟩ => ⟨S384, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S8x128x128, .f32⟩
  | .hbm, ⟨11, _⟩ => ⟨S8x128x128, .f32⟩
  | .hbm, ⟨12, _⟩ => ⟨S65536x384, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x384, .f32⟩
  | .hbm, ⟨24, _⟩ => ⟨S65536x384, .f32⟩
  | .hbm, ⟨25, _⟩ => ⟨S1x384, .f32⟩
  | .hbm, ⟨26, _⟩ => ⟨S65536x384, .f32⟩
  | .hbm, ⟨27, _⟩ => ⟨S65536x384, .f32⟩
  | .hbm, ⟨28, _⟩ => ⟨S65536x384, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S65536x384, .f32⟩
  | .hbm, ⟨40, _⟩ => ⟨S65536x384, .f32⟩
  | .hbm, ⟨41, _⟩ => ⟨S1x384, .f32⟩
  | .hbm, ⟨42, _⟩ => ⟨S65536x384, .f32⟩
  | .hbm, ⟨43, _⟩ => ⟨S65536x384, .f32⟩
  | .hbm, ⟨44, _⟩ => ⟨S65536x256, .f32⟩
  | .hbm, ⟨45, _⟩ => ⟨S_, .f32⟩
  | .hbm, ⟨46, _⟩ => ⟨S65536, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x256, .f32⟩
  | .hbm, ⟨56, _⟩ => ⟨S65536x256, .f32⟩
  | .hbm, ⟨57, _⟩ => ⟨S1x256, .f32⟩
  | .hbm, ⟨58, _⟩ => ⟨S65536x256, .f32⟩
  | .hbm, ⟨59, _⟩ => ⟨S65536x256, .f32⟩
  | .hbm, ⟨60, _⟩ => ⟨S65536x1024, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S_, .f32⟩
  | .hbm, ⟨65, _⟩ => ⟨S65536, .f32⟩
  | .hbm, ⟨66, _⟩ => ⟨S65536x1, .f32⟩
  | .hbm, ⟨67, _⟩ => ⟨S_, .f32⟩
  | .hbm, ⟨68, _⟩ => ⟨S65536x1, .f32⟩
  | .hbm, ⟨69, _⟩ => ⟨S65536x1, .f32⟩
  | .hbm, ⟨70, _⟩ => ⟨S_, .f32⟩
  | .hbm, ⟨71, _⟩ => ⟨S65536x1, .f32⟩
  | .hbm, ⟨72, _⟩ => ⟨S65536x1, .f32⟩
  | .hbm, ⟨73, _⟩ => ⟨S65536x1, .f32⟩
  | .hbm, ⟨74, _⟩ => ⟨S65536x1024, .f32⟩
  | .hbm, ⟨75, _⟩ => ⟨S65536x1024, .f32⟩
  | .hbm, ⟨76, _⟩ => ⟨S1x1024, .f32⟩
  | .hbm, ⟨77, _⟩ => ⟨S65536x1024, .f32⟩
  | .hbm, ⟨78, _⟩ => ⟨S65536x1024, .f32⟩
  | .hbm, ⟨79, _⟩ => ⟨S65536x2048, .f32⟩
  | .hbm, ⟨80, _⟩ => ⟨S65536x8x256, .f32⟩
  | .hbm, ⟨81, _⟩ => ⟨S65536x8x128, .f32⟩
  | .hbm, ⟨82, _⟩ => ⟨S8x128x65536, .f32⟩
  | .hbm, ⟨83, _⟩ => ⟨S65536x8x128, .f32⟩
  | .hbm, ⟨84, _⟩ => ⟨S8x128x65536, .f32⟩
  | .hbm, ⟨85, _⟩ => ⟨S65536x1024, .bf16⟩
  | _, _ => ⟨S65536x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Project.lean ====
abbrev S65536x1024 : Shape := ⟨2, ![65536, 1024]⟩
abbrev S1024 : Shape := ⟨1, ![1024]⟩
abbrev S1024x2560 : Shape := ⟨2, ![1024, 2560]⟩
abbrev S64 : Shape := ⟨1, ![64]⟩
abbrev S1x1024 : Shape := ⟨2, ![1, 1024]⟩
abbrev S1x64 : Shape := ⟨2, ![1, 64]⟩
abbrev S6x64 : Shape := ⟨2, ![6, 64]⟩
abbrev S384 : Shape := ⟨1, ![384]⟩
abbrev S1x384 : Shape := ⟨2, ![1, 384]⟩
abbrev S4x64 : Shape := ⟨2, ![4, 64]⟩
abbrev S256 : Shape := ⟨1, ![256]⟩
abbrev S1x256 : Shape := ⟨2, ![1, 256]⟩
abbrev S65536x384 : Shape := ⟨2, ![65536, 384]⟩
abbrev S65536x256 : Shape := ⟨2, ![65536, 256]⟩
abbrev S512x1024 : Shape := ⟨2, ![512, 1024]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S512x2560 : Shape := ⟨2, ![512, 2560]⟩
abbrev S384x384 : Shape := ⟨2, ![384, 384]⟩
abbrev S256x256 : Shape := ⟨2, ![256, 256]⟩

abbrev nBuf : Space → Nat
  | .hbm => 37
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1024, .f32⟩
  | .hbm, ⟨9, _⟩ => ⟨S1024x2560, .bf16⟩
  | .hbm, ⟨10, _⟩ => ⟨S1x64, .f32⟩
  | .hbm, ⟨11, _⟩ => ⟨S6x64, .f32⟩
  | .hbm, ⟨12, _⟩ => ⟨S384, .f32⟩
  | .hbm, ⟨13, _⟩ => ⟨S1x384, .f32⟩
  | .hbm, ⟨14, _⟩ => ⟨S1x64, .f32⟩
  | .hbm, ⟨15, _⟩ => ⟨S6x64, .f32⟩
  | .hbm, ⟨16, _⟩ => ⟨S384, .f32⟩
  | .hbm, ⟨17, _⟩ => ⟨S1x384, .f32⟩
  | .hbm, ⟨18, _⟩ => ⟨S1x64, .f32⟩
  | .hbm, ⟨19, _⟩ => ⟨S6x64, .f32⟩
  | .hbm, ⟨20, _⟩ => ⟨S384, .f32⟩
  | .hbm, ⟨21, _⟩ => ⟨S1x384, .f32⟩
  | .hbm, ⟨22, _⟩ => ⟨S1x64, .f32⟩
  | .hbm, ⟨23, _⟩ => ⟨S6x64, .f32⟩
  | .hbm, ⟨24, _⟩ => ⟨S384, .f32⟩
  | .hbm, ⟨25, _⟩ => ⟨S1x384, .f32⟩
  | .hbm, ⟨26, _⟩ => ⟨S1x64, .f32⟩
  | .hbm, ⟨27, _⟩ => ⟨S4x64, .f32⟩
  | .hbm, ⟨28, _⟩ => ⟨S256, .f32⟩
  | .hbm, ⟨29, _⟩ => ⟨S1x256, .f32⟩
  | .hbm, ⟨30, _⟩ => ⟨S65536x384, .f32⟩
  | .hbm, ⟨31, _⟩ => ⟨S65536x384, .f32⟩
  | .hbm, ⟨32, _⟩ => ⟨S65536x384, .f32⟩
  | .hbm, ⟨33, _⟩ => ⟨S65536x384, .f32⟩
  | .hbm, ⟨34, _⟩ => ⟨S65536x384, .f32⟩
  | .hbm, ⟨35, _⟩ => ⟨S65536x384, .f32⟩
  | .hbm, ⟨36, _⟩ => ⟨S65536x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x384, .f32⟩
  | .local _ .vmem, ⟨5, _⟩ => ⟨S1x384, .f32⟩
  | .local _ .vmem, ⟨6, _⟩ => ⟨S1x384, .f32⟩
  | .local _ .vmem, ⟨7, _⟩ => ⟨S1x384, .f32⟩
  | .local _ .vmem, ⟨8, _⟩ => ⟨S1x256, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .vmem, ⟨18, _⟩ => ⟨S512x384, .f32⟩
  | .local _ .vmem, ⟨19, _⟩ => ⟨S512x384, .f32⟩
  | .local _ .vmem, ⟨20, _⟩ => ⟨S512x384, .f32⟩
  | .local _ .vmem, ⟨21, _⟩ => ⟨S512x256, .f32⟩
  | .local _ .vmem, ⟨22, _⟩ => ⟨S512x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v22_4 : Ref sig .tc := ⟨.hbm, 34, rfl⟩
abbrev main_v22_5 : Ref sig .tc := ⟨.hbm, 35, rfl⟩
abbrev main_v22_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjectRefIdeal.lean ====
abbrev S65536x1024 : Shape := ⟨2, ![65536, 1024]⟩
abbrev S1024 : Shape := ⟨1, ![1024]⟩
abbrev S1024x2560 : Shape := ⟨2, ![1024, 2560]⟩
abbrev S64 : Shape := ⟨1, ![64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2560 : Shape := ⟨2, ![65536, 2560]⟩
abbrev S65536x384 : Shape := ⟨2, ![65536, 384]⟩
abbrev S65536x256 : Shape := ⟨2, ![65536, 256]⟩
abbrev S65536x6x64 : Shape := ⟨3, ![65536, 6, 64]⟩
abbrev S65536x6 : Shape := ⟨2, ![65536, 6]⟩
abbrev S65536x6x1 : Shape := ⟨3, ![65536, 6, 1]⟩
abbrev S1x1x64 : Shape := ⟨3, ![1, 1, 64]⟩
abbrev S65536x4x64 : Shape := ⟨3, ![65536, 4, 64]⟩
abbrev S65536x4 : Shape := ⟨2, ![65536, 4]⟩
abbrev S65536x4x1 : Shape := ⟨3, ![65536, 4, 1]⟩

abbrev nBuf : Space → Nat
  | .hbm => 122
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x2560, .f32⟩
  | .hbm, ⟨25, _⟩ => ⟨S65536x384, .f32⟩
  | .hbm, ⟨26, _⟩ => ⟨S65536x384, .f32⟩
  | .hbm, ⟨27, _⟩ => ⟨S65536x384, .f32⟩
  | .hbm, ⟨28, _⟩ => ⟨S65536x384, .f32⟩
  | .hbm, ⟨29, _⟩ => ⟨S65536x384, .f32⟩
  | .hbm, ⟨30, _⟩ => ⟨S65536x384, .f32⟩
  | .hbm, ⟨31, _⟩ => ⟨S65536x256, .f32⟩
  | .hbm, ⟨32, _⟩ => ⟨S65536x6x64, .f32⟩
  | .hbm, ⟨33, _⟩ => ⟨S65536x6x64, .f32⟩
  | .hbm, ⟨34, _⟩ => ⟨S_, .f32⟩
  | .hbm, ⟨35, _⟩ => ⟨S65536x6, .f32⟩
  | .hbm, ⟨36, _⟩ => ⟨S65536x6x1, .f32⟩
  | .hbm, ⟨37, _⟩ => ⟨S_, .f32⟩
  | .hbm, ⟨38, _⟩ => ⟨S65536x6x1, .f32⟩
  | .hbm, ⟨39, _⟩ => ⟨S65536x6x1, .f32⟩
  | .hbm, ⟨40, _⟩ => ⟨S_, .f32⟩
  | .hbm, ⟨41, _⟩ => ⟨S65536x6x1, .f32⟩
  | .hbm, ⟨42, _⟩ => ⟨S65536x6x1, .f32⟩
  | .hbm, ⟨43, _⟩ => ⟨S65536x6x1, .f32⟩
  | .hbm, ⟨44, _⟩ => ⟨S65536x6x64, .f32⟩
  | .hbm, ⟨45, _⟩ => ⟨S65536x6x64, .f32⟩
  | .hbm, ⟨46, _⟩ => ⟨S1x1x64, .f32⟩
  | .hbm, ⟨47, _⟩ => ⟨S65536x6x64, .f32⟩
  | .hbm, ⟨48, _⟩ => ⟨S65536x6x64, .f32⟩
  | .hbm, ⟨49, _⟩ => ⟨S65536x384, .f32⟩
  | .hbm, ⟨50, _⟩ => ⟨S65536x6x64, .f32⟩
  | .hbm, ⟨51, _⟩ => ⟨S65536x6x64, .f32⟩
  | .hbm, ⟨52, _⟩ => ⟨S_, .f32⟩
  | .hbm, ⟨53, _⟩ => ⟨S65536x6, .f32⟩
  | .hbm, ⟨54, _⟩ => ⟨S65536x6x1, .f32⟩
  | .hbm, ⟨55, _⟩ => ⟨S_, .f32⟩
  | .hbm, ⟨56, _⟩ => ⟨S65536x6x1, .f32⟩
  | .hbm, ⟨57, _⟩ => ⟨S65536x6x1, .f32⟩
  | .hbm, ⟨58, _⟩ => ⟨S_, .f32⟩
  | .hbm, ⟨59, _⟩ => ⟨S65536x6x1, .f32⟩
  | .hbm, ⟨60, _⟩ => ⟨S65536x6x1, .f32⟩
  | .hbm, ⟨61, _⟩ => ⟨S65536x6x1, .f32⟩
  | .hbm, ⟨62, _⟩ => ⟨S65536x6x64, .f32⟩
  | .hbm, ⟨63, _⟩ => ⟨S65536x6x64, .f32⟩
  | .hbm, ⟨64, _⟩ => ⟨S1x1x64, .f32⟩
  | .hbm, ⟨65, _⟩ => ⟨S65536x6x64, .f32⟩
  | .hbm, ⟨66, _⟩ => ⟨S65536x6x64, .f32⟩
  | .hbm, ⟨67, _⟩ => ⟨S65536x384, .f32⟩
  | .hbm, ⟨68, _⟩ => ⟨S65536x6x64, .f32⟩
  | .hbm, ⟨69, _⟩ => ⟨S65536x6x64, .f32⟩
  | .hbm, ⟨70, _⟩ => ⟨S_, .f32⟩
  | .hbm, ⟨71, _⟩ => ⟨S65536x6, .f32⟩
  | .hbm, ⟨72, _⟩ => ⟨S65536x6x1, .f32⟩
  | .hbm, ⟨73, _⟩ => ⟨S_, .f32⟩
  | .hbm, ⟨74, _⟩ => ⟨S65536x6x1, .f32⟩
  | .hbm, ⟨75, _⟩ => ⟨S65536x6x1, .f32⟩
  | .hbm, ⟨76, _⟩ => ⟨S_, .f32⟩
  | .hbm, ⟨77, _⟩ => ⟨S65536x6x1, .f32⟩
  | .hbm, ⟨78, _⟩ => ⟨S65536x6x1, .f32⟩
  | .hbm, ⟨79, _⟩ => ⟨S65536x6x1, .f32⟩
  | .hbm, ⟨80, _⟩ => ⟨S65536x6x64, .f32⟩
  | .hbm, ⟨81, _⟩ => ⟨S65536x6x64, .f32⟩
  | .hbm, ⟨82, _⟩ => ⟨S1x1x64, .f32⟩
  | .hbm, ⟨83, _⟩ => ⟨S65536x6x64, .f32⟩
  | .hbm, ⟨84, _⟩ => ⟨S65536x6x64, .f32⟩
  | .hbm, ⟨85, _⟩ => ⟨S65536x384, .f32⟩
  | .hbm, ⟨86, _⟩ => ⟨S65536x6x64, .f32⟩
  | .hbm, ⟨87, _⟩ => ⟨S65536x6x64, .f32⟩
  | .hbm, ⟨88, _⟩ => ⟨S_, .f32⟩
  | .hbm, ⟨89, _⟩ => ⟨S65536x6, .f32⟩
  | .hbm, ⟨90, _⟩ => ⟨S65536x6x1, .f32⟩
  | .hbm, ⟨91, _⟩ => ⟨S_, .f32⟩
  | .hbm, ⟨92, _⟩ => ⟨S65536x6x1, .f32⟩
  | .hbm, ⟨93, _⟩ => ⟨S65536x6x1, .f32⟩
  | .hbm, ⟨94, _⟩ => ⟨S_, .f32⟩
  | .hbm, ⟨95, _⟩ => ⟨S65536x6x1, .f32⟩
  | .hbm, ⟨96, _⟩ => ⟨S65536x6x1, .f32⟩
  | .hbm, ⟨97, _⟩ => ⟨S65536x6x1, .f32⟩
  | .hbm, ⟨98, _⟩ => ⟨S65536x6x64, .f32⟩
  | .hbm, ⟨99, _⟩ => ⟨S65536x6x64, .f32⟩
  | .hbm, ⟨100, _⟩ => ⟨S1x1x64, .f32⟩
  | .hbm, ⟨101, _⟩ => ⟨S65536x6x64, .f32⟩
  | .hbm, ⟨102, _⟩ => ⟨S65536x6x64, .f32⟩
  | .hbm, ⟨103, _⟩ => ⟨S65536x384, .f32⟩
  | .hbm, ⟨104, _⟩ => ⟨S65536x4x64, .f32⟩
  | .hbm, ⟨105, _⟩ => ⟨S65536x4x64, .f32⟩
  | .hbm, ⟨106, _⟩ => ⟨S_, .f32⟩
  | .hbm, ⟨107, _⟩ => ⟨S65536x4, .f32⟩
  | .hbm, ⟨108, _⟩ => ⟨S65536x4x1, .f32⟩
  | .hbm, ⟨109, _⟩ => ⟨S_, .f32⟩
  | .hbm, ⟨110, _⟩ => ⟨S65536x4x1, .f32⟩
  | .hbm, ⟨111, _⟩ => ⟨S65536x4x1, .f32⟩
  | .hbm, ⟨112, _⟩ => ⟨S_, .f32⟩
  | .hbm, ⟨113, _⟩ => ⟨S65536x4x1, .f32⟩
  | .hbm, ⟨114, _⟩ => ⟨S65536x4x1, .f32⟩
  | .hbm, ⟨115, _⟩ => ⟨S65536x4x1, .f32⟩
  | .hbm, ⟨116, _⟩ => ⟨S65536x4x64, .f32⟩
  | .hbm, ⟨117, _⟩ => ⟨S65536x4x64, .f32⟩
  | .hbm, ⟨118, _⟩ => ⟨S1x1x64, .f32⟩
  | .hbm, ⟨119, _⟩ => ⟨S65536x4x64, .f32⟩
  | .hbm, ⟨120, _⟩ => ⟨S65536x4x64, .f32⟩
  | .hbm, ⟨121, _⟩ => ⟨S65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_14 : Ref sig .tc := ⟨.hbm, 106, rfl⟩
abbrev main_v83 : Ref sig .tc := ⟨.hbm, 107, rfl⟩
abbrev main_v84 : Ref sig .tc := ⟨.hbm, 108, rfl⟩
abbrev main_cst_15 : Ref sig .tc := ⟨.hbm, 109, rfl⟩
abbrev main_v85 : Ref sig .tc := ⟨.hbm, 110, rfl⟩
abbrev main_v86 : Ref sig .tc := ⟨.hbm, 111, rfl⟩
abbrev main_cst_16 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩

abbrev nD : Nat := 1
abbrev τ : Topo := Topo.v7x

variable {F : FTy → Type} [FloatOps F]
-- ==== Tokens.lean ====
abbrev S16x256x1024 : Shape := ⟨3, ![16, 256, 1024]⟩
abbrev S1024 : Shape := ⟨1, ![1024]⟩
abbrev S1024x512 : Shape := ⟨2, ![1024, 512]⟩
abbrev S64 : Shape := ⟨1, ![64]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S16x256x256 : Shape := ⟨3, ![16, 256, 256]⟩
abbrev S1x256x1024 : Shape := ⟨3, ![1, 256, 1024]⟩
abbrev S1x256x256 : Shape := ⟨3, ![1, 256, 256]⟩
abbrev S256x1024 : Shape := ⟨2, ![256, 1024]⟩
abbrev S256x1 : Shape := ⟨2, ![256, 1]⟩
abbrev S256x512 : Shape := ⟨2, ![256, 512]⟩
abbrev S256x256 : Shape := ⟨2, ![256, 256]⟩

abbrev nBuf : Space → Nat
  | .hbm => 12
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x512, .f32⟩
  | .hbm, ⟨3, _⟩ => ⟨S64, .f32⟩
  | .hbm, ⟨4, _⟩ => ⟨S1x1024, .f32⟩
  | .hbm, ⟨5, _⟩ => ⟨S1024x512, .bf16⟩
  | .hbm, ⟨6, _⟩ => ⟨S1x64, .f32⟩
  | .hbm, ⟨7, _⟩ => ⟨S4x64, .f32⟩
  | .hbm, ⟨8, _⟩ => ⟨S256, .f32⟩
  | .hbm, ⟨9, _⟩ => ⟨S1x256, .f32⟩
  | .hbm, ⟨10, _⟩ => ⟨S16x256x256, .f32⟩
  | .hbm, ⟨11, _⟩ => ⟨S16x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TokensRefIdeal.lean ====
abbrev S16x256x1024 : Shape := ⟨3, ![16, 256, 1024]⟩
abbrev S1024 : Shape := ⟨1, ![1024]⟩
abbrev S1024x512 : Shape := ⟨2, ![1024, 512]⟩
abbrev S64 : Shape := ⟨1, ![64]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x512 : Shape := ⟨3, ![16, 256, 512]⟩
abbrev S16x256x256 : Shape := ⟨3, ![16, 256, 256]⟩
abbrev S16x256x4x64 : Shape := ⟨4, ![16, 256, 4, 64]⟩
abbrev S16x4x256x64 : Shape := ⟨4, ![16, 4, 256, 64]⟩
abbrev S16x4x256 : Shape := ⟨3, ![16, 4, 256]⟩
abbrev S16x4x256x1 : Shape := ⟨4, ![16, 4, 256, 1]⟩
abbrev S1x1x1x64 : Shape := ⟨4, ![1, 1, 1, 64]⟩

abbrev nBuf : Space → Nat
  | .hbm => 43
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x512, .f32⟩
  | .hbm, ⟨3, _⟩ => ⟨S64, .f32⟩
  | .hbm, ⟨4, _⟩ => ⟨S16x256x1024, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x1024, .f32⟩
  | .hbm, ⟨16, _⟩ => ⟨S16x256x1024, .f32⟩
  | .hbm, ⟨17, _⟩ => ⟨S1x1x1024, .f32⟩
  | .hbm, ⟨18, _⟩ => ⟨S16x256x1024, .f32⟩
  | .hbm, ⟨19, _⟩ => ⟨S16x256x1024, .f32⟩
  | .hbm, ⟨20, _⟩ => ⟨S16x256x512, .f32⟩
  | .hbm, ⟨21, _⟩ => ⟨S16x256x256, .f32⟩
  | .hbm, ⟨22, _⟩ => ⟨S16x256x256, .f32⟩
  | .hbm, ⟨23, _⟩ => ⟨S16x256x4x64, .f32⟩
  | .hbm, ⟨24, _⟩ => ⟨S16x4x256x64, .f32⟩
  | .hbm, ⟨25, _⟩ => ⟨S16x4x256x64, .f32⟩
  | .hbm, ⟨26, _⟩ => ⟨S_, .f32⟩
  | .hbm, ⟨27, _⟩ => ⟨S16x4x256, .f32⟩
  | .hbm, ⟨28, _⟩ => ⟨S16x4x256x1, .f32⟩
  | .hbm, ⟨29, _⟩ => ⟨S_, .f32⟩
  | .hbm, ⟨30, _⟩ => ⟨S16x4x256x1, .f32⟩
  | .hbm, ⟨31, _⟩ => ⟨S16x4x256x1, .f32⟩
  | .hbm, ⟨32, _⟩ => ⟨S_, .f32⟩
  | .hbm, ⟨33, _⟩ => ⟨S16x4x256x1, .f32⟩
  | .hbm, ⟨34, _⟩ => ⟨S16x4x256x1, .f32⟩
  | .hbm, ⟨35, _⟩ => ⟨S16x4x256x1, .f32⟩
  | .hbm, ⟨36, _⟩ => ⟨S16x4x256x64, .f32⟩
  | .hbm, ⟨37, _⟩ => ⟨S16x4x256x64, .f32⟩
  | .hbm, ⟨38, _⟩ => ⟨S1x1x1x64, .f32⟩
  | .hbm, ⟨39, _⟩ => ⟨S16x4x256x64, .f32⟩
  | .hbm, ⟨40, _⟩ => ⟨S16x4x256x64, .f32⟩
  | .hbm, ⟨41, _⟩ => ⟨S16x256x4x64, .f32⟩
  | .hbm, ⟨42, _⟩ => ⟨S16x256x256, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Band.lean ====
abbrev S16x4096x384 : Shape := ⟨3, ![16, 4096, 384]⟩
abbrev S6 : Shape := ⟨1, ![6]⟩
abbrev S3x2x1x1 : Shape := ⟨4, ![3, 2, 1, 1]⟩
abbrev S3x2x1x256 : Shape := ⟨4, ![3, 2, 1, 256]⟩
abbrev S1x4096x128 : Shape := ⟨3, ![1, 4096, 128]⟩
abbrev S1x2x1x256 : Shape := ⟨4, ![1, 2, 1, 256]⟩
abbrev S6144x128 : Shape := ⟨2, ![6144, 128]⟩
abbrev S4096x128 : Shape := ⟨2, ![4096, 128]⟩
abbrev S2x2x128x256 : Shape := ⟨4, ![2, 2, 128, 256]⟩
abbrev S2048x128 : Shape := ⟨2, ![2048, 128]⟩
abbrev S128x128 : Shape := ⟨2, ![128, 128]⟩
abbrev S128x256 : Shape := ⟨2, ![128, 256]⟩
abbrev S1x1x1x256 : Shape := ⟨4, ![1, 1, 1, 256]⟩
abbrev S1x256 : Shape := ⟨2, ![1, 256]⟩
abbrev S1x1x128x256 : Shape := ⟨4, ![1, 1, 128, 256]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩
abbrev S1x256x128 : Shape := ⟨3, ![1, 256, 128]⟩

abbrev nBuf : Space → Nat
  | .hbm => 8
  | .vmem => 19
  | .smem => 0
  | _ => 0

abbrev bufTy : (tb : Table) → Fin (tcTables nBuf tb) → BufTy
  | .hbm, ⟨0, _⟩ => ⟨S16x4096x384, .f32⟩
  | .hbm, ⟨1, _⟩ => ⟨S16x4096x384, .f32⟩
  | .hbm, ⟨2, _⟩ => ⟨S16x4096x384, .f32⟩
  | .hbm, ⟨3, _⟩ => ⟨S6, .f32⟩
  | .hbm, ⟨4, _⟩ => ⟨S6, .f32⟩
  | .hbm, ⟨5, _⟩ => ⟨S3x2x1x1, .f32⟩
  | .hbm, ⟨6, _⟩ => ⟨S3x2x1x256, .f32⟩
  | .hbm, ⟨7, _⟩ => ⟨S16x4096x384, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x2x1x256, .f32⟩
  | .local _ .vmem, ⟨7, _⟩ => ⟨S1x2x1x256, .f32⟩
  | .local _ .vmem, ⟨8, _⟩ => ⟨S1x4096x128, .f32⟩
  | .local _ .vmem, ⟨9, _⟩ => ⟨S1x4096x128, .f32⟩
  | .local _ .vmem, ⟨10, _⟩ => ⟨S6144x128, .f32⟩
  | .local _ .vmem, ⟨11, _⟩ => ⟨S6144x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S2x2x128x256, .f32⟩
  | _, _ => ⟨S16x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

@[reducible] def k0_t1_loop : Scf.Loop 32 :=
  let c0_i32_42 : BitVec 32 := 0#32
  let c32_i32 : BitVec 32 := 32#32
  let v67 : BitVec 32 := Scalar.addi c0_i32_42 c32_i32
  let c1_i32_43 : BitVec 32 := 1#32
  ⟨c0_i32_42, v67, c1_i32_43⟩
def k0_off1 (k0_t1 : Fin k0_t1_loop.trips) : Fin 3 → Nat :=
  let c0_124 : Index := 0#32
  let c0_i32_42 : BitVec 32 := 0#32
  let c1_i32_43 : BitVec 32 := 1#32
  let arg16 : BitVec 32 := Scf.iv c0_i32_42 c1_i32_43 k0_t1
  let c5_i32 : BitVec 32 := 5#32
  let v156 : BitVec 32 := Scalar.shrui arg16 c5_i32
  let c128_i32_121 : BitVec 32 := 128#32
  let c31_i32 : BitVec 32 := 31#32
  let v155 : BitVec 32 := Scalar.andi arg16 c31_i32
  let v157 : BitVec 32 := Scalar.muli c128_i32_121 v155
  let v158 : BitVec 32 := Scalar.addi v156 v157
  let v163 : Index := Scalar.indexCast v158
  let c0_125 : Index := 0#32
  ![0, v163.toNat, 0]
def k0_off2 (k0_t1 : Fin k0_t1_loop.trips) : Fin 2 → Nat :=
  let c2048_i32 : BitVec 32 := 2048#32
  let c0_i32_42 : BitVec 32 := 0#32
  let c1_i32_43 : BitVec 32 := 1#32
  let arg16 : BitVec 32 := Scf.iv c0_i32_42 c1_i32_43 k0_t1
  let c5_i32 : BitVec 32 := 5#32
  let v156 : BitVec 32 := Scalar.shrui arg16 c5_i32
  let v159 : BitVec 32 := Scalar.addi c2048_i32 v156
  let c128_i32_123 : BitVec 32 := 128#32
  let c31_i32 : BitVec 32 := 31#32
  let v155 : BitVec 32 := Scalar.andi arg16 c31_i32
  let c1_i32_122 : BitVec 32 := 1#32
  let v160 : BitVec 32 := Scalar.subi v155 c1_i32_122
  let v161 : BitVec 32 := Scalar.muli c128_i32_123 v160
  let v162 : BitVec 32 := Scalar.addi v159 v161
  let v168 : Index := Scalar.indexCast v162
  let c0_127 : Index := 0#32
  ![v168.toNat, 0]
def k0_off3 (k0_t1 : Fin k0_t1_loop.trips) : Fin 4 → Nat :=
  let c0_132 : Index := 0#32
  let c0_i32_42 : BitVec 32 := 0#32
  let c1_i32_43 : BitVec 32 := 1#32
  let arg16 : BitVec 32 := Scf.iv c0_i32_42 c1_i32_43 k0_t1
  let c31_i32 : BitVec 32 := 31#32
  let v155 : BitVec 32 := Scalar.andi arg16 c31_i32
  let c1_i32_129 : BitVec 32 := 1#32
  let v174 : BitVec 32 := Scalar.minsi v155 c1_i32_129
  let v179 : Index := Scalar.indexCast v174
  let c0_133 : Index := 0#32
  let c0_134 : Index := 0#32
  ![0, v179.toNat, 0, 0]
def k0_off4 (k0_t1 : Fin k0_t1_loop.trips) : Fin 4 → Nat :=
  let c1_141 : Index := 1#32
  let c0_i32_42 : BitVec 32 := 0#32
  let c1_i32_43 : BitVec 32 := 1#32
  let arg16 : BitVec 32 := Scf.iv c0_i32_42 c1_i32_43 k0_t1
  let c31_i32 : BitVec 32 := 31#32
  let v155 : BitVec 32 := Scalar.andi arg16 c31_i32
  let c1_i32_129 : BitVec 32 := 1#32
  let v174 : BitVec 32 := Scalar.minsi v155 c1_i32_129
  let v203 : Index := Scalar.indexCast v174
  let c0_142 : Index := 0#32
  let c0_143 : Index := 0#32
  ![1, v203.toNat, 0, 0]
def k0_off5 (k0_t1 : Fin k0_t1_loop.trips) : Fin 2 → Nat :=
  let c0_i32_42 : BitVec 32 := 0#32
  let c1_i32_43 : BitVec 32 := 1#32
  let arg16 : BitVec 32 := Scf.iv c0_i32_42 c1_i32_43 k0_t1
  let c5_i32 : BitVec 32 := 5#32
  let v156 : BitVec 32 := Scalar.shrui arg16 c5_i32
  let c128_i32_121 : BitVec 32 := 128#32
  let c31_i32 : BitVec 32 := 31#32
  let v155 : BitVec 32 := Scalar.andi arg16 c31_i32
  let v157 : BitVec 32 := Scalar.muli c128_i32_121 v155
  let v158 : BitVec 32 := Scalar.addi v156 v157
  let v223 : Index := Scalar.indexCast v158
  let c0_147 : Index := 0#32
  ![v223.toNat, 0]
@[reducible] def k0_t2_loop : Scf.Loop 32 :=
  let c0_i32_77 : BitVec 32 := 0#32
  let c32_i32_78 : BitVec 32 := 32#32
  let v110 : BitVec 32 := Scalar.addi c0_i32_77 c32_i32_78
  let c1_i32_79 : BitVec 32 := 1#32
  ⟨c0_i32_77, v110, c1_i32_79⟩
def k0_off6 (k0_t2 : Fin k0_t2_loop.trips) : Fin 3 → Nat :=
  let c0_123 : Index := 0#32
  let c0_i32_77 : BitVec 32 := 0#32
  let c1_i32_79 : BitVec 32 := 1#32
  let arg16 : BitVec 32 := Scf.iv c0_i32_77 c1_i32_79 k0_t2
  let c3_i32 : BitVec 32 := 3#32
  let v156 : BitVec 32 := Scalar.shrui arg16 c3_i32
  let c512_i32 : BitVec 32 := 512#32
  let c7_i32 : BitVec 32 := 7#32
  let v155 : BitVec 32 := Scalar.andi arg16 c7_i32
  let v157 : BitVec 32 := Scalar.muli c512_i32 v155
  let v158 : BitVec 32 := Scalar.addi v156 v157
  let v163 : Index := Scalar.indexCast v158
  let c0_124 : Index := 0#32
  ![0, v163.toNat, 0]
def k0_off7 (k0_t2 : Fin k0_t2_loop.trips) : Fin 2 → Nat :=
  let c2048_i32 : BitVec 32 := 2048#32
  let c0_i32_77 : BitVec 32 := 0#32
  let c1_i32_79 : BitVec 32 := 1#32
  let arg16 : BitVec 32 := Scf.iv c0_i32_77 c1_i32_79 k0_t2
  let c3_i32 : BitVec 32 := 3#32
  let v156 : BitVec 32 := Scalar.shrui arg16 c3_i32
  let v159 : BitVec 32 := Scalar.addi c2048_i32 v156
  let c512_i32_122 : BitVec 32 := 512#32
  let c7_i32 : BitVec 32 := 7#32
  let v155 : BitVec 32 := Scalar.andi arg16 c7_i32
  let c1_i32_121 : BitVec 32 := 1#32
  let v160 : BitVec 32 := Scalar.subi v155 c1_i32_121
  let v161 : BitVec 32 := Scalar.muli c512_i32_122 v160
  let v162 : BitVec 32 := Scalar.addi v159 v161
  let v168 : Index := Scalar.indexCast v162
  let c0_126 : Index := 0#32
  ![v168.toNat, 0]
def k0_off8 (k0_t2 : Fin k0_t2_loop.trips) : Fin 4 → Nat :=
  let c0_131 : Index := 0#32
  let c0_i32_77 : BitVec 32 := 0#32
  let c1_i32_79 : BitVec 32 := 1#32
  let arg16 : BitVec 32 := Scf.iv c0_i32_77 c1_i32_79 k0_t2
  let c7_i32 : BitVec 32 := 7#32
  let v155 : BitVec 32 := Scalar.andi arg16 c7_i32
  let c1_i32_128 : BitVec 32 := 1#32
  let v174 : BitVec 32 := Scalar.minsi v155 c1_i32_128
  let v179 : Index := Scalar.indexCast v174
  let c0_132 : Index := 0#32
  let c0_133 : Index := 0#32
  ![0, v179.toNat, 0, 0]
def k0_off9 (k0_t2 : Fin k0_t2_loop.trips) : Fin 4 → Nat :=
  let c1_140 : Index := 1#32
  let c0_i32_77 : BitVec 32 := 0#32
  let c1_i32_79 : BitVec 32 := 1#32
  let arg16 : BitVec 32 := Scf.iv c0_i32_77 c1_i32_79 k0_t2
  let c7_i32 : BitVec 32 := 7#32
  let v155 : BitVec 32 := Scalar.andi arg16 c7_i32
  let c1_i32_128 : BitVec 32 := 1#32
  let v174 : BitVec 32 := Scalar.minsi v155 c1_i32_128
  let v203 : Index := Scalar.indexCast v174
  let c0_141 : Index := 0#32
  let c0_142 : Index := 0#32
  ![1, v203.toNat, 0, 0]
def k0_off10 (k0_t2 : Fin k0_t2_loop.trips) : Fin 2 → Nat :=
  let c0_i32_77 : BitVec 32 := 0#32
  let c1_i32_79 : BitVec 32 := 1#32
  let arg16 : BitVec 32 := Scf.iv c0_i32_77 c1_i32_79 k0_t2
  let c3_i32 : BitVec 32 := 3#32
  let v156 : BitVec 32 := Scalar.shrui arg16 c3_i32
  let c512_i32 : BitVec 32 := 512#32
  let c7_i32 : BitVec 32 := 7#32
  let v155 : BitVec 32 := Scalar.andi arg16 c7_i32
  let v157 : BitVec 32 := Scalar.muli c512_i32 v155
  let v158 : BitVec 32 := Scalar.addi v156 v157
  let v223 : Index := Scalar.indexCast v158
  let c0_146 : Index := 0#32
  ![v223.toNat, 0]
@[reducible] def k0_t3_loop : Scf.Loop 32 :=
  let c0_i32_113 : BitVec 32 := 0#32
  let c32_i32_114 : BitVec 32 := 32#32
  let v153 : BitVec 32 := Scalar.addi c0_i32_113 c32_i32_114
  let c1_i32_115 : BitVec 32 := 1#32
  ⟨c0_i32_113, v153, c1_i32_115⟩
def k0_off11 (k0_t3 : Fin k0_t3_loop.trips) : Fin 3 → Nat :=
  let c0_126 : Index := 0#32
  let c0_i32_113 : BitVec 32 := 0#32
  let c1_i32_115 : BitVec 32 := 1#32
  let arg16 : BitVec 32 := Scf.iv c0_i32_113 c1_i32_115 k0_t3
  let c1_i32_122 : BitVec 32 := 1#32
  let v156 : BitVec 32 := Scalar.shrui arg16 c1_i32_122
  let c2048_i32 : BitVec 32 := 2048#32
  let c1_i32_121 : BitVec 32 := 1#32
  let v155 : BitVec 32 := Scalar.andi arg16 c1_i32_121
  let v157 : BitVec 32 := Scalar.muli c2048_i32 v155
  let v158 : BitVec 32 := Scalar.addi v156 v157
  let v163 : Index := Scalar.indexCast v158
  let c0_127 : Index := 0#32
  ![0, v163.toNat, 0]
def k0_off12 (k0_t3 : Fin k0_t3_loop.trips) : Fin 2 → Nat :=
  let c2048_i32_123 : BitVec 32 := 2048#32
  let c0_i32_113 : BitVec 32 := 0#32
  let c1_i32_115 : BitVec 32 := 1#32
  let arg16 : BitVec 32 := Scf.iv c0_i32_113 c1_i32_115 k0_t3
  let c1_i32_122 : BitVec 32 := 1#32
  let v156 : BitVec 32 := Scalar.shrui arg16 c1_i32_122
  let v159 : BitVec 32 := Scalar.addi c2048_i32_123 v156
  let c2048_i32_125 : BitVec 32 := 2048#32
  let c1_i32_121 : BitVec 32 := 1#32
  let v155 : BitVec 32 := Scalar.andi arg16 c1_i32_121
  let c1_i32_124 : BitVec 32 := 1#32
  let v160 : BitVec 32 := Scalar.subi v155 c1_i32_124
  let v161 : BitVec 32 := Scalar.muli c2048_i32_125 v160
  let v162 : BitVec 32 := Scalar.addi v159 v161
  let v168 : Index := Scalar.indexCast v162
  let c0_129 : Index := 0#32
  ![v168.toNat, 0]
def k0_off13 (k0_t3 : Fin k0_t3_loop.trips) : Fin 4 → Nat :=
  let c0_134 : Index := 0#32
  let c0_i32_113 : BitVec 32 := 0#32
  let c1_i32_115 : BitVec 32 := 1#32
  let arg16 : BitVec 32 := Scf.iv c0_i32_113 c1_i32_115 k0_t3
  let c1_i32_121 : BitVec 32 := 1#32
  let v155 : BitVec 32 := Scalar.andi arg16 c1_i32_121
  let c1_i32_131 : BitVec 32 := 1#32
  let v174 : BitVec 32 := Scalar.minsi v155 c1_i32_131
  let v179 : Index := Scalar.indexCast v174
  let c0_135 : Index := 0#32
  let c0_136 : Index := 0#32
  ![0, v179.toNat, 0, 0]
def k0_off14 (k0_t3 : Fin k0_t3_loop.trips) : Fin 4 → Nat :=
  let c1_143 : Index := 1#32
  let c0_i32_113 : BitVec 32 := 0#32
  let c1_i32_115 : BitVec 32 := 1#32
  let arg16 : BitVec 32 := Scf.iv c0_i32_113 c1_i32_115 k0_t3
  let c1_i32_121 : BitVec 32 := 1#32
  let v155 : BitVec 32 := Scalar.andi arg16 c1_i32_121
  let c1_i32_131 : BitVec 32 := 1#32
  let v174 : BitVec 32 := Scalar.minsi v155 c1_i32_131
  let v203 : Index := Scalar.indexCast v174
  let c0_144 : Index := 0#32
  let c0_145 : Index := 0#32
  ![1, v203.toNat, 0, 0]
def k0_off15 (k0_t3 : Fin k0_t3_loop.trips) : Fin 2 → Nat :=
  let c0_i32_113 : BitVec 32 := 0#32
  let c1_i32_115 : BitVec 32 := 1#32
  let arg16 : BitVec 32 := Scf.iv c0_i32_113 c1_i32_115 k0_t3
  let c1_i32_122 : BitVec 32 := 1#32
  let v156 : BitVec 32 := Scalar.shrui arg16 c1_i32_122
  let c2048_i32 : BitVec 32 := 2048#32
  let c1_i32_121 : BitVec 32 := 1#32
  let v155 : BitVec 32 := Scalar.andi arg16 c1_i32_121
  let v157 : BitVec 32 := Scalar.muli c2048_i32 v155
  let v158 : BitVec 32 := Scalar.addi v156 v157
  let v223 : Index := Scalar.indexCast v158
  let c0_149 : Index := 0#32
  ![v223.toNat, 0]
@[reducible] def k0_t4_loop : Scf.Loop 32 :=
  let c0_i32_117 : BitVec 32 := 0#32
  let c16_i32_118 : BitVec 32 := 16#32
  let v154 : BitVec 32 := Scalar.addi c0_i32_117 c16_i32_118
  let c1_i32_119 : BitVec 32 := 1#32
  ⟨c0_i32_117, v154, c1_i32_119⟩
def k0_mult1 (k0_t4 : Fin k0_t4_loop.trips) : BitVec 32 :=
  let c0_i32_117 : BitVec 32 := 0#32
  let c1_i32_119 : BitVec 32 := 1#32
  let arg16 : BitVec 32 := Scf.iv c0_i32_117 c1_i32_119 k0_t4
  let c256_i32 : BitVec 32 := 256#32
  let v155 : BitVec 32 := Scalar.muli arg16 c256_i32
  v155
def k0_off16 (k0_t4 : Fin k0_t4_loop.trips) : Fin 2 → Nat :=
  let c0_i32_117 : BitVec 32 := 0#32
  let c1_i32_119 : BitVec 32 := 1#32
  let arg16 : BitVec 32 := Scf.iv c0_i32_117 c1_i32_119 k0_t4
  let c256_i32 : BitVec 32 := 256#32
  let v155 : BitVec 32 := Scalar.muli arg16 c256_i32
  let v156 : BitVec 32 := v155
  let v157 : Index := Scalar.indexCast v156
  let c0_121 : Index := 0#32
  ![v157.toNat, 0]
def k0_off17 (k0_t4 : Fin k0_t4_loop.trips) : Fin 3 → Nat :=
  let c0_127 : Index := 0#32
  let c0_i32_117 : BitVec 32 := 0#32
  let c1_i32_119 : BitVec 32 := 1#32
  let arg16 : BitVec 32 := Scf.iv c0_i32_117 c1_i32_119 k0_t4
  let c256_i32 : BitVec 32 := 256#32
  let v155 : BitVec 32 := Scalar.muli arg16 c256_i32
  let v156 : BitVec 32 := v155
  let v187 : Index := Scalar.indexCast v156
  let c0_128 : Index := 0#32
  ![0, v187.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BandIdeal.lean ====
variable {F : FTy → Type} [FloatOps F] [Named F]
def κ : String → Option EReal := fun
  | "mask" => some ⊥
  | _ => none
-- ==== BandRefIdeal.lean ====
abbrev S16x4096x384 : Shape := ⟨3, ![16, 4096, 384]⟩
abbrev S6 : Shape := ⟨1, ![6]⟩
abbrev S16x4096x6x64 : Shape := ⟨4, ![16, 4096, 6, 64]⟩
abbrev S16x6x4096x64 : Shape := ⟨4, ![16, 6, 4096, 64]⟩
abbrev S16x6x4096x4096 : Shape := ⟨4, ![16, 6, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S6x1x1 : Shape := ⟨3, ![6, 1, 1]⟩
abbrev S1x4096x4096 : Shape := ⟨3, ![1, 4096, 4096]⟩
abbrev S6x4096x4096 : Shape := ⟨3, ![6, 4096, 4096]⟩
abbrev S1x6x4096x4096 : Shape := ⟨4, ![1, 6, 4096, 4096]⟩
abbrev S16x6x4096 : Shape := ⟨3, ![16, 6, 4096]⟩
abbrev S16x6x4096x1 : Shape := ⟨4, ![16, 6, 4096, 1]⟩
abbrev S1x16x6x4096 : Shape := ⟨4, ![1, 16, 6, 4096]⟩
abbrev S3x16x6x4096 : Shape := ⟨4, ![3, 16, 6, 4096]⟩
abbrev S1x16x6x4096x64 : Shape := ⟨5, ![1, 16, 6, 4096, 64]⟩
abbrev S3x16x6x4096x64 : Shape := ⟨5, ![3, 16, 6, 4096, 64]⟩

abbrev nBuf : Space → Nat
  | .hbm => 200
  | .vmem => 0
  | .smem => 0
  | _ => 0

abbrev hbmTy0_0 (i : Nat) : BufTy := match i % 128 with
  | 0 => ⟨S16x4096x384, .f32⟩
  | 1 => ⟨S16x4096x384, .f32⟩
  | 2 => ⟨S16x4096x384, .f32⟩
  | 3 => ⟨S6, .f32⟩
  | 4 => ⟨S16x4096x6x64, .f32⟩
  | 5 => ⟨S16x6x4096x64, .f32⟩
  | 6 => ⟨S16x4096x6x64, .f32⟩
  | 7 => ⟨S16x6x4096x64, .f32⟩
  | 8 => ⟨S16x4096x6x64, .f32⟩
  | 9 => ⟨S16x6x4096x64, .f32⟩
  | 10 => ⟨S16x6x4096x4096, .f32⟩
  | 11 => ⟨S_, .f32⟩
  | 12 => ⟨S16x6x4096x4096, .f32⟩
  | 13 => ⟨S16x6x4096x4096, .f32⟩
  | 14 => ⟨S4096, .i32⟩
  | 15 => ⟨S4096x1, .i32⟩
  | 16 => ⟨S1x4096, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i1⟩
  | 23 => ⟨S_, .i32⟩
  | 24 => ⟨S4096x4096, .i32⟩
  | 25 => ⟨S4096x4096, .i1⟩
  | 26 => ⟨S4096x4096, .i1⟩
  | 27 => ⟨S_, .i32⟩
  | 28 => ⟨S4096x4096, .i32⟩
  | 29 => ⟨S4096x4096, .i32⟩
  | 30 => ⟨S_, .i32⟩
  | 31 => ⟨S4096x4096, .i32⟩
  | 32 => ⟨S4096x4096, .i1⟩
  | 33 => ⟨S4096x4096, .i1⟩
  | 34 => ⟨S6x1x1, .f32⟩
  | 35 => ⟨S6x1x1, .f32⟩
  | 36 => ⟨S4096x4096, .f32⟩
  | 37 => ⟨S1x4096x4096, .f32⟩
  | 38 => ⟨S6x4096x4096, .f32⟩
  | 39 => ⟨S6x4096x4096, .f32⟩
  | 40 => ⟨S6x4096x4096, .f32⟩
  | 41 => ⟨S1x6x4096x4096, .f32⟩
  | 42 => ⟨S16x6x4096x4096, .f32⟩
  | 43 => ⟨S16x6x4096x4096, .f32⟩
  | 44 => ⟨S_, .f32⟩
  | 45 => ⟨S_, .f32⟩
  | 46 => ⟨S16x6x4096x4096, .i1⟩
  | 47 => ⟨S16x6x4096x4096, .f32⟩
  | 48 => ⟨S16x6x4096x4096, .f32⟩
  | 49 => ⟨S_, .f32⟩
  | 50 => ⟨S16x6x4096, .f32⟩
  | 51 => ⟨S16x6x4096x1, .f32⟩
  | 52 => ⟨S16x6x4096x4096, .f32⟩
  | 53 => ⟨S16x6x4096x4096, .f32⟩
  | 54 => ⟨S16x6x4096x4096, .f32⟩
  | 55 => ⟨S_, .f32⟩
  | 56 => ⟨S16x6x4096, .f32⟩
  | 57 => ⟨S16x6x4096x1, .f32⟩
  | 58 => ⟨S16x6x4096, .f32⟩
  | 59 => ⟨S16x6x4096, .f32⟩
  | 60 => ⟨S16x6x4096, .f32⟩
  | 61 => ⟨S16x6x4096, .f32⟩
  | 62 => ⟨S16x6x4096x64, .f32⟩
  | 63 => ⟨S16x6x4096x64, .f32⟩
  | 64 => ⟨S16x6x4096x64, .f32⟩
  | 65 => ⟨S16x6x4096x4096, .f32⟩
  | 66 => ⟨S_, .f32⟩
  | 67 => ⟨S16x6x4096x4096, .f32⟩
  | 68 => ⟨S16x6x4096x4096, .f32⟩
  | 69 => ⟨S4096, .i32⟩
  | 70 => ⟨S4096x1, .i32⟩
  | 71 => ⟨S1x4096, .i32⟩
  | 72 => ⟨S4096x4096, .i32⟩
  | 73 => ⟨S4096x4096, .i32⟩
  | 74 => ⟨S4096x4096, .i32⟩
  | 75 => ⟨S_, .i32⟩
  | 76 => ⟨S4096x4096, .i32⟩
  | 77 => ⟨S4096x4096, .i1⟩
  | 78 => ⟨S_, .i32⟩
  | 79 => ⟨S4096x4096, .i32⟩
  | 80 => ⟨S4096x4096, .i1⟩
  | 81 => ⟨S4096x4096, .i1⟩
  | 82 => ⟨S_, .i32⟩
  | 83 => ⟨S4096x4096, .i32⟩
  | 84 => ⟨S4096x4096, .i32⟩
  | 85 => ⟨S_, .i32⟩
  | 86 => ⟨S4096x4096, .i32⟩
  | 87 => ⟨S4096x4096, .i1⟩
  | 88 => ⟨S4096x4096, .i1⟩
  | 89 => ⟨S6x1x1, .f32⟩
  | 90 => ⟨S6x1x1, .f32⟩
  | 91 => ⟨S4096x4096, .f32⟩
  | 92 => ⟨S1x4096x4096, .f32⟩
  | 93 => ⟨S6x4096x4096, .f32⟩
  | 94 => ⟨S6x4096x4096, .f32⟩
  | 95 => ⟨S6x4096x4096, .f32⟩
  | 96 => ⟨S1x6x4096x4096, .f32⟩
  | 97 => ⟨S16x6x4096x4096, .f32⟩
  | 98 => ⟨S16x6x4096x4096, .f32⟩
  | 99 => ⟨S_, .f32⟩
  | 100 => ⟨S_, .f32⟩
  | 101 => ⟨S16x6x4096x4096, .i1⟩
  | 102 => ⟨S16x6x4096x4096, .f32⟩
  | 103 => ⟨S16x6x4096x4096, .f32⟩
  | 104 => ⟨S_, .f32⟩
  | 105 => ⟨S16x6x4096, .f32⟩
  | 106 => ⟨S16x6x4096x1, .f32⟩
  | 107 => ⟨S16x6x4096x4096, .f32⟩
  | 108 => ⟨S16x6x4096x4096, .f32⟩
  | 109 => ⟨S16x6x4096x4096, .f32⟩
  | 110 => ⟨S_, .f32⟩
  | 111 => ⟨S16x6x4096, .f32⟩
  | 112 => ⟨S16x6x4096x1, .f32⟩
  | 113 => ⟨S16x6x4096, .f32⟩
  | 114 => ⟨S16x6x4096, .f32⟩
  | 115 => ⟨S16x6x4096, .f32⟩
  | 116 => ⟨S16x6x4096, .f32⟩
  | 117 => ⟨S16x6x4096x64, .f32⟩
  | 118 => ⟨S16x6x4096x64, .f32⟩
  | 119 => ⟨S16x6x4096x64, .f32⟩
  | 120 => ⟨S16x6x4096x4096, .f32⟩
  | 121 => ⟨S_, .f32⟩
  | 122 => ⟨S16x6x4096x4096, .f32⟩
  | 123 => ⟨S16x6x4096x4096, .f32⟩
  | 124 => ⟨S4096, .i32⟩
  | 125 => ⟨S4096x1, .i32⟩
  | 126 => ⟨S1x4096, .i32⟩
  | 127 => ⟨S4096x4096, .i32⟩
  | _ => ⟨S16x4096x384, .f32⟩

abbrev hbmTy0_1 (i : Nat) : BufTy := match i % 128 with
  | 0 => ⟨S4096x4096, .i32⟩
  | 1 => ⟨S4096x4096, .i32⟩
  | 2 => ⟨S_, .i32⟩
  | 3 => ⟨S4096x4096, .i32⟩
  | 4 => ⟨S4096x4096, .i1⟩
  | 5 => ⟨S_, .i32⟩
  | 6 => ⟨S4096x4096, .i32⟩
  | 7 => ⟨S4096x4096, .i1⟩
  | 8 => ⟨S4096x4096, .i1⟩
  | 9 => ⟨S_, .i32⟩
  | 10 => ⟨S4096x4096, .i32⟩
  | 11 => ⟨S4096x4096, .i32⟩
  | 12 => ⟨S_, .i32⟩
  | 13 => ⟨S4096x4096, .i32⟩
  | 14 => ⟨S4096x4096, .i1⟩
  | 15 => ⟨S4096x4096, .i1⟩
  | 16 => ⟨S6x1x1, .f32⟩
  | 17 => ⟨S6x1x1, .f32⟩
  | 18 => ⟨S4096x4096, .f32⟩
  | 19 => ⟨S1x4096x4096, .f32⟩
  | 20 => ⟨S6x4096x4096, .f32⟩
  | 21 => ⟨S6x4096x4096, .f32⟩
  | 22 => ⟨S6x4096x4096, .f32⟩
  | 23 => ⟨S1x6x4096x4096, .f32⟩
  | 24 => ⟨S16x6x4096x4096, .f32⟩
  | 25 => ⟨S16x6x4096x4096, .f32⟩
  | 26 => ⟨S_, .f32⟩
  | 27 => ⟨S_, .f32⟩
  | 28 => ⟨S16x6x4096x4096, .i1⟩
  | 29 => ⟨S16x6x4096x4096, .f32⟩
  | 30 => ⟨S16x6x4096x4096, .f32⟩
  | 31 => ⟨S_, .f32⟩
  | 32 => ⟨S16x6x4096, .f32⟩
  | 33 => ⟨S16x6x4096x1, .f32⟩
  | 34 => ⟨S16x6x4096x4096, .f32⟩
  | 35 => ⟨S16x6x4096x4096, .f32⟩
  | 36 => ⟨S16x6x4096x4096, .f32⟩
  | 37 => ⟨S_, .f32⟩
  | 38 => ⟨S16x6x4096, .f32⟩
  | 39 => ⟨S16x6x4096x1, .f32⟩
  | 40 => ⟨S16x6x4096, .f32⟩
  | 41 => ⟨S16x6x4096, .f32⟩
  | 42 => ⟨S16x6x4096, .f32⟩
  | 43 => ⟨S16x6x4096, .f32⟩
  | 44 => ⟨S16x6x4096x64, .f32⟩
  | 45 => ⟨S16x6x4096x64, .f32⟩
  | 46 => ⟨S16x6x4096x64, .f32⟩
  | 47 => ⟨S1x16x6x4096, .f32⟩
  | 48 => ⟨S1x16x6x4096, .f32⟩
  | 49 => ⟨S1x16x6x4096, .f32⟩
  | 50 => ⟨S3x16x6x4096, .f32⟩
  | 51 => ⟨S_, .f32⟩
  | 52 => ⟨S16x6x4096, .f32⟩
  | 53 => ⟨S_, .f32⟩
  | 54 => ⟨S16x6x4096, .f32⟩
  | 55 => ⟨S16x6x4096, .f32⟩
  | 56 => ⟨S1x16x6x4096, .f32⟩
  | 57 => ⟨S3x16x6x4096, .f32⟩
  | 58 => ⟨S3x16x6x4096, .f32⟩
  | 59 => ⟨S3x16x6x4096, .f32⟩
  | 60 => ⟨S_, .f32⟩
  | 61 => ⟨S16x6x4096, .f32⟩
  | 62 => ⟨S1x16x6x4096, .f32⟩
  | 63 => ⟨S3x16x6x4096, .f32⟩
  | 64 => ⟨S3x16x6x4096, .f32⟩
  | 65 => ⟨S1x16x6x4096x64, .f32⟩
  | 66 => ⟨S1x16x6x4096x64, .f32⟩
  | 67 => ⟨S1x16x6x4096x64, .f32⟩
  | 68 => ⟨S3x16x6x4096x64, .f32⟩
  | 69 => ⟨S16x6x4096x64, .f32⟩
  | 70 => ⟨S16x4096x6x64, .f32⟩
  | 71 => ⟨S16x4096x384, .f32⟩
  | _ => ⟨S16x4096x384, .f32⟩

abbrev hbmTy (i : Nat) : BufTy := match i / 128 with
  | 0 => hbmTy0_0 i
  | 1 => hbmTy0_1 i
  | _ => ⟨S16x4096x384, .f32⟩

abbrev bufTy : (tb : Table) → Fin (tcTables nBuf tb) → BufTy
  | .hbm, ⟨i, _⟩ => hbmTy i
  | _, _ => ⟨S16x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_7 : Ref sig .tc := ⟨.hbm, 75, rfl⟩
abbrev main_v59 : Ref sig .tc := ⟨.hbm, 76, rfl⟩
abbrev main_v60 : Ref sig .tc := ⟨.hbm, 77, rfl⟩
abbrev main_c_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_9 : Ref sig .tc := ⟨.hbm, 82, rfl⟩
abbrev main_v64 : Ref sig .tc := ⟨.hbm, 83, rfl⟩
abbrev main_v65 : Ref sig .tc := ⟨.hbm, 84, rfl⟩
abbrev main_c_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_14 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_c_15 : Ref sig .tc := ⟨.hbm, 130, rfl⟩
abbrev main_v103 : Ref sig .tc := ⟨.hbm, 131, rfl⟩
abbrev main_v104 : Ref sig .tc := ⟨.hbm, 132, rfl⟩
abbrev main_c_16 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_c_17 : Ref sig .tc := ⟨.hbm, 137, rfl⟩
abbrev main_v108 : Ref sig .tc := ⟨.hbm, 138, rfl⟩
abbrev main_v109 : Ref sig .tc := ⟨.hbm, 139, rfl⟩
abbrev main_c_18 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_19 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v123 : Ref sig .tc := ⟨.hbm, 158, rfl⟩
abbrev main_cst_20 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_21 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_22 : Ref sig .tc := ⟨.hbm, 179, rfl⟩
abbrev main_v142 : Ref sig .tc := ⟨.hbm, 180, rfl⟩
abbrev main_cst_23 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_24 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩

abbrev nD : Nat := 1
abbrev τ : Topo := Topo.v7x

variable {F : FTy → Type} [FloatOps F]
-- ==== Proof.Softmax.lean ====
module

public import Idealize.ShloMosaic.Lib.Pipeline.ValueKit
public import Idealize.ShloMosaic.Lib.Pointwise
public import Idealize.ShloMosaic.Lib.Claim

/-! The arithmetic of one softmax row over the extended reals: weights taken apart before or after the
    contraction with the values, and scores summed over all lanes under a mask or over one head's lanes. -/

@[expose] public section

set_option maxRecDepth 16384

noncomputable section

namespace Cert.Math

open Idealize.ShloMosaic

/-- The value is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    obtain ⟨u, hu⟩ := h a (Finset.mem_insert_self a s)
    obtain ⟨v, hv⟩ := ih fun i hi => h i (Finset.mem_insert_of_mem hi)
    exact ⟨u + v, by rw [hu, hv, EReal.coe_add]⟩

/-- A number whose absolute value lies below infinity is real. -/
theorem isReal_of_abs_lt {x : EReal} (h : max x (-x) < ⊤) : IsReal x := by
  induction x with
  | bot => simp at h
  | top => simp at h
  | coe r => exact ⟨r, rfl⟩

/-- Multiplication by a nonnegative real number distributes over a finite sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The largest of finitely many real numbers, taken from minus infinity on, is one of them. -/
theorem fold_max_isReal {ι : Type} [Fintype ι] [Nonempty ι] {s : ι → EReal} (h : ∀ i, IsReal (s i)) :
    IsReal (Finset.univ.fold max ⊥ s) := by
  have e : Finset.univ.fold max ⊥ s = Finset.univ.sup s := rfl
  obtain ⟨i, -, hi⟩ := Finset.exists_mem_eq_sup Finset.univ Finset.univ_nonempty s
  rw [e, hi]; exact h i

/-- For real scores the weighted mean of the values is the same whether the weights are divided by their sum
    before the contraction or after it. -/
theorem softmax_div {ι : Type} [Fintype ι] [Nonempty ι] {s : ι → EReal} (w : ι → EReal) {M : EReal}
    (h : ∀ i, IsReal (s i)) (hM : IsReal M) :
    Ideal.div (∑ i, Ideal.exp (s i - M) * w i) (∑ i, Ideal.exp (s i - M))
      = ∑ i, Ideal.div (Ideal.exp (s i - M)) (∑ j, Ideal.exp (s j - M)) * w i := by
  choose r hr using h
  obtain ⟨u, rfl⟩ := hM
  have e : ∀ i, Ideal.exp (s i - (u : EReal)) = ((Real.exp (r i - u) : ℝ) : EReal) := fun i => by
    rw [hr i, ← EReal.coe_sub, Ideal.exp_coe]
  have hd : (∑ j, Ideal.exp (s j - (u : EReal))) = ((∑ j, Real.exp (r j - u) : ℝ) : EReal) := by
    rw [Finset.sum_congr rfl fun j _ => e j]
    exact (map_sum (⟨⟨Real.toEReal, EReal.coe_zero⟩, EReal.coe_add⟩ : ℝ →+ EReal) _ _).symm
  have hp : 0 < ∑ j, Real.exp (r j - u) := Finset.sum_pos (fun j _ => Real.exp_pos _) Finset.univ_nonempty
  rw [hd, Ideal.div_coe hp.ne', sum_mul_coe _ _ _ (by positivity)]
  refine Finset.sum_congr rfl fun i _ => ?_
  rw [Ideal.div_coe hp.ne']
  ac_rfl

/-- A sum over 256 lanes that keeps the lanes of one group of 64 is the sum over that group. -/
theorem sum_group (h : Fin 4) (f : Fin 256 → EReal) :
    (∑ j : Fin 256, if j.val / 64 = h.val then f j else 0)
      = ∑ d : Fin 64, f ⟨h.val * 64 + d.val, by omega⟩ := by
  rw [← Finset.sum_filter]
  refine (Finset.sum_bij (fun (d : Fin 64) _ => (⟨h.val * 64 + d.val, by omega⟩ : Fin 256)) ?_ ?_ ?_ ?_).symm
  · intro d _; simp; omega
  · intro a _ b _ hab; simp at hab; exact Fin.ext hab
  · intro j hj; simp at hj
    exact ⟨⟨j.val % 64, by omega⟩, Finset.mem_univ _, Fin.ext (by show h.val * 64 + j.val % 64 = j.val; omega)⟩
  · intro d _; rfl

/-- The scale of the scores, one eighth. -/
theorem scale_isReal : IsReal (Ideal.ofBits .f32 0x3E000000#32) := by
  refine ⟨1 / 8, ?_⟩
  simp [Ideal.ofBits, Ideal.ieee]
  rw [← EReal.coe_mul]
  norm_num

theorem ninf : Ideal.ofBits .f32 0xFF800000#32 = ⊥ := by simp [Ideal.ofBits, Ideal.ieee]
theorem pinf : Ideal.ofBits .f32 0x7F800000#32 = ⊤ := by simp [Ideal.ofBits, Ideal.ieee]

/-- What the precondition's comparison says of an element. -/
theorem isReal_of_olt {x : EReal} (h : BitVec.ofBool (decide (FloatOps.absf (F := Ideal) (φ := .f32) x < Ideal.ofBits .f32 0x7F800000#32)) = 1#1) :
    IsReal x := by
  rw [pinf] at h
  refine isReal_of_abs_lt ?_
  by_contra hn
  rw [decide_eq_false (by exact hn)] at h
  exact absurd h (by decide)

end Cert.Math

end
-- ==== Proof.CrossValue.lean ====
module

public import proofs.«01_k».proof.Proof.Gen.CrossIdeal.Value
public import proofs.«01_k».proof.Proof.Gen.CrossRefIdeal.Read
public import proofs.«01_k».proof.Proof.Softmax
public import Idealize.ShloMosaic.Lib.Pipeline.ValueKit
public import Idealize.ShloMosaic.Lib.Pointwise
public import Idealize.ShloMosaic.Lib.Claim

/-! The memory cross-attention: what one grid point stores, read as one softmax row of one head, and the
    result array against the reference's. -/

@[expose] public section

set_option maxRecDepth 16384

noncomputable section

namespace Cert.CrossIdeal.Hand

open Idealize.ShloMosaic Idealize.ShloMosaic.TcCoe Idealize.SL.Sem Cert.CrossIdeal Cert.CrossIdeal.Gen Cert.Math
open Idealize.ShloMosaic.Pipeline (Dat)

/-- One row's weighted mean of the values `w` under the scores `s`, the division last. -/
def mean (s w : Fin 256 → EReal) : EReal :=
  Ideal.div (∑ m, Ideal.exp (s m - Finset.univ.fold max (Ideal.ofBits .f32 0xFF800000#32) s) * w m)
    (∑ m, Ideal.exp (s m - Finset.univ.fold max (Ideal.ofBits .f32 0xFF800000#32) s))

/-- The scaled score of query row `r` against memory row `m` over the lanes of head `h`. -/
def score (q : Vec Ideal S1x512x256 .f32) (k : Vec Ideal S1x256x256 .f32) (h : Fin 4) (r : Fin 512) (m : Fin 256) : EReal :=
  (∑ d : Fin 64, q (ix3 0 r ⟨h.val * 64 + d.val, by omega⟩) * k (ix3 0 m ⟨h.val * 64 + d.val, by omega⟩))
    * Ideal.ofBits .f32 0x3E000000#32

theorem lane_eq : ∀ (j : Fin 256) (h : Fin 4),
    IntOp.cmpi .eq (IntOp.shrui .vector (BitVec.ofNat 32 j.val) 6#32) (BitVec.ofNat 32 h.val) = if j.val / 64 = h.val then 1#1 else 0#1 := by
  decide +kernel

/-- A choice by a lane's head number. -/
theorem pick (j : Fin 256) (h : Fin 4) (a b : EReal) :
    Scalar.select (IntOp.cmpi .eq (IntOp.shrui .vector (BitVec.ofNat 32 j.val) 6#32) (BitVec.ofNat 32 h.val)) a b
      = if j.val / 64 = h.val then a else b := by
  rw [lane_eq]; split <;> rfl

theorem pick0 (j : Fin 256) (a b : EReal) :
    Scalar.select (IntOp.cmpi .eq (IntOp.shrui .vector (BitVec.ofNat 32 j.val) 6#32) 0#32) a b = if j.val / 64 = 0 then a else b := pick j 0 a b
theorem pick1 (j : Fin 256) (a b : EReal) :
    Scalar.select (IntOp.cmpi .eq (IntOp.shrui .vector (BitVec.ofNat 32 j.val) 6#32) 1#32) a b = if j.val / 64 = 1 then a else b := pick j 1 a b
theorem pick2 (j : Fin 256) (a b : EReal) :
    Scalar.select (IntOp.cmpi .eq (IntOp.shrui .vector (BitVec.ofNat 32 j.val) 6#32) 2#32) a b = if j.val / 64 = 2 then a else b := pick j 2 a b
theorem pick3 (j : Fin 256) (a b : EReal) :
    Scalar.select (IntOp.cmpi .eq (IntOp.shrui .vector (BitVec.ofNat 32 j.val) 6#32) 3#32) a b = if j.val / 64 = 3 then a else b := pick j 3 a b

theorem sum0 (f : Fin 256 → EReal) : (∑ j : Fin 256, if j.val / 64 = 0 then f j else 0) = ∑ d : Fin 64, f ⟨(0 : Fin 4).val * 64 + d.val, by omega⟩ := sum_group 0 f
theorem sum1 (f : Fin 256 → EReal) : (∑ j : Fin 256, if j.val / 64 = 1 then f j else 0) = ∑ d : Fin 64, f ⟨(1 : Fin 4).val * 64 + d.val, by omega⟩ := sum_group 1 f
theorem sum2 (f : Fin 256 → EReal) : (∑ j : Fin 256, if j.val / 64 = 2 then f j else 0) = ∑ d : Fin 64, f ⟨(2 : Fin 4).val * 64 + d.val, by omega⟩ := sum_group 2 f
theorem sum3 (f : Fin 256 → EReal) : (∑ j : Fin 256, if j.val / 64 = 3 then f j else 0) = ∑ d : Fin 64, f ⟨(3 : Fin 4).val * 64 + d.val, by omega⟩ := sum_group 3 f

set_option maxHeartbeats 1600000 in
/-- The value the first part holds: head 0's mean on head 0's lanes. -/
theorem pay6_at (v0 : Vec Ideal S1x512x256 .f32) (v2 v5 : Vec Ideal S1x256x256 .f32) (r : Fin 512) (l : Fin 256) :
    k0_pay6 (F := Ideal) v0 v2 v5 (ix2 r l)
      = if l.val / 64 = 0 then mean (score v0 v2 0 r) (fun m => v5 (ix3 0 m l)) else 0 := by
  pointwise [k0_pay6, k0_pay5, k0_pay4, k0_pay3, k0_pay2]
  simp only [pick0, sum0]
  rfl

set_option maxHeartbeats 1600000 in
/-- The value the second part holds: the means of heads 1 and 2 laid over the first part's. -/
theorem pay9_at (v0 : Vec Ideal S1x512x256 .f32) (v2 v5 : Vec Ideal S1x256x256 .f32) (v33 : FVec Ideal S512x256 .f32) (r : Fin 512) (l : Fin 256) :
    k0_pay9 (F := Ideal) (k0_pay2 v0) (k0_pay3 v2) (k0_pay4 v5) k0_pay5 v33 k0_pay7 k0_pay8 (ix2 r l)
      = if l.val / 64 = 2 then mean (score v0 v2 2 r) (fun m => v5 (ix3 0 m l))
        else if l.val / 64 = 1 then mean (score v0 v2 1 r) (fun m => v5 (ix3 0 m l)) else v33 (ix2 r l) := by
  pointwise [k0_pay9, k0_pay8, k0_pay7, k0_pay5, k0_pay4, k0_pay3, k0_pay2]
  simp only [pick1, pick2, sum1, sum2]
  rfl

set_option maxHeartbeats 1600000 in
/-- The stored value: head 3's mean laid over the rest. -/
theorem pay1_at (v0 : Vec Ideal S1x512x256 .f32) (v2 v5 : Vec Ideal S1x256x256 .f32) (v77 : FVec Ideal S512x256 .f32) (r : Fin 512) (l : Fin 256) :
    k0_pay1 (F := Ideal) (k0_pay2 v0) (k0_pay3 v2) (k0_pay4 v5) k0_pay5 v77 (k0_pay10 k0_pay5) k0_pay11 (ix3 0 r l)
      = if l.val / 64 = 3 then mean (score v0 v2 3 r) (fun m => v5 (ix3 0 m l)) else v77 (ix2 r l) := by
  pointwise [k0_pay1, k0_pay11, k0_pay10, k0_pay5, k0_pay4, k0_pay3, k0_pay2]
  simp only [pick3, sum3]
  rfl

/-- What a grid point stores at row `r` and lane `l` is the mean of the lane's head. -/
theorem core (v0 : Vec Ideal S1x512x256 .f32) (v2 v5 : Vec Ideal S1x256x256 .f32) (r : Fin 512) (l : Fin 256) :
    k0_pay1 (F := Ideal) (k0_pay2 v0) (k0_pay3 v2) (k0_pay4 v5) k0_pay5
        (k0_pay9 (F := Ideal) (k0_pay2 v0) (k0_pay3 v2) (k0_pay4 v5) k0_pay5 (k0_pay6 v0 v2 v5) k0_pay7 k0_pay8)
        (k0_pay10 k0_pay5) k0_pay11 (ix3 0 r l)
      = mean (score v0 v2 ⟨l.val / 64, by omega⟩ r) (fun m => v5 (ix3 0 m l)) := by
  rw [pay1_at, pay9_at, pay6_at]
  have h : l.val / 64 = 0 ∨ l.val / 64 = 1 ∨ l.val / 64 = 2 ∨ l.val / 64 = 3 := by omega
  rcases h with h | h | h | h <;> simp only [h] <;> rfl

/-- The same score, of the whole arrays. -/
def rscore (q : FVec Ideal S16x4096x256 .f32) (k : FVec Ideal S16x256x256 .f32) (b : Fin 16) (h : Fin 4) (s : Fin 4096) (m : Fin 256) : EReal :=
  (∑ d : Fin 64, q (ix3 b s ⟨h.val * 64 + d.val, by omega⟩) * k (ix3 b m ⟨h.val * 64 + d.val, by omega⟩))
    * Ideal.ofBits .f32 0x3E000000#32

section Ref
open Cert.CrossRefIdeal.Read

theorem score_at (X0 : FVec Ideal S16x4096x256 .f32) (X1 : FVec Ideal S16x256x256 .f32) (b : Fin 16) (h : Fin 4) (s : Fin 4096) (m : Fin 256) :
    val_main_v8 (F := Ideal) X0 X1 (ix4 b h s m) = rscore X0 X1 b h s m := by
  pointwise [val_main_v8, val_main_v7, val_main_v6, val_main_v3, val_main_v2, val_main_v1, val_main_v0, val_main_cst, rscore]

/-- A maximum over the last axis, at an index. -/
theorem reduce_max (v : FVec Ideal Cert.CrossRefIdeal.S16x4x4096x256 .f32) (c : FVec Ideal Cert.CrossRefIdeal.S_ .f32)
    (hr : Cert.CrossRefIdeal.S16x4x4096x256.ReducesTo [3] Cert.CrossRefIdeal.S16x4x4096) (hu) (b : Fin 16) (h : Fin 4) (s : Fin 4096) :
    Host.reduce FloatOps.maximumf v c hr hu (ix3 b h s)
      = Finset.univ.fold max (c (Shape.Idx.first hu)) fun m : Fin 256 => v (ix4 b h s m) := by
  simp only [pointwise]

theorem max_at (X0 : FVec Ideal S16x4096x256 .f32) (X1 : FVec Ideal S16x256x256 .f32) (b : Fin 16) (h : Fin 4) (s : Fin 4096) :
    val_main_v11 (F := Ideal) X0 X1 (ix3 b h s) = Finset.univ.fold max (Ideal.ofBits .f32 0xFF800000#32) (rscore X0 X1 b h s) := by
  rw [val_main_v11_apply, val_main_v10_apply, val_main_cst_1_apply]
  unfold val_main_v9
  generalize hv : val_main_v8 (F := Ideal) X0 X1 = v
  rw [reduce_max]
  subst hv
  simp only [score_at, val_main_cst_0_apply, Ideal.maximumf_def, Ideal.ofBits_def, ninf]
  exact max_eq_right bot_le

theorem out_at (X0 : FVec Ideal S16x4096x256 .f32) (X1 X2 : FVec Ideal S16x256x256 .f32) (h0 : ∀ i, IsReal (X0 i)) (h1 : ∀ i, IsReal (X1 i))
    (b : Fin 16) (s : Fin 4096) (l : Fin 256) :
    val_main_v22 (F := Ideal) X0 X1 X2 (ix3 b s l)
      = mean (rscore X0 X1 b ⟨l.val / 64, by omega⟩ s) (fun m => X2 (ix3 b m l)) := by
  pointwise [val_main_v22, val_main_v21, val_main_v20, val_main_v19, val_main_v18, val_main_v17, val_main_v16, val_main_v15, val_main_v14, val_main_v13, val_main_v12, val_main_v5, val_main_v4, val_main_cst_2, score_at, max_at]
  have hs : ∀ m, IsReal (rscore X0 X1 b ⟨l.val / 64, by omega⟩ s m) := fun m =>
    (IsReal.sum _ fun d _ => (h0 _).mul (h1 _)).mul scale_isReal
  unfold mean
  rw [ninf]
  exact (softmax_div _ hs (fold_max_isReal hs)).symm

end Ref

variable (m : (ℓ : Loc nD τ sig) → Buf (Elt Ideal) ℓ)

theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] :=
  (by decide +kernel : ∀ t : Fin grid0.N, _)

/-- A row of the mean read off the blocks and off the whole arrays. -/
theorem mean_congr {s s' w w' : Fin 256 → EReal} (hs : ∀ i, s i = s' i) (hw : ∀ i, w i = w' i) : mean s w = mean s' w' := by
  rw [funext hs, funext hw]

/-- What a grid point stores is the reference's value at the place it is stored to, when its blocks are those of the arrays. -/
theorem point (v0 : Vec Ideal S1x512x256 .f32) (v2 v5 : Vec Ideal S1x256x256 .f32) (X0 : FVec Ideal S16x4096x256 .f32) (X1 X2 : FVec Ideal S16x256x256 .f32)
    (h0 : ∀ i, IsReal (X0 i)) (h1 : ∀ i, IsReal (X1 i)) (b : Fin 16) (s : Fin 4096) (r : Fin 512) (l : Fin 256)
    (e0 : ∀ j, v0 (ix3 0 r j) = X0 (ix3 b s j)) (e2 : ∀ i j, v2 (ix3 0 i j) = X1 (ix3 b i j)) (e5 : ∀ i, v5 (ix3 0 i l) = X2 (ix3 b i l)) :
    k0_pay1 (F := Ideal) (k0_pay2 v0) (k0_pay3 v2) (k0_pay4 v5) k0_pay5
        (k0_pay9 (F := Ideal) (k0_pay2 v0) (k0_pay3 v2) (k0_pay4 v5) k0_pay5 (k0_pay6 v0 v2 v5) k0_pay7 k0_pay8)
        (k0_pay10 k0_pay5) k0_pay11 (ix3 0 r l)
      = Cert.CrossRefIdeal.Read.val_main_v22 (F := Ideal) X0 X1 X2 (ix3 b s l) := by
  rw [core, out_at X0 X1 X2 h0 h1]
  refine mean_congr (fun i => ?_) e5
  simp only [score, rscore, e0, e2]

set_option maxHeartbeats 1600000 in
/-- The result array after the run is the reference's. -/
theorem final (c : Dev nD) (h0 : ∀ i, IsReal (m ((c : Thread nD τ).loc main_arg0) i)) (h1 : ∀ i, IsReal (m ((c : Thread nD τ).loc main_arg1) i)) :
    (dats m 0 c).arrAt 3 (cfgs 0).N
      = Cert.CrossRefIdeal.Read.val_main_v22 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold_out out0_3
  frame_out
  have ht : t.val < 128 := t.isLt
  idx_vars y
  obtain rfl : y0 = 0 := Subsingleton.elim _ _
  rw [show ((View.whole main_v0).slice (win0_3.rect t)).emb (ix3 (0 : Fin 1) y1 y2)
      = ix3 (⟨t.val / 8, by omega⟩ : Fin 16) (⟨t.val % 8 * 512 + y1.val, by omega⟩ : Fin 4096) y2 by blk_ext [idx t]]
  exact point _ _ _ _ _ _ h0 h1 _ _ _ _ (fun j => by blk_ext [iblk, V, idx t]) (fun i j => by blk_ext [iblk, V, idx t]) (fun i => by blk_ext [iblk, V, idx t])

end Cert.CrossIdeal.Hand

end
-- ==== Proof.BandIdealLoops.lean ====
/-
  The dilated attention's two loops whose rows lie at a stride (dilations 4 and 16), each by an invariant: the buffers
  that a trip reads hold what they held, and the branch's output and log-sum buffers hold the tiles of the trips before.
-/
module

public import proofs.«01_k».proof.Proof.Gen.BandIdeal.Loops
public import proofs.«01_k».proof.Proof.Gen.BandIdeal.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.BandIdeal.Hand

open Cert.BandIdeal Cert.BandIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the launch. -/
local notation "𝕄" => MT nD τ sig Unit (Elt F) ℕ (UR sig nD τ) ℕ

/-- Rectangles of a buffer, each with the tile written there. -/
abbrev Tiles (F : FTy → Type) := List (View.Piece (Elt F) S4096x128 .f32)

variable (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x2x1x256 .f32) (harg5 : arg5.IsWhole) (arg6 : Memref sig .tc .vmem S1x4096x128 .f32) (harg6 : arg6.IsWhole) (arg7 : Memref sig .tc .vmem S6144x128 .f32) (harg7 : arg7.IsWhole) (arg8 : Memref sig .tc .vmem S6144x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x2x128x256 .f32) (harg15 : arg15.IsWhole)
variable (X2 : BufTy.Contents (Elt F) arg2.view.ty) (X7 : BufTy.Contents (Elt F) arg7.view.ty) (X8 : BufTy.Contents (Elt F) arg8.view.ty) (X15 : BufTy.Contents (Elt F) arg15.view.ty)

/-! ## Dilation 4 -/

/-- What one trip holds: the queries, keys, values and biases at their contents, the two buffers it writes at any. -/
abbrev Held2 (fo : BufTy.Contents (Elt F) arg10.view.ty) (fl : BufTy.Contents (Elt F) arg13.view.ty) : sProp 𝕄 :=
  iprop((arg2.view.loc (c : Thread nD τ) ↦[arg2.view.set]{fullShare} X2) ∗ (arg7.view.loc (c : Thread nD τ) ↦[arg7.view.set]{fullShare} X7) ∗ (arg8.view.loc (c : Thread nD τ) ↦[arg8.view.set]{fullShare} X8) ∗ (arg15.view.loc (c : Thread nD τ) ↦[arg15.view.set]{fullShare} X15) ∗ (arg10.view.loc (c : Thread nD τ) ↦[arg10.view.set]{fullShare} fo) ∗ (arg13.view.loc (c : Thread nD τ) ↦[arg13.view.set]{fullShare} fl))

/-- One trip, run: the tile it writes into each of the two buffers is found by the run. -/
@[irreducible] def trip2 (v19 : IVec S128x128 1) (v21 v24 : IVec S128x256 32) (v72 : IVec S128x256 1) (v75 : FVec F S128x256 .f32) (k : Fin k0_t2_loop.trips) :
    Σ' (Lo : Tiles F), { Ll : Tiles F // ∀ (E : Set ℕ) (fo : BufTy.Contents (Elt F) arg10.view.ty) (fl : BufTy.Contents (Elt F) arg13.view.ty),
      Held2 c arg2 arg7 arg8 arg10 arg13 arg15 X2 X7 X8 X15 fo fl
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v19 v21 v24 v72 v75 k PUnit.unit)
          (fun _ => Held2 c arg2 arg7 arg8 arg10 arg13 arg15 X2 X7 X8 X15 (arg10.view.writes (Elt F) fo Lo) (arg13.view.writes (Elt F) fl Ll)) } := by
  refine ⟨?_, ?_, fun E fo fl => ?run⟩
  case run =>
    unfold k0_t2_body
    iintro ⟨H2, H7, H8, H15, Ho, Hl⟩
    sl_exec
    sl_step
    sl_close

/-- The tiles of the trips before `k`, the last first, for the two buffers. -/
def tiles2 (v19 : IVec S128x128 1) (v21 v24 : IVec S128x256 32) (v72 : IVec S128x256 1) (v75 : FVec F S128x256 .f32) : ℕ → Tiles F × Tiles F
  | 0 => ([], [])
  | k + 1 => if h : k < k0_t2_loop.trips then
      ((trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 ⟨k, h⟩).1 ++ (tiles2 v19 v21 v24 v72 v75 k).1,
       (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 ⟨k, h⟩).2.1 ++ (tiles2 v19 v21 v24 v72 v75 k).2)
    else tiles2 v19 v21 v24 v72 v75 k

theorem tiles2_succ (v19 : IVec S128x128 1) (v21 v24 : IVec S128x256 32) (v72 : IVec S128x256 1) (v75 : FVec F S128x256 .f32) (k : Fin k0_t2_loop.trips) :
    tiles2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 (k.val + 1)
      = ((trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 k).1 ++ (tiles2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 k.val).1,
         (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 k).2.1 ++ (tiles2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 k.val).2) := by
  rw [tiles2]; exact dif_pos k.isLt

/-- Before trip `k`: what is read is as it was, the two written buffers hold the tiles of the earlier trips. -/
abbrev inv2 (Go : BufTy.Contents (Elt F) arg10.view.ty) (Gl : BufTy.Contents (Elt F) arg13.view.ty) (v19 : IVec S128x128 1) (v21 v24 : IVec S128x256 32) (v72 : IVec S128x256 1) (v75 : FVec F S128x256 .f32) (k : ℕ) (_u : PUnit) : sProp 𝕄 :=
  iprop((arg2.view.loc (c : Thread nD τ) ↦[arg2.view.set]{fullShare} X2) ∗ (arg7.view.loc (c : Thread nD τ) ↦[arg7.view.set]{fullShare} X7) ∗ (arg8.view.loc (c : Thread nD τ) ↦[arg8.view.set]{fullShare} X8) ∗ (arg15.view.loc (c : Thread nD τ) ↦[arg15.view.set]{fullShare} X15)
    ∗ (∃ f, (arg10.view.loc (c : Thread nD τ) ↦[arg10.view.set]{fullShare} f) ∗ ⌜f = arg10.view.writes (Elt F) Go (tiles2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 k).1⌝)
    ∗ (∃ f, (arg13.view.loc (c : Thread nD τ) ↦[arg13.view.set]{fullShare} f) ∗ ⌜f = arg13.view.writes (Elt F) Gl (tiles2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 k).2⌝))

set_option warn.classDefReducibility false in
/-- The loop by that invariant. -/
@[sl_loop] def loop2 (E : Set ℕ) (Go : BufTy.Contents (Elt F) arg10.view.ty) (Gl : BufTy.Contents (Elt F) arg13.view.ty) (v19 : IVec S128x128 1) (v21 v24 : IVec S128x256 32) (v72 : IVec S128x256 1) (v75 : FVec F S128x256 .f32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v19 v21 v24 v72 v75 where
  inv := inv2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 Go Gl v19 v21 v24 v72 v75
  step k acc := by
    iintro ⟨H2, H7, H8, H15, ⟨%fo, Ho, %ho⟩, ⟨%fl, Hl, %hl⟩⟩
    iapply (wp_wand_r frame (wpE (defs₀ (F := F)) 𝒱 (c : Thread nD τ) bd) E)
    isplitl [H2 H7 H8 H15 Ho Hl]
    · iapply ((trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 k).2.2 E fo fl)
      isplitl [H2]; · iexact H2
      isplitl [H7]; · iexact H7
      isplitl [H8]; · iexact H8
      isplitl [H15]; · iexact H15
      isplitl [Ho]; · iexact Ho
      iexact Hl
    · iintro %_ ⟨H2, H7, H8, H15, Ho, Hl⟩
      isplitl [H2]; · iexact H2
      isplitl [H7]; · iexact H7
      isplitl [H8]; · iexact H8
      isplitl [H15]; · iexact H15
      rw [tiles2_succ]
      isplitl [Ho]
      · iexists _; isplitl [Ho]; · iexact Ho
        ipureintro; rw [ho, ← View.writes_append]
      iexists _; isplitl [Hl]; · iexact Hl
      ipureintro; rw [hl, ← View.writes_append]

/-! ## Dilation 16 -/

/-- What one trip holds: the queries, keys, values and biases at their contents, the two buffers it writes at any. -/
abbrev Held3 (fo : BufTy.Contents (Elt F) arg11.view.ty) (fl : BufTy.Contents (Elt F) arg14.view.ty) : sProp 𝕄 :=
  iprop((arg2.view.loc (c : Thread nD τ) ↦[arg2.view.set]{fullShare} X2) ∗ (arg7.view.loc (c : Thread nD τ) ↦[arg7.view.set]{fullShare} X7) ∗ (arg8.view.loc (c : Thread nD τ) ↦[arg8.view.set]{fullShare} X8) ∗ (arg15.view.loc (c : Thread nD τ) ↦[arg15.view.set]{fullShare} X15) ∗ (arg11.view.loc (c : Thread nD τ) ↦[arg11.view.set]{fullShare} fo) ∗ (arg14.view.loc (c : Thread nD τ) ↦[arg14.view.set]{fullShare} fl))

/-- One trip, run: the tile it writes into each of the two buffers is found by the run. -/
@[irreducible] def trip3 (v19 : IVec S128x128 1) (w : BitVec 32) (k : Fin k0_t3_loop.trips) :
    Σ' (Lo : Tiles F), { Ll : Tiles F // ∀ (E : Set ℕ) (fo : BufTy.Contents (Elt F) arg11.view.ty) (fl : BufTy.Contents (Elt F) arg14.view.ty),
      Held3 c arg2 arg7 arg8 arg11 arg14 arg15 X2 X7 X8 X15 fo fl
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 v19 w k PUnit.unit)
          (fun _ => Held3 c arg2 arg7 arg8 arg11 arg14 arg15 X2 X7 X8 X15 (arg11.view.writes (Elt F) fo Lo) (arg14.view.writes (Elt F) fl Ll)) } := by
  refine ⟨?_, ?_, fun E fo fl => ?run⟩
  case run =>
    unfold k0_t3_body
    iintro ⟨H2, H7, H8, H15, Ho, Hl⟩
    sl_exec
    sl_step
    sl_close

/-- The tiles of the trips before `k`, the last first, for the two buffers. -/
def tiles3 (v19 : IVec S128x128 1) (w : BitVec 32) : ℕ → Tiles F × Tiles F
  | 0 => ([], [])
  | k + 1 => if h : k < k0_t3_loop.trips then
      ((trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w ⟨k, h⟩).1 ++ (tiles3 v19 w k).1,
       (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w ⟨k, h⟩).2.1 ++ (tiles3 v19 w k).2)
    else tiles3 v19 w k

theorem tiles3_succ (v19 : IVec S128x128 1) (w : BitVec 32) (k : Fin k0_t3_loop.trips) :
    tiles3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w (k.val + 1)
      = ((trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w k).1 ++ (tiles3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w k.val).1,
         (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w k).2.1 ++ (tiles3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w k.val).2) := by
  rw [tiles3]; exact dif_pos k.isLt

/-- Before trip `k`: what is read is as it was, the two written buffers hold the tiles of the earlier trips. -/
abbrev inv3 (Go : BufTy.Contents (Elt F) arg11.view.ty) (Gl : BufTy.Contents (Elt F) arg14.view.ty) (v19 : IVec S128x128 1) (w : BitVec 32) (k : ℕ) (_u : PUnit) : sProp 𝕄 :=
  iprop((arg2.view.loc (c : Thread nD τ) ↦[arg2.view.set]{fullShare} X2) ∗ (arg7.view.loc (c : Thread nD τ) ↦[arg7.view.set]{fullShare} X7) ∗ (arg8.view.loc (c : Thread nD τ) ↦[arg8.view.set]{fullShare} X8) ∗ (arg15.view.loc (c : Thread nD τ) ↦[arg15.view.set]{fullShare} X15)
    ∗ (∃ f, (arg11.view.loc (c : Thread nD τ) ↦[arg11.view.set]{fullShare} f) ∗ ⌜f = arg11.view.writes (Elt F) Go (tiles3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w k).1⌝)
    ∗ (∃ f, (arg14.view.loc (c : Thread nD τ) ↦[arg14.view.set]{fullShare} f) ∗ ⌜f = arg14.view.writes (Elt F) Gl (tiles3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w k).2⌝))

set_option warn.classDefReducibility false in
/-- The loop by that invariant. -/
@[sl_loop] def loop3 (E : Set ℕ) (Go : BufTy.Contents (Elt F) arg11.view.ty) (Gl : BufTy.Contents (Elt F) arg14.view.ty) (v19 : IVec S128x128 1) (w : BitVec 32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v19 w where
  inv := inv3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 Go Gl v19 w
  step k acc := by
    iintro ⟨H2, H7, H8, H15, ⟨%fo, Ho, %ho⟩, ⟨%fl, Hl, %hl⟩⟩
    iapply (wp_wand_r frame (wpE (defs₀ (F := F)) 𝒱 (c : Thread nD τ) bd) E)
    isplitl [H2 H7 H8 H15 Ho Hl]
    · iapply ((trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w k).2.2 E fo fl)
      isplitl [H2]; · iexact H2
      isplitl [H7]; · iexact H7
      isplitl [H8]; · iexact H8
      isplitl [H15]; · iexact H15
      isplitl [Ho]; · iexact Ho
      iexact Hl
    · iintro %_ ⟨H2, H7, H8, H15, Ho, Hl⟩
      isplitl [H2]; · iexact H2
      isplitl [H7]; · iexact H7
      isplitl [H8]; · iexact H8
      isplitl [H15]; · iexact H15
      rw [tiles3_succ]
      isplitl [Ho]
      · iexists _; isplitl [Ho]; · iexact Ho
        ipureintro; rw [ho, ← View.writes_append]
      iexists _; isplitl [Hl]; · iexact Hl
      ipureintro; rw [hl, ← View.writes_append]

end Cert.BandIdeal.Hand

end
-- ==== Proof.BandIdealBody.lean ====
/-
  The dilated attention's body: what it leaves in the output slab, as a function of the four input blocks. Each of the
  three branches fills two buffers by tiles of 128 rows at its dilation's stride; the last loop mixes them by 256 rows.
-/
module

public import proofs.«01_k».proof.Proof.BandIdealLoops
public import proofs.«01_k».proof.Proof.Gen.BandIdeal.Frame
public import Idealize.ShloMosaic.Lib.Pipeline.FrameBody
public import Idealize.ShloMosaic.Lib.Pipeline.Value

@[expose] public section

set_option maxRecDepth 16384

noncomputable section

namespace Cert.BandIdeal.Hand

open Cert.BandIdeal Cert.BandIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## A buffer filled by tiles -/

/-- A buffer written by `n` tiles, one after the other, reads as the function `G` whose restriction to each tile's
    rectangle is that tile, when the tiles cover it. -/
theorem read_tiles {s : Shape} {e : EltTy} {κ : Kind} {sp : Space} {n : ℕ} (L : ℕ → List (View.Piece (Elt F) s e)) (pc : Fin n → View.Piece (Elt F) s e)
    (h0 : L 0 = []) (hs : ∀ k : Fin n, L (k.val + 1) = [pc k] ++ L k.val) (G : s.Idx → Elt F e)
    (hG : ∀ k x, (pc k).2 x = G ((pc k).1.emb x)) (hc : ∀ y, ∃ k x, (pc k).1.emb x = y)
    (v : View sig κ sp s e) (f : v.ty.Contents (Elt F)) : v.read (Elt F) (v.writes (Elt F) f (L n)) = G := by
  have hm : ∀ j, j ≤ n → ∀ p, p ∈ L j ↔ ∃ k : Fin n, k.val < j ∧ p = pc k := by
    intro j
    induction j with
    | zero => intro _ p; rw [h0]; simp
    | succ j ih =>
      intro hj p
      rw [hs ⟨j, hj⟩, List.mem_append, List.mem_singleton, ih (Nat.le_of_succ_le hj)]
      constructor
      · rintro (rfl | ⟨k, hk, rfl⟩)
        · exact ⟨⟨j, hj⟩, Nat.lt_succ_self j, rfl⟩
        · exact ⟨k, Nat.lt_succ_of_lt hk, rfl⟩
      · rintro ⟨k, hk, rfl⟩
        rcases Nat.lt_succ_iff_lt_or_eq.mp hk with h | h
        · exact .inr ⟨k, h, rfl⟩
        · exact .inl (congrArg pc (Fin.ext h))
  funext y
  have hy : ∃ p ∈ L n, y ∈ p.1.set := by
    obtain ⟨k, x, rfl⟩ := hc y
    exact ⟨pc k, (hm n le_rfl _).2 ⟨k, k.isLt, rfl⟩, (LoadRect.mem_set _).2 (fun a => ⟨(x a).val, (x a).isLt, Rect.emb_apply _ x a⟩)⟩
  rw [View.read_writes_apply_eq_canon v f y _ hy]
  refine View.canon_apply_of_pieces G _ (fun p hp x => ?_) y hy
  obtain ⟨k, _, rfl⟩ := (hm n le_rfl p).1 hp
  exact hG k x

/-! ## The tiles of the three branches

`Q` the query slab, `K`, `V` the keys and values under their 2048 rows of zeros, `B` the four bias planes, `h0` the mask
of the first head's lanes. -/

/-! ### Dilation 1 -/

/-- The rows a trip takes of the queries, of the keys or values, and of the first and second head's biases. -/
def qRows1 (Q : Vec F S1x4096x128 .f32) (k : Fin k0_t1_loop.trips) : Vec F S1x128x128 .f32 := fun j => Q ((Rect.unit (s := S1x4096x128) (k0_off1 k) S1x128x128.size (k0_off1_inb k)).toLoadRect.idx j)
def kRows1 (K : Vec F S6144x128 .f32) (k : Fin k0_t1_loop.trips) : Vec F S256x128 .f32 := fun j => K ((Rect.unit (s := S6144x128) (k0_off2 k) S256x128.size (k0_off2_inb k)).toLoadRect.idx j)
def bias10 (B : Vec F S2x2x128x256 .f32) (k : Fin k0_t1_loop.trips) : Vec F S1x1x128x256 .f32 := fun j => B ((Rect.unit (s := S2x2x128x256) (k0_off3 k) S1x1x128x256.size (k0_off3_inb k)).toLoadRect.idx j)
def bias11 (B : Vec F S2x2x128x256 .f32) (k : Fin k0_t1_loop.trips) : Vec F S1x1x128x256 .f32 := fun j => B ((Rect.unit (s := S2x2x128x256) (k0_off4 k) S1x1x128x256.size (k0_off4_inb k)).toLoadRect.idx j)

/-- The tile a trip writes of the branch's outputs, and of its log-sums. -/
def outTile1 (h0 : IVec S128x128 1) (Q : Vec F S1x4096x128 .f32) (K V : Vec F S6144x128 .f32) (B : Vec F S2x2x128x256 .f32) (k : Fin k0_t1_loop.trips) : Vec F S128x128 .f32 :=
  k0_pay55 h0 (k0_pay8 (qRows1 Q k)) (k0_pay9 (kRows1 K k)) (k0_pay10 (kRows1 V k)) (k0_pay14 h0 (qRows1 Q k) (kRows1 K k) (bias10 B k))
    (k0_pay16 h0 (qRows1 Q k) (kRows1 K k) (bias10 B k)) (bias11 B k)
def lseTile1 (h0 : IVec S128x128 1) (Q : Vec F S1x4096x128 .f32) (K : Vec F S6144x128 .f32) (B : Vec F S2x2x128x256 .f32) (k : Fin k0_t1_loop.trips) : Vec F S128x128 .f32 :=
  k0_pay56 h0 (k0_pay8 (qRows1 Q k)) (k0_pay9 (kRows1 K k)) (k0_pay15 h0 (qRows1 Q k) (kRows1 K k) (bias10 B k)) (bias11 B k)

/-- The trip whose tile holds row `p`, and the row's place in that tile. -/
def trip1Of (p : Fin 4096) : Fin k0_t1_loop.trips := ⟨p.val % 1 * 32 + p.val / 1 / 128, by
  have h : k0_t1_loop.trips = 32 := by decide
  rw [h]; have := p.isLt; omega⟩
def place1 (y : S4096x128.Idx) : S128x128.Idx
  | 0 => (⟨(y 0).val / 1 % 128, Nat.mod_lt _ (by decide)⟩ : Fin 128)
  | 1 => (⟨(y 1).val, (y 1).isLt⟩ : Fin 128)

/-- The buffer whose tiles are `T`. -/
def rows1 (T : Fin k0_t1_loop.trips → Vec F S128x128 .f32) : Vec F S4096x128 .f32 := fun y => T (trip1Of ⟨(y 0).val, (y 0).isLt⟩) (place1 y)

/-- Where a trip's tile begins. -/
theorem off5_eq : ∀ k : Fin k0_t1_loop.trips, k0_off5 k = ![k.val / 32 + 128 * (k.val % 32), 0] := by decide +kernel

/-- The rectangle of a trip's tile. -/
abbrev box1 (k : Fin k0_t1_loop.trips) : Rect S4096x128 := Rect.unit (s := S4096x128) (k0_off5 k) S128x128.size (k0_off5_inb k)

theorem box1_emb0 (k : Fin k0_t1_loop.trips) (x : S128x128.Idx) : ((box1 k).emb x 0).val = k.val / 32 + 128 * (k.val % 32) + 1 * (x 0).val := by
  rw [Rect.emb_apply]
  show k0_off5 k 0 + 1 * (x 0).val = _
  rw [off5_eq]; rfl
theorem box1_emb1 (k : Fin k0_t1_loop.trips) (x : S128x128.Idx) : ((box1 k).emb x 1).val = (x 1).val := by
  rw [Rect.emb_apply]
  show k0_off5 k 1 + 1 * (x 1).val = _
  rw [off5_eq]
  show 0 + 1 * (x 1).val = _
  omega

theorem box1_trip (k : Fin k0_t1_loop.trips) (x : S128x128.Idx) : trip1Of ⟨((box1 k).emb x 0).val, ((box1 k).emb x 0).isLt⟩ = k := by
  have h := box1_emb0 k x
  have hx : (x 0).val < 128 := (x 0).isLt
  have hk : k.val < 32 := by have h32 : k0_t1_loop.trips = 32 := by decide
                             have := k.isLt; omega
  have ha : k.val / 32 < 1 := by omega
  have hr : k.val % 32 < 32 := Nat.mod_lt _ (by decide)
  have hs : k.val = k.val / 32 * 32 + k.val % 32 := by omega
  apply Fin.ext
  show ((box1 k).emb x 0).val % 1 * 32 + ((box1 k).emb x 0).val / 1 / 128 = k.val
  generalize k.val / 32 = a at *
  generalize k.val % 32 = r at *
  have e1 : ((box1 k).emb x 0).val % 1 = a := by omega
  have e2 : ((box1 k).emb x 0).val / 1 = 128 * r + (x 0).val := by omega
  rw [e1, e2, hs]
  omega

theorem box1_place (k : Fin k0_t1_loop.trips) (x : S128x128.Idx) : place1 ((box1 k).emb x) = x := by
  have h := box1_emb0 k x
  have hx : (x 0).val < 128 := (x 0).isLt
  have hk : k.val < 32 := by have h32 : k0_t1_loop.trips = 32 := by decide
                             have := k.isLt; omega
  have ha : k.val / 32 < 1 := by omega
  have e2 : ((box1 k).emb x 0).val / 1 = 128 * (k.val % 32) + (x 0).val := by
    generalize k.val / 32 = a at *
    generalize k.val % 32 = r at *
    omega
  funext a
  match a with
  | 0 => apply Fin.ext; show ((box1 k).emb x 0).val / 1 % 128 = (x 0).val; rw [e2]; omega
  | 1 => apply Fin.ext; show ((box1 k).emb x 1).val = (x 1).val; exact box1_emb1 k x

theorem box1_cover (y : S4096x128.Idx) : (box1 (trip1Of ⟨(y 0).val, (y 0).isLt⟩)).emb (place1 y) = y := by
  have h := box1_emb0 (trip1Of ⟨(y 0).val, (y 0).isLt⟩) (place1 y)
  have hy : (y 0).val < 4096 := (y 0).isLt
  have e0 : (place1 y 0).val = (y 0).val / 1 % 128 := rfl
  have et : (trip1Of ⟨(y 0).val, (y 0).isLt⟩).val = (y 0).val % 1 * 32 + (y 0).val / 1 / 128 := rfl
  funext a
  match a with
  | 0 => apply Fin.ext; rw [h, e0, et]; omega
  | 1 => apply Fin.ext; exact box1_emb1 _ _

theorem read_out1 (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x2x1x256 .f32) (harg5 : arg5.IsWhole) (arg6 : Memref sig .tc .vmem S1x4096x128 .f32) (harg6 : arg6.IsWhole) (arg7 : Memref sig .tc .vmem S6144x128 .f32) (harg7 : arg7.IsWhole) (arg8 : Memref sig .tc .vmem S6144x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x2x128x256 .f32) (harg15 : arg15.IsWhole) (X2 : BufTy.Contents (Elt F) arg2.view.ty) (X7 : BufTy.Contents (Elt F) arg7.view.ty) (X8 : BufTy.Contents (Elt F) arg8.view.ty) (X15 : BufTy.Contents (Elt F) arg15.view.ty) (v19 : IVec S128x128 1) (v21 v24 : IVec S128x256 32) (v63 : FVec F S128x256 .f32) (f : BufTy.Contents (Elt F) arg9.view.ty) (n : ℕ) (hn : n = k0_t1_loop.trips) :
    arg9.view.read (Elt F) (arg9.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v19 v21 v24 v63 X2 X7 X8 X15 n).1) = rows1 (outTile1 v19 (arg2.view.read (Elt F) X2) (arg7.view.read (Elt F) X7) (arg8.view.read (Elt F) X8) (arg15.view.read (Elt F) X15)) := by
  subst hn
  refine read_tiles (fun n => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v19 v21 v24 v63 X2 X7 X8 X15 n).1) (fun k => ⟨box1 k, outTile1 v19 (arg2.view.read (Elt F) X2) (arg7.view.read (Elt F) X7) (arg8.view.read (Elt F) X8) (arg15.view.read (Elt F) X15) k⟩) rfl (fun k => ?_) _ (fun k x => ?_) (fun y => ⟨trip1Of ⟨(y 0).val, (y 0).isLt⟩, place1 y, box1_cover y⟩) arg9.view f
  · rw [pb_k0_t1_succ]
    unfold tripL_k0_t1 trip_k0_t1
    rfl
  · show outTile1 v19 (arg2.view.read (Elt F) X2) (arg7.view.read (Elt F) X7) (arg8.view.read (Elt F) X8) (arg15.view.read (Elt F) X15) k x = outTile1 v19 (arg2.view.read (Elt F) X2) (arg7.view.read (Elt F) X7) (arg8.view.read (Elt F) X8) (arg15.view.read (Elt F) X15) (trip1Of ⟨((box1 k).emb x 0).val, ((box1 k).emb x 0).isLt⟩) (place1 ((box1 k).emb x))
    rw [box1_trip, box1_place]

theorem read_lse1 (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x2x1x256 .f32) (harg5 : arg5.IsWhole) (arg6 : Memref sig .tc .vmem S1x4096x128 .f32) (harg6 : arg6.IsWhole) (arg7 : Memref sig .tc .vmem S6144x128 .f32) (harg7 : arg7.IsWhole) (arg8 : Memref sig .tc .vmem S6144x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x2x128x256 .f32) (harg15 : arg15.IsWhole) (X2 : BufTy.Contents (Elt F) arg2.view.ty) (X7 : BufTy.Contents (Elt F) arg7.view.ty) (X8 : BufTy.Contents (Elt F) arg8.view.ty) (X15 : BufTy.Contents (Elt F) arg15.view.ty) (v19 : IVec S128x128 1) (v21 v24 : IVec S128x256 32) (v63 : FVec F S128x256 .f32) (f : BufTy.Contents (Elt F) arg12.view.ty) (n : ℕ) (hn : n = k0_t1_loop.trips) :
    arg12.view.read (Elt F) (arg12.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v19 v21 v24 v63 X2 X7 X8 X15 n).2) = rows1 (lseTile1 v19 (arg2.view.read (Elt F) X2) (arg7.view.read (Elt F) X7) (arg15.view.read (Elt F) X15)) := by
  subst hn
  refine read_tiles (fun n => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v19 v21 v24 v63 X2 X7 X8 X15 n).2) (fun k => ⟨box1 k, lseTile1 v19 (arg2.view.read (Elt F) X2) (arg7.view.read (Elt F) X7) (arg15.view.read (Elt F) X15) k⟩) rfl (fun k => ?_) _ (fun k x => ?_) (fun y => ⟨trip1Of ⟨(y 0).val, (y 0).isLt⟩, place1 y, box1_cover y⟩) arg12.view f
  · rw [pb_k0_t1_succ]
    unfold tripL_k0_t1 trip_k0_t1
    rfl
  · show lseTile1 v19 (arg2.view.read (Elt F) X2) (arg7.view.read (Elt F) X7) (arg15.view.read (Elt F) X15) k x = lseTile1 v19 (arg2.view.read (Elt F) X2) (arg7.view.read (Elt F) X7) (arg15.view.read (Elt F) X15) (trip1Of ⟨((box1 k).emb x 0).val, ((box1 k).emb x 0).isLt⟩) (place1 ((box1 k).emb x))
    rw [box1_trip, box1_place]

/-! ### Dilation 4 -/

/-- The rows a trip takes of the queries, of the keys or values, and of the first and second head's biases. -/
def qRows2 (Q : Vec F S1x4096x128 .f32) (k : Fin k0_t2_loop.trips) : Vec F S1x128x128 .f32 := fun j => Q ((⟨k0_off6 k, S1x128x128.size, ![1, 4, 1], (k0_off6_inb k)⟩ : LoadRect S1x4096x128).idx j)
def kRows2 (K : Vec F S6144x128 .f32) (k : Fin k0_t2_loop.trips) : Vec F S256x128 .f32 := fun j => K ((⟨k0_off7 k, S256x128.size, ![4, 1], (k0_off7_inb k)⟩ : LoadRect S6144x128).idx j)
def bias20 (B : Vec F S2x2x128x256 .f32) (k : Fin k0_t2_loop.trips) : Vec F S1x1x128x256 .f32 := fun j => B ((Rect.unit (s := S2x2x128x256) (k0_off8 k) S1x1x128x256.size (k0_off8_inb k)).toLoadRect.idx j)
def bias21 (B : Vec F S2x2x128x256 .f32) (k : Fin k0_t2_loop.trips) : Vec F S1x1x128x256 .f32 := fun j => B ((Rect.unit (s := S2x2x128x256) (k0_off9 k) S1x1x128x256.size (k0_off9_inb k)).toLoadRect.idx j)

/-- The tile a trip writes of the branch's outputs, and of its log-sums. -/
def outTile2 (h0 : IVec S128x128 1) (Q : Vec F S1x4096x128 .f32) (K V : Vec F S6144x128 .f32) (B : Vec F S2x2x128x256 .f32) (k : Fin k0_t2_loop.trips) : Vec F S128x128 .f32 :=
  k0_pay69 h0 (k0_pay17 (qRows2 Q k)) (k0_pay18 (kRows2 K k)) (k0_pay19 (kRows2 V k)) (k0_pay23 h0 (qRows2 Q k) (kRows2 K k) (bias20 B k))
    (k0_pay25 h0 (qRows2 Q k) (kRows2 K k) (bias20 B k)) (bias21 B k)
def lseTile2 (h0 : IVec S128x128 1) (Q : Vec F S1x4096x128 .f32) (K : Vec F S6144x128 .f32) (B : Vec F S2x2x128x256 .f32) (k : Fin k0_t2_loop.trips) : Vec F S128x128 .f32 :=
  k0_pay70 h0 (k0_pay17 (qRows2 Q k)) (k0_pay18 (kRows2 K k)) (k0_pay24 h0 (qRows2 Q k) (kRows2 K k) (bias20 B k)) (bias21 B k)

/-- The trip whose tile holds row `p`, and the row's place in that tile. -/
def trip2Of (p : Fin 4096) : Fin k0_t2_loop.trips := ⟨p.val % 4 * 8 + p.val / 4 / 128, by
  have h : k0_t2_loop.trips = 32 := by decide
  rw [h]; have := p.isLt; omega⟩
def place2 (y : S4096x128.Idx) : S128x128.Idx
  | 0 => (⟨(y 0).val / 4 % 128, Nat.mod_lt _ (by decide)⟩ : Fin 128)
  | 1 => (⟨(y 1).val, (y 1).isLt⟩ : Fin 128)

/-- The buffer whose tiles are `T`. -/
def rows2 (T : Fin k0_t2_loop.trips → Vec F S128x128 .f32) : Vec F S4096x128 .f32 := fun y => T (trip2Of ⟨(y 0).val, (y 0).isLt⟩) (place2 y)

/-- Where a trip's tile begins. -/
theorem off10_eq : ∀ k : Fin k0_t2_loop.trips, k0_off10 k = ![k.val / 8 + 512 * (k.val % 8), 0] := by decide +kernel

/-- The rectangle of a trip's tile. -/
abbrev box2 (k : Fin k0_t2_loop.trips) : Rect S4096x128 := ⟨(⟨k0_off10 k, S128x128.size, ![4, 1], (k0_off10_inb k)⟩ : LoadRect S4096x128), spos_4_1⟩

theorem box2_emb0 (k : Fin k0_t2_loop.trips) (x : S128x128.Idx) : ((box2 k).emb x 0).val = k.val / 8 + 512 * (k.val % 8) + 4 * (x 0).val := by
  rw [Rect.emb_apply]
  show k0_off10 k 0 + 4 * (x 0).val = _
  rw [off10_eq]; rfl
theorem box2_emb1 (k : Fin k0_t2_loop.trips) (x : S128x128.Idx) : ((box2 k).emb x 1).val = (x 1).val := by
  rw [Rect.emb_apply]
  show k0_off10 k 1 + 1 * (x 1).val = _
  rw [off10_eq]
  show 0 + 1 * (x 1).val = _
  omega

theorem box2_trip (k : Fin k0_t2_loop.trips) (x : S128x128.Idx) : trip2Of ⟨((box2 k).emb x 0).val, ((box2 k).emb x 0).isLt⟩ = k := by
  have h := box2_emb0 k x
  have hx : (x 0).val < 128 := (x 0).isLt
  have hk : k.val < 32 := by have h32 : k0_t2_loop.trips = 32 := by decide
                             have := k.isLt; omega
  have ha : k.val / 8 < 4 := by omega
  have hr : k.val % 8 < 8 := Nat.mod_lt _ (by decide)
  have hs : k.val = k.val / 8 * 8 + k.val % 8 := by omega
  apply Fin.ext
  show ((box2 k).emb x 0).val % 4 * 8 + ((box2 k).emb x 0).val / 4 / 128 = k.val
  generalize k.val / 8 = a at *
  generalize k.val % 8 = r at *
  have e1 : ((box2 k).emb x 0).val % 4 = a := by omega
  have e2 : ((box2 k).emb x 0).val / 4 = 128 * r + (x 0).val := by omega
  rw [e1, e2, hs]
  omega

theorem box2_place (k : Fin k0_t2_loop.trips) (x : S128x128.Idx) : place2 ((box2 k).emb x) = x := by
  have h := box2_emb0 k x
  have hx : (x 0).val < 128 := (x 0).isLt
  have hk : k.val < 32 := by have h32 : k0_t2_loop.trips = 32 := by decide
                             have := k.isLt; omega
  have ha : k.val / 8 < 4 := by omega
  have e2 : ((box2 k).emb x 0).val / 4 = 128 * (k.val % 8) + (x 0).val := by
    generalize k.val / 8 = a at *
    generalize k.val % 8 = r at *
    omega
  funext a
  match a with
  | 0 => apply Fin.ext; show ((box2 k).emb x 0).val / 4 % 128 = (x 0).val; rw [e2]; omega
  | 1 => apply Fin.ext; show ((box2 k).emb x 1).val = (x 1).val; exact box2_emb1 k x

theorem box2_cover (y : S4096x128.Idx) : (box2 (trip2Of ⟨(y 0).val, (y 0).isLt⟩)).emb (place2 y) = y := by
  have h := box2_emb0 (trip2Of ⟨(y 0).val, (y 0).isLt⟩) (place2 y)
  have hy : (y 0).val < 4096 := (y 0).isLt
  have e0 : (place2 y 0).val = (y 0).val / 4 % 128 := rfl
  have et : (trip2Of ⟨(y 0).val, (y 0).isLt⟩).val = (y 0).val % 4 * 8 + (y 0).val / 4 / 128 := rfl
  funext a
  match a with
  | 0 => apply Fin.ext; rw [h, e0, et]; omega
  | 1 => apply Fin.ext; exact box2_emb1 _ _

theorem read_out2 (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x2x1x256 .f32) (harg5 : arg5.IsWhole) (arg6 : Memref sig .tc .vmem S1x4096x128 .f32) (harg6 : arg6.IsWhole) (arg7 : Memref sig .tc .vmem S6144x128 .f32) (harg7 : arg7.IsWhole) (arg8 : Memref sig .tc .vmem S6144x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x2x128x256 .f32) (harg15 : arg15.IsWhole) (X2 : BufTy.Contents (Elt F) arg2.view.ty) (X7 : BufTy.Contents (Elt F) arg7.view.ty) (X8 : BufTy.Contents (Elt F) arg8.view.ty) (X15 : BufTy.Contents (Elt F) arg15.view.ty) (v19 : IVec S128x128 1) (v21 v24 : IVec S128x256 32) (v72 : IVec S128x256 1) (v75 : FVec F S128x256 .f32) (f : BufTy.Contents (Elt F) arg10.view.ty) (n : ℕ) (hn : n = k0_t2_loop.trips) :
    arg10.view.read (Elt F) (arg10.view.writes (Elt F) f (tiles2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 n).1) = rows2 (outTile2 v19 (arg2.view.read (Elt F) X2) (arg7.view.read (Elt F) X7) (arg8.view.read (Elt F) X8) (arg15.view.read (Elt F) X15)) := by
  subst hn
  refine read_tiles (fun n => (tiles2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 n).1) (fun k => ⟨box2 k, outTile2 v19 (arg2.view.read (Elt F) X2) (arg7.view.read (Elt F) X7) (arg8.view.read (Elt F) X8) (arg15.view.read (Elt F) X15) k⟩) rfl (fun k => ?_) _ (fun k x => ?_) (fun y => ⟨trip2Of ⟨(y 0).val, (y 0).isLt⟩, place2 y, box2_cover y⟩) arg10.view f
  · rw [tiles2_succ]
    unfold trip2
    rfl
  · show outTile2 v19 (arg2.view.read (Elt F) X2) (arg7.view.read (Elt F) X7) (arg8.view.read (Elt F) X8) (arg15.view.read (Elt F) X15) k x = outTile2 v19 (arg2.view.read (Elt F) X2) (arg7.view.read (Elt F) X7) (arg8.view.read (Elt F) X8) (arg15.view.read (Elt F) X15) (trip2Of ⟨((box2 k).emb x 0).val, ((box2 k).emb x 0).isLt⟩) (place2 ((box2 k).emb x))
    rw [box2_trip, box2_place]

theorem read_lse2 (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x2x1x256 .f32) (harg5 : arg5.IsWhole) (arg6 : Memref sig .tc .vmem S1x4096x128 .f32) (harg6 : arg6.IsWhole) (arg7 : Memref sig .tc .vmem S6144x128 .f32) (harg7 : arg7.IsWhole) (arg8 : Memref sig .tc .vmem S6144x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x2x128x256 .f32) (harg15 : arg15.IsWhole) (X2 : BufTy.Contents (Elt F) arg2.view.ty) (X7 : BufTy.Contents (Elt F) arg7.view.ty) (X8 : BufTy.Contents (Elt F) arg8.view.ty) (X15 : BufTy.Contents (Elt F) arg15.view.ty) (v19 : IVec S128x128 1) (v21 v24 : IVec S128x256 32) (v72 : IVec S128x256 1) (v75 : FVec F S128x256 .f32) (f : BufTy.Contents (Elt F) arg13.view.ty) (n : ℕ) (hn : n = k0_t2_loop.trips) :
    arg13.view.read (Elt F) (arg13.view.writes (Elt F) f (tiles2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 n).2) = rows2 (lseTile2 v19 (arg2.view.read (Elt F) X2) (arg7.view.read (Elt F) X7) (arg15.view.read (Elt F) X15)) := by
  subst hn
  refine read_tiles (fun n => (tiles2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 v21 v24 v72 v75 n).2) (fun k => ⟨box2 k, lseTile2 v19 (arg2.view.read (Elt F) X2) (arg7.view.read (Elt F) X7) (arg15.view.read (Elt F) X15) k⟩) rfl (fun k => ?_) _ (fun k x => ?_) (fun y => ⟨trip2Of ⟨(y 0).val, (y 0).isLt⟩, place2 y, box2_cover y⟩) arg13.view f
  · rw [tiles2_succ]
    unfold trip2
    rfl
  · show lseTile2 v19 (arg2.view.read (Elt F) X2) (arg7.view.read (Elt F) X7) (arg15.view.read (Elt F) X15) k x = lseTile2 v19 (arg2.view.read (Elt F) X2) (arg7.view.read (Elt F) X7) (arg15.view.read (Elt F) X15) (trip2Of ⟨((box2 k).emb x 0).val, ((box2 k).emb x 0).isLt⟩) (place2 ((box2 k).emb x))
    rw [box2_trip, box2_place]

/-! ### Dilation 16 -/

/-- The rows a trip takes of the queries, of the keys or values, and of the first and second head's biases. -/
def qRows3 (Q : Vec F S1x4096x128 .f32) (k : Fin k0_t3_loop.trips) : Vec F S1x128x128 .f32 := fun j => Q ((⟨k0_off11 k, S1x128x128.size, ![1, 16, 1], (k0_off11_inb k)⟩ : LoadRect S1x4096x128).idx j)
def kRows3 (K : Vec F S6144x128 .f32) (k : Fin k0_t3_loop.trips) : Vec F S256x128 .f32 := fun j => K ((⟨k0_off12 k, S256x128.size, ![16, 1], (k0_off12_inb k)⟩ : LoadRect S6144x128).idx j)
def bias30 (B : Vec F S2x2x128x256 .f32) (k : Fin k0_t3_loop.trips) : Vec F S1x1x128x256 .f32 := fun j => B ((Rect.unit (s := S2x2x128x256) (k0_off13 k) S1x1x128x256.size (k0_off13_inb k)).toLoadRect.idx j)
def bias31 (B : Vec F S2x2x128x256 .f32) (k : Fin k0_t3_loop.trips) : Vec F S1x1x128x256 .f32 := fun j => B ((Rect.unit (s := S2x2x128x256) (k0_off14 k) S1x1x128x256.size (k0_off14_inb k)).toLoadRect.idx j)

/-- The tile a trip writes of the branch's outputs, and of its log-sums. -/
def outTile3 (h0 : IVec S128x128 1) (Q : Vec F S1x4096x128 .f32) (K V : Vec F S6144x128 .f32) (B : Vec F S2x2x128x256 .f32) (k : Fin k0_t3_loop.trips) : Vec F S128x128 .f32 :=
  k0_pay5 h0 (k0_pay26 (qRows3 Q k)) (k0_pay27 (kRows3 K k)) (k0_pay28 (kRows3 V k)) (k0_pay32 h0 (qRows3 Q k) (kRows3 K k) (bias30 B k))
    (k0_pay34 h0 (qRows3 Q k) (kRows3 K k) (bias30 B k)) (bias31 B k)
def lseTile3 (h0 : IVec S128x128 1) (Q : Vec F S1x4096x128 .f32) (K : Vec F S6144x128 .f32) (B : Vec F S2x2x128x256 .f32) (k : Fin k0_t3_loop.trips) : Vec F S128x128 .f32 :=
  k0_pay6 h0 (k0_pay26 (qRows3 Q k)) (k0_pay27 (kRows3 K k)) (k0_pay33 h0 (qRows3 Q k) (kRows3 K k) (bias30 B k)) (bias31 B k)

/-- The trip whose tile holds row `p`, and the row's place in that tile. -/
def trip3Of (p : Fin 4096) : Fin k0_t3_loop.trips := ⟨p.val % 16 * 2 + p.val / 16 / 128, by
  have h : k0_t3_loop.trips = 32 := by decide
  rw [h]; have := p.isLt; omega⟩
def place3 (y : S4096x128.Idx) : S128x128.Idx
  | 0 => (⟨(y 0).val / 16 % 128, Nat.mod_lt _ (by decide)⟩ : Fin 128)
  | 1 => (⟨(y 1).val, (y 1).isLt⟩ : Fin 128)

/-- The buffer whose tiles are `T`. -/
def rows3 (T : Fin k0_t3_loop.trips → Vec F S128x128 .f32) : Vec F S4096x128 .f32 := fun y => T (trip3Of ⟨(y 0).val, (y 0).isLt⟩) (place3 y)

/-- Where a trip's tile begins. -/
theorem off15_eq : ∀ k : Fin k0_t3_loop.trips, k0_off15 k = ![k.val / 2 + 2048 * (k.val % 2), 0] := by decide +kernel

/-- The rectangle of a trip's tile. -/
abbrev box3 (k : Fin k0_t3_loop.trips) : Rect S4096x128 := ⟨(⟨k0_off15 k, S128x128.size, ![16, 1], (k0_off15_inb k)⟩ : LoadRect S4096x128), spos_16_1⟩

theorem box3_emb0 (k : Fin k0_t3_loop.trips) (x : S128x128.Idx) : ((box3 k).emb x 0).val = k.val / 2 + 2048 * (k.val % 2) + 16 * (x 0).val := by
  rw [Rect.emb_apply]
  show k0_off15 k 0 + 16 * (x 0).val = _
  rw [off15_eq]; rfl
theorem box3_emb1 (k : Fin k0_t3_loop.trips) (x : S128x128.Idx) : ((box3 k).emb x 1).val = (x 1).val := by
  rw [Rect.emb_apply]
  show k0_off15 k 1 + 1 * (x 1).val = _
  rw [off15_eq]
  show 0 + 1 * (x 1).val = _
  omega

theorem box3_trip (k : Fin k0_t3_loop.trips) (x : S128x128.Idx) : trip3Of ⟨((box3 k).emb x 0).val, ((box3 k).emb x 0).isLt⟩ = k := by
  have h := box3_emb0 k x
  have hx : (x 0).val < 128 := (x 0).isLt
  have hk : k.val < 32 := by have h32 : k0_t3_loop.trips = 32 := by decide
                             have := k.isLt; omega
  have ha : k.val / 2 < 16 := by omega
  have hr : k.val % 2 < 2 := Nat.mod_lt _ (by decide)
  have hs : k.val = k.val / 2 * 2 + k.val % 2 := by omega
  apply Fin.ext
  show ((box3 k).emb x 0).val % 16 * 2 + ((box3 k).emb x 0).val / 16 / 128 = k.val
  generalize k.val / 2 = a at *
  generalize k.val % 2 = r at *
  have e1 : ((box3 k).emb x 0).val % 16 = a := by omega
  have e2 : ((box3 k).emb x 0).val / 16 = 128 * r + (x 0).val := by omega
  rw [e1, e2, hs]
  omega

theorem box3_place (k : Fin k0_t3_loop.trips) (x : S128x128.Idx) : place3 ((box3 k).emb x) = x := by
  have h := box3_emb0 k x
  have hx : (x 0).val < 128 := (x 0).isLt
  have hk : k.val < 32 := by have h32 : k0_t3_loop.trips = 32 := by decide
                             have := k.isLt; omega
  have ha : k.val / 2 < 16 := by omega
  have e2 : ((box3 k).emb x 0).val / 16 = 128 * (k.val % 2) + (x 0).val := by
    generalize k.val / 2 = a at *
    generalize k.val % 2 = r at *
    omega
  funext a
  match a with
  | 0 => apply Fin.ext; show ((box3 k).emb x 0).val / 16 % 128 = (x 0).val; rw [e2]; omega
  | 1 => apply Fin.ext; show ((box3 k).emb x 1).val = (x 1).val; exact box3_emb1 k x

theorem box3_cover (y : S4096x128.Idx) : (box3 (trip3Of ⟨(y 0).val, (y 0).isLt⟩)).emb (place3 y) = y := by
  have h := box3_emb0 (trip3Of ⟨(y 0).val, (y 0).isLt⟩) (place3 y)
  have hy : (y 0).val < 4096 := (y 0).isLt
  have e0 : (place3 y 0).val = (y 0).val / 16 % 128 := rfl
  have et : (trip3Of ⟨(y 0).val, (y 0).isLt⟩).val = (y 0).val % 16 * 2 + (y 0).val / 16 / 128 := rfl
  funext a
  match a with
  | 0 => apply Fin.ext; rw [h, e0, et]; omega
  | 1 => apply Fin.ext; exact box3_emb1 _ _

theorem read_out3 (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x2x1x256 .f32) (harg5 : arg5.IsWhole) (arg6 : Memref sig .tc .vmem S1x4096x128 .f32) (harg6 : arg6.IsWhole) (arg7 : Memref sig .tc .vmem S6144x128 .f32) (harg7 : arg7.IsWhole) (arg8 : Memref sig .tc .vmem S6144x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x2x128x256 .f32) (harg15 : arg15.IsWhole) (X2 : BufTy.Contents (Elt F) arg2.view.ty) (X7 : BufTy.Contents (Elt F) arg7.view.ty) (X8 : BufTy.Contents (Elt F) arg8.view.ty) (X15 : BufTy.Contents (Elt F) arg15.view.ty) (v19 : IVec S128x128 1) (w : BitVec 32) (f : BufTy.Contents (Elt F) arg11.view.ty) (n : ℕ) (hn : n = k0_t3_loop.trips) :
    arg11.view.read (Elt F) (arg11.view.writes (Elt F) f (tiles3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w n).1) = rows3 (outTile3 v19 (arg2.view.read (Elt F) X2) (arg7.view.read (Elt F) X7) (arg8.view.read (Elt F) X8) (arg15.view.read (Elt F) X15)) := by
  subst hn
  refine read_tiles (fun n => (tiles3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w n).1) (fun k => ⟨box3 k, outTile3 v19 (arg2.view.read (Elt F) X2) (arg7.view.read (Elt F) X7) (arg8.view.read (Elt F) X8) (arg15.view.read (Elt F) X15) k⟩) rfl (fun k => ?_) _ (fun k x => ?_) (fun y => ⟨trip3Of ⟨(y 0).val, (y 0).isLt⟩, place3 y, box3_cover y⟩) arg11.view f
  · rw [tiles3_succ]
    unfold trip3
    rfl
  · show outTile3 v19 (arg2.view.read (Elt F) X2) (arg7.view.read (Elt F) X7) (arg8.view.read (Elt F) X8) (arg15.view.read (Elt F) X15) k x = outTile3 v19 (arg2.view.read (Elt F) X2) (arg7.view.read (Elt F) X7) (arg8.view.read (Elt F) X8) (arg15.view.read (Elt F) X15) (trip3Of ⟨((box3 k).emb x 0).val, ((box3 k).emb x 0).isLt⟩) (place3 ((box3 k).emb x))
    rw [box3_trip, box3_place]

theorem read_lse3 (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x2x1x256 .f32) (harg5 : arg5.IsWhole) (arg6 : Memref sig .tc .vmem S1x4096x128 .f32) (harg6 : arg6.IsWhole) (arg7 : Memref sig .tc .vmem S6144x128 .f32) (harg7 : arg7.IsWhole) (arg8 : Memref sig .tc .vmem S6144x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x2x128x256 .f32) (harg15 : arg15.IsWhole) (X2 : BufTy.Contents (Elt F) arg2.view.ty) (X7 : BufTy.Contents (Elt F) arg7.view.ty) (X8 : BufTy.Contents (Elt F) arg8.view.ty) (X15 : BufTy.Contents (Elt F) arg15.view.ty) (v19 : IVec S128x128 1) (w : BitVec 32) (f : BufTy.Contents (Elt F) arg14.view.ty) (n : ℕ) (hn : n = k0_t3_loop.trips) :
    arg14.view.read (Elt F) (arg14.view.writes (Elt F) f (tiles3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w n).2) = rows3 (lseTile3 v19 (arg2.view.read (Elt F) X2) (arg7.view.read (Elt F) X7) (arg15.view.read (Elt F) X15)) := by
  subst hn
  refine read_tiles (fun n => (tiles3 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X7 X8 X15 v19 w n).2) (fun k => ⟨box3 k, lseTile3 v19 (arg2.view.read (Elt F) X2) (arg7.view.read (Elt F) X7) (arg15.view.read (Elt F) X15) k⟩) rfl (fun k => ?_) _ (fun k x => ?_) (fun y => ⟨trip3Of ⟨(y 0).val, (y 0).isLt⟩, place3 y, box3_cover y⟩) arg14.view f
  · rw [tiles3_succ]
    unfold trip3
    rfl
  · show lseTile3 v19 (arg2.view.read (Elt F) X2) (arg7.view.read (Elt F) X7) (arg15.view.read (Elt F) X15) k x = lseTile3 v19 (arg2.view.read (Elt F) X2) (arg7.view.read (Elt F) X7) (arg15.view.read (Elt F) X15) (trip3Of ⟨((box3 k).emb x 0).val, ((box3 k).emb x 0).isLt⟩) (place3 ((box3 k).emb x))
    rw [box3_trip, box3_place]

/-! ### The mixture -/

def mixRows (L : Vec F S4096x128 .f32) (k : Fin k0_t4_loop.trips) : Vec F S256x128 .f32 := fun j => L ((Rect.unit (s := S4096x128) (k0_off16 k) S256x128.size (k0_off16_inb k)).toLoadRect.idx j)

/-- The tile a trip of the last loop writes, of the three log-sum and the three output buffers. -/
def mixTile (L1 L2 L3 O1 O2 O3 : Vec F S4096x128 .f32) (k : Fin k0_t4_loop.trips) : Vec F S1x256x128 .f32 :=
  k0_pay7 (mixRows L1 k) (mixRows L2 k) (mixRows L3 k) (mixRows O1 k) (mixRows O2 k) (mixRows O3 k)

def mixOf (p : Fin 4096) : Fin k0_t4_loop.trips := ⟨p.val / 256, by
  have h : k0_t4_loop.trips = 16 := by decide
  rw [h]; have := p.isLt; omega⟩
def mixPlace (y : S1x4096x128.Idx) : S1x256x128.Idx
  | 0 => (⟨0, by decide⟩ : Fin 1)
  | 1 => (⟨(y 1).val % 256, Nat.mod_lt _ (by decide)⟩ : Fin 256)
  | 2 => (⟨(y 2).val, (y 2).isLt⟩ : Fin 128)

def mixed (L1 L2 L3 O1 O2 O3 : Vec F S4096x128 .f32) : Vec F S1x4096x128 .f32 :=
  fun y => mixTile L1 L2 L3 O1 O2 O3 (mixOf ⟨(y 1).val, (y 1).isLt⟩) (mixPlace y)

abbrev mixBox (k : Fin k0_t4_loop.trips) : Rect S1x4096x128 := Rect.unit (s := S1x4096x128) (k0_off17 k) S1x256x128.size (k0_off17_inb k)

theorem mixBox_emb1 (k : Fin k0_t4_loop.trips) (x : S1x256x128.Idx) : ((mixBox k).emb x 1).val = 256 * k.val + (x 1).val := by
  rw [Rect.emb_apply]
  show k0_off17 k 1 + 1 * (x 1).val = _
  rw [k0_off17_eq]
  show 256 * k.val + 1 * (x 1).val = _
  omega
theorem mixBox_emb2 (k : Fin k0_t4_loop.trips) (x : S1x256x128.Idx) : ((mixBox k).emb x 2).val = (x 2).val := by
  rw [Rect.emb_apply]
  show k0_off17 k 2 + 1 * (x 2).val = _
  rw [k0_off17_eq]
  show 0 + 1 * (x 2).val = _
  omega

theorem mixBox_trip (k : Fin k0_t4_loop.trips) (x : S1x256x128.Idx) : mixOf ⟨((mixBox k).emb x 1).val, ((mixBox k).emb x 1).isLt⟩ = k := by
  have h := mixBox_emb1 k x
  have hx : (x 1).val < 256 := (x 1).isLt
  apply Fin.ext
  show ((mixBox k).emb x 1).val / 256 = k.val
  omega

theorem mixBox_place (k : Fin k0_t4_loop.trips) (x : S1x256x128.Idx) : mixPlace ((mixBox k).emb x) = x := by
  have h := mixBox_emb1 k x
  have hx : (x 1).val < 256 := (x 1).isLt
  funext a
  match a with
  | 0 => exact Fin.ext (Nat.lt_one_iff.mp (x 0).isLt).symm
  | 1 => apply Fin.ext; show ((mixBox k).emb x 1).val % 256 = (x 1).val; omega
  | 2 => apply Fin.ext; exact mixBox_emb2 k x

theorem mixBox_cover (y : S1x4096x128.Idx) : (mixBox (mixOf ⟨(y 1).val, (y 1).isLt⟩)).emb (mixPlace y) = y := by
  have h := mixBox_emb1 (mixOf ⟨(y 1).val, (y 1).isLt⟩) (mixPlace y)
  have e1 : (mixPlace y 1).val = (y 1).val % 256 := rfl
  have et : (mixOf ⟨(y 1).val, (y 1).isLt⟩).val = (y 1).val / 256 := rfl
  funext a
  match a with
  | 0 => exact Fin.ext ((Nat.lt_one_iff.mp ((mixBox (mixOf ⟨(y 1).val, (y 1).isLt⟩)).emb (mixPlace y) 0).isLt).trans (Nat.lt_one_iff.mp (y 0).isLt).symm)
  | 1 => apply Fin.ext; rw [h, e1, et]; omega
  | 2 => apply Fin.ext; exact mixBox_emb2 _ _

theorem read_mixed (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x2x1x256 .f32) (harg5 : arg5.IsWhole) (arg6 : Memref sig .tc .vmem S1x4096x128 .f32) (harg6 : arg6.IsWhole) (arg7 : Memref sig .tc .vmem S6144x128 .f32) (harg7 : arg7.IsWhole) (arg8 : Memref sig .tc .vmem S6144x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x2x128x256 .f32) (harg15 : arg15.IsWhole) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (f : BufTy.Contents (Elt F) arg6.view.ty) (n : ℕ) (hn : n = k0_t4_loop.trips) :
    arg6.view.read (Elt F) (arg6.view.writes (Elt F) f (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X9 X10 X11 X12 X13 X14 n)) = mixed (arg12.view.read (Elt F) X12) (arg13.view.read (Elt F) X13) (arg14.view.read (Elt F) X14) (arg9.view.read (Elt F) X9) (arg10.view.read (Elt F) X10) (arg11.view.read (Elt F) X11) := by
  subst hn
  refine read_tiles (fun n => pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X9 X10 X11 X12 X13 X14 n) (fun k => ⟨mixBox k, mixTile (arg12.view.read (Elt F) X12) (arg13.view.read (Elt F) X13) (arg14.view.read (Elt F) X14) (arg9.view.read (Elt F) X9) (arg10.view.read (Elt F) X10) (arg11.view.read (Elt F) X11) k⟩) rfl (fun k => ?_) _ (fun k x => ?_) (fun y => ⟨mixOf ⟨(y 1).val, (y 1).isLt⟩, mixPlace y, mixBox_cover y⟩) arg6.view f
  · rw [pb_k0_t4_succ]
    unfold tripL_k0_t4 trip_k0_t4
    rfl
  · show mixTile (arg12.view.read (Elt F) X12) (arg13.view.read (Elt F) X13) (arg14.view.read (Elt F) X14) (arg9.view.read (Elt F) X9) (arg10.view.read (Elt F) X10) (arg11.view.read (Elt F) X11) k x = mixTile (arg12.view.read (Elt F) X12) (arg13.view.read (Elt F) X13) (arg14.view.read (Elt F) X14) (arg9.view.read (Elt F) X9) (arg10.view.read (Elt F) X10) (arg11.view.read (Elt F) X11) (mixOf ⟨((mixBox k).emb x 1).val, ((mixBox k).emb x 1).isLt⟩) (mixPlace ((mixBox k).emb x))
    rw [mixBox_trip, mixBox_place]

theorem mixed_congr {L1 L2 L3 O1 O2 O3 L1' L2' L3' O1' O2' O3' : Vec F S4096x128 .f32} (l1 : L1 = L1') (l2 : L2 = L2') (l3 : L3 = L3') (o1 : O1 = O1') (o2 : O2 = O2') (o3 : O3 = O3') :
    mixed L1 L2 L3 O1 O2 O3 = mixed L1' L2' L3' O1' O2' O3' := by rw [l1, l2, l3, o1, o2, o3]

/-! ## What the body leaves -/

abbrev slab (X : Vec F S1x4096x128 .f32) : Vec F S1x4096x128 .f32 := View.ld X (Rect.unit (s := S1x4096x128) ![0, 0, 0] S1x4096x128.size inb_S1x4096x128_S1x4096x128_0_0_0)
abbrev top : Rect S6144x128 := Rect.unit (s := S6144x128) ![0, 0] S2048x128.size inb_S6144x128_S2048x128_0_0
abbrev rest : Rect S6144x128 := Rect.unit (s := S6144x128) ![2048, 0] S4096x128.size inb_S6144x128_S4096x128_2048_0
/-- The keys, and the values, under 2048 rows of zeros. -/
def padK (x1 : Vec F S1x4096x128 .f32) : Vec F S6144x128 .f32 := View.canon [⟨rest, k0_pay38 (slab x1)⟩, ⟨top, k0_pay36⟩]
def padV (x2 : Vec F S1x4096x128 .f32) : Vec F S6144x128 .f32 := View.canon [⟨rest, k0_pay39 (slab x2)⟩, ⟨top, k0_pay37⟩]

/-- The first and the second head's slope row. -/
abbrev slope0 (x3 : Vec F S1x2x1x256 .f32) : Vec F S1x1x1x256 .f32 := View.ld x3 (Rect.unit (s := S1x2x1x256) ![0, 0, 0, 0] S1x1x1x256.size inb_S1x2x1x256_S1x1x1x256_0_0_0_0)
abbrev slope1 (x3 : Vec F S1x2x1x256 .f32) : Vec F S1x1x1x256 .f32 := View.ld x3 (Rect.unit (s := S1x2x1x256) ![0, 1, 0, 0] S1x1x1x256.size inb_S1x2x1x256_S1x1x1x256_0_1_0_0)
abbrev p00 : Rect S2x2x128x256 := Rect.unit (s := S2x2x128x256) ![0, 0, 0, 0] S1x1x128x256.size inb_S2x2x128x256_S1x1x128x256_0_0_0_0
abbrev p01 : Rect S2x2x128x256 := Rect.unit (s := S2x2x128x256) ![0, 1, 0, 0] S1x1x128x256.size inb_S2x2x128x256_S1x1x128x256_0_1_0_0
abbrev p10 : Rect S2x2x128x256 := Rect.unit (s := S2x2x128x256) ![1, 0, 0, 0] S1x1x128x256.size inb_S2x2x128x256_S1x1x128x256_1_0_0_0
abbrev p11 : Rect S2x2x128x256 := Rect.unit (s := S2x2x128x256) ![1, 1, 0, 0] S1x1x128x256.size inb_S2x2x128x256_S1x1x128x256_1_1_0_0
/-- The key's index in its window, as the biases take it. -/
abbrev lane : IVec S128x256 32 := iota .tc S128x256 32 [1] iota_S128x256_d1_w32

/-- The bias planes of each dilation, by head and by whether the block is the first; the later ones over the earlier. -/
def planes1 (x3 : Vec F S1x2x1x256 .f32) : List (View.Piece (Elt F) S2x2x128x256 .f32) :=
  [⟨p11, k0_pay50 (k0_pay49 k0_pay42 k0_pay43 (slope1 x3))⟩, ⟨p10, k0_pay48 lane k0_pay42 k0_pay43 (slope1 x3)⟩,
   ⟨p01, k0_pay46 k0_pay42 k0_pay43 (slope0 x3)⟩, ⟨p00, k0_pay45 lane k0_pay42 k0_pay43 (slope0 x3)⟩]
def planes2 (x3 : Vec F S1x2x1x256 .f32) : List (View.Piece (Elt F) S2x2x128x256 .f32) :=
  ⟨p11, k0_pay64 (k0_pay57 k0_pay41) (k0_pay58 k0_pay41) (slope1 x3)⟩ :: ⟨p10, k0_pay63 lane (k0_pay57 k0_pay41) (k0_pay58 k0_pay41) (slope1 x3)⟩
    :: ⟨p01, k0_pay61 k0_pay41 (slope0 x3)⟩ :: ⟨p00, k0_pay60 lane k0_pay41 (slope0 x3)⟩ :: planes1 x3
def planes3 (x3 : Vec F S1x2x1x256 .f32) : List (View.Piece (Elt F) S2x2x128x256 .f32) :=
  ⟨p11, k0_pay79 (k0_pay71 k0_pay41) (k0_pay72 k0_pay41) (slope1 x3)⟩ :: ⟨p10, k0_pay78 lane (k0_pay71 k0_pay41) (k0_pay72 k0_pay41) (slope1 x3)⟩
    :: ⟨p01, k0_pay76 (k0_pay71 k0_pay41) (k0_pay73 k0_pay41 (slope0 x3))⟩ :: ⟨p00, k0_pay75 (k0_pay71 k0_pay41) (k0_pay73 k0_pay41 (slope0 x3)) (k0_pay74 lane)⟩ :: planes2 x3

/-- The output slab of one pair of heads, from its queries, keys, values and slopes. -/
def outBand (x0 x1 x2 : Vec F S1x4096x128 .f32) (x3 : Vec F S1x2x1x256 .f32) : Vec F S1x4096x128 .f32 :=
  mixed (rows1 (lseTile1 k0_pay40 x0 (padK x1) (View.canon (planes1 x3)))) (rows2 (lseTile2 k0_pay40 x0 (padK x1) (View.canon (planes2 x3))))
    (rows3 (lseTile3 k0_pay40 x0 (padK x1) (View.canon (planes3 x3))))
    (rows1 (outTile1 k0_pay40 x0 (padK x1) (padV x2) (View.canon (planes1 x3)))) (rows2 (outTile2 k0_pay40 x0 (padK x1) (padV x2) (View.canon (planes2 x3))))
    (rows3 (outTile3 k0_pay40 x0 (padK x1) (padV x2) (View.canon (planes3 x3))))

end Cert.BandIdeal.Hand

end
-- ==== Proof.BandIdealRun.lean ====
/-
  The run of the dilated attention's body, the launch, and the frame.
-/
module

public import proofs.«01_k».proof.Proof.BandIdealBody
public import Idealize.ShloMosaic.Lib.Ring
public import Idealize.ShloMosaic.Lib.Pipeline.FrameBody
public import Idealize.ShloMosaic.Lib.Claim

@[expose] public section

set_option maxRecDepth 16384

noncomputable section

namespace Cert.BandIdeal.Hand

open Cert.BandIdeal Cert.BandIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 400000 in
/-- The body, its inputs at given contents and every other buffer at any, ends with the inputs as they were and the output
    slab at `outBand` of them. -/
theorem sound_kernel (c : Dev nD) (E : Set ℕ) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x2x1x256 .f32) (harg5 : arg5.IsWhole) (arg6 : Memref sig .tc .vmem S1x4096x128 .f32) (harg6 : arg6.IsWhole) (arg7 : Memref sig .tc .vmem S6144x128 .f32) (harg7 : arg7.IsWhole) (arg8 : Memref sig .tc .vmem S6144x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x2x128x256 .f32) (harg15 : arg15.IsWhole)
    (x0 x1 x2 : Vec F S1x4096x128 .f32) (x3 : Vec F S1x2x1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBand x0 x1 x2 x3) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_dilated i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dilated_eq_skeleton]; unfold cc0_dilated_skel
  simp only [k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (read_mixed _ _ _ _ _ _ _ _ _ _ _ _ _ _ _ _ _ _ _ _ _ _ _ _ _ _ _ _ _ _ _ _ _ _ _ _ _ _ _ _ rfl).trans ?_
    unfold outBand
    refine mixed_congr ?_ ?_ ?_ ?_ ?_ ?_
    · refine (read_lse1 _ _ _ _ _ _ _ _ _ _ _ _ _ _ _ _ _ _ _ _ _ _ _ _ _ _ _ _ _ _ _ _ _ _ _ _ _ _ _ _ _ _ rfl).trans ?_
      rw [View.read_writes_junk_eq_canon, View.read_writes_junk_eq_canon]
      rfl
    · refine (read_lse2 _ _ _ _ _ _ _ _ _ _ _ _ _ _ _ _ _ _ _ _ _ _ _ _ _ _ _ _ _ _ _ _ _ _ _ _ _ _ _ _ _ _ _ rfl).trans ?_
      rw [View.read_writes_junk_eq_canon, View.read_writes_junk_eq_canon]
      rfl
    · refine (read_lse3 _ _ _ _ _ _ _ _ _ _ _ _ _ _ _ _ _ _ _ _ _ _ _ _ _ _ _ _ _ _ _ _ _ _ _ _ _ _ _ _ rfl).trans ?_
      rw [View.read_writes_junk_eq_canon, View.read_writes_junk_eq_canon]
      rfl
    · refine (read_out1 _ _ _ _ _ _ _ _ _ _ _ _ _ _ _ _ _ _ _ _ _ _ _ _ _ _ _ _ _ _ _ _ _ _ _ _ _ _ _ _ _ _ rfl).trans ?_
      rw [View.read_writes_junk_eq_canon, View.read_writes_junk_eq_canon, View.read_writes_junk_eq_canon]
      rfl
    · refine (read_out2 _ _ _ _ _ _ _ _ _ _ _ _ _ _ _ _ _ _ _ _ _ _ _ _ _ _ _ _ _ _ _ _ _ _ _ _ _ _ _ _ _ _ _ rfl).trans ?_
      rw [View.read_writes_junk_eq_canon, View.read_writes_junk_eq_canon, View.read_writes_junk_eq_canon]
      rfl
    · refine (read_out3 _ _ _ _ _ _ _ _ _ _ _ _ _ _ _ _ _ _ _ _ _ _ _ _ _ _ _ _ _ _ _ _ _ _ _ _ _ _ _ _ rfl).trans ?_
      rw [View.read_writes_junk_eq_canon, View.read_writes_junk_eq_canon, View.read_writes_junk_eq_canon]
      rfl
  isplitl [H7]
  · iexists _; iexists _; isplitr; swap
    · iexact H7
    · ipureintro; rfl
  isplitl [H8]
  · iexists _; iexists _; isplitr; swap
    · iexact H8
    · ipureintro; rfl
  isplitl [H9]
  · iexists _; iexists _; isplitr; swap
    · iexact H9
    · ipureintro; rfl
  isplitl [H10]
  · iexists _; iexists _; isplitr; swap
    · iexact H10
    · ipureintro; rfl
  isplitl [H11]
  · iexists _; iexists _; isplitr; swap
    · iexact H11
    · ipureintro; rfl
  isplitl [H12]
  · iexists _; iexists _; isplitr; swap
    · iexact H12
    · ipureintro; rfl
  isplitl [H13]
  · iexists _; iexists _; isplitr; swap
    · iexact H13
    · ipureintro; rfl
  isplitl [H14]
  · iexists _; iexists _; isplitr; swap
    · iexact H14
    · ipureintro; rfl
  iexists _; iexists _; isplitr; swap
  · iexact H15
  · ipureintro; rfl

/-! ## The launch -/

variable (m : (ℓ : Loc nD τ sig) → Buf (Elt F) ℓ) (ρ : Dev nD → PrngReg)

/-- The windows' arrays as the launch finds them, each block of the inputs kept by the body, the output's block at
    `outBand` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBand (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBand (iblk m c 0 t) (iblk m c 1 t) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the launch hands the body besides its windows: the nine scratch buffers, each at some contents, and the
    generator register. -/
theorem scratch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d))
        ∗ ∃ r, prngReg c r) := by
  unfold Pipeline.ΦA
  rw [scopedRest0_eq]
  simp only [owns_whole]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, scratch_eq]
  iintro ⟨⟨⟨S0, S1, S2, S3, S4, S5, S6, S7, S8⟩, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, S0, S1, S2, S3, S4, S5, S6, S7, S8⟩
  isplitr [Ho H0 H1 H2 H3 H4]
  · isplitr [Hr]
    swap; · iexact Hr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with the output array made of the blocks `outBand` gives and everything else as it was. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.BandIdeal.Hand

end
-- ==== Proof.BandTile.lean ====
module

public import proofs.«01_k».proof.Proof.Gen.BandIdeal.Skeleton
public import proofs.«01_k».proof.Proof.Softmax
public import Idealize.ShloMosaic.Lib.Pointwise
public import Idealize.ShloMosaic.Lib.Claim

/-! The dilated attention's tiles, read at an index: each is one softmax row of one head over a window
    of 256 keys. With it, what carries a row over a window of keys to the row over all positions. -/

@[expose] public section

set_option maxRecDepth 16384

noncomputable section

namespace Cert.BandIdeal.Hand

open Idealize.ShloMosaic Idealize.ShloMosaic.TcCoe Idealize.SL.Sem Cert.BandIdeal Cert.BandIdeal.Gen Cert.Math

section Rows
variable {ι κ : Type} [Fintype ι] [Fintype κ]

/-- The largest score of a row. -/
def peak (s : ι → EReal) : EReal := Finset.univ.fold max (Ideal.ofBits .f32 0xFF800000#32) s

/-- A row's weighted mean of the values `w` under the scores `s`, the division last. -/
def mean (s w : ι → EReal) : EReal := Ideal.div (∑ j, Ideal.exp (s j - peak s) * w j) (∑ j, Ideal.exp (s j - peak s))

/-- The logarithm of a row's sum of exponentials. -/
def logSum (s : ι → EReal) : EReal := peak s + Ideal.log (∑ j, Ideal.exp (s j - peak s))

theorem exp_masked (x : EReal) : Ideal.exp (⊥ - x) = 0 := by
  rw [sub_eq_add_neg, EReal.bot_add]; rfl

theorem peak_eq (s : ι → EReal) : peak s = Finset.univ.sup s := by
  unfold peak; rw [ninf]; rfl

/-- The scores `s` are the scores `s'` along `e`, and both are masked everywhere else. -/
structure Along (P : ι → Prop) (e : ι → κ) (s : ι → EReal) (s' : κ → EReal) : Prop where
  inj : ∀ a b, P a → P b → e a = e b → a = b
  eq : ∀ a, P a → s a = s' (e a)
  off : ∀ a, ¬ P a → s a = ⊥
  off' : ∀ b, (∀ a, P a → e a ≠ b) → s' b = ⊥

variable {P : ι → Prop} {e : ι → κ} {s : ι → EReal} {s' : κ → EReal}

theorem Along.peak (h : Along P e s s') : peak s = peak s' := by
  rw [peak_eq, peak_eq]
  apply le_antisymm
  · refine Finset.sup_le fun a _ => ?_
    by_cases ha : P a
    · rw [h.eq a ha]; exact Finset.le_sup (Finset.mem_univ _)
    · rw [h.off a ha]; exact bot_le
  · refine Finset.sup_le fun b _ => ?_
    by_cases hb : ∃ a, P a ∧ e a = b
    · obtain ⟨a, ha, rfl⟩ := hb
      rw [← h.eq a ha]; exact Finset.le_sup (Finset.mem_univ _)
    · rw [h.off' b fun a ha hab => hb ⟨a, ha, hab⟩]; exact bot_le

theorem Along.sum (h : Along P e s s') (M : EReal) (w : ι → EReal) (w' : κ → EReal) (hw : ∀ a, P a → w a = w' (e a)) :
    ∑ a, Ideal.exp (s a - M) * w a = ∑ b, Ideal.exp (s' b - M) * w' b := by
  have hP : ∀ a, Ideal.exp (s a - M) * w a ≠ 0 → P a := fun a ha => by
    by_contra hn; exact ha (by rw [h.off a hn, exp_masked, zero_mul])
  refine Finset.sum_bij_ne_zero (fun a _ _ => e a) (fun _ _ _ => Finset.mem_univ _)
    (fun a _ ha b _ hb hab => h.inj a b (hP a ha) (hP b hb) hab) (fun b _ hb => ?_) (fun a _ ha => by rw [h.eq a (hP a ha), hw a (hP a ha)])
  by_cases hx : ∃ a, P a ∧ e a = b
  · obtain ⟨a, ha, rfl⟩ := hx
    exact ⟨a, Finset.mem_univ _, by rw [h.eq a ha, hw a ha]; exact hb, rfl⟩
  · exact absurd (by rw [h.off' b fun a ha hab => hx ⟨a, ha, hab⟩, exp_masked, zero_mul]) hb

theorem Along.den (h : Along P e s s') (M : EReal) : ∑ a, Ideal.exp (s a - M) = ∑ b, Ideal.exp (s' b - M) := by
  simpa only [mul_one] using h.sum M (fun _ => 1) (fun _ => 1) fun _ _ => rfl

theorem Along.mean (h : Along P e s s') (w : ι → EReal) (w' : κ → EReal) (hw : ∀ a, P a → w a = w' (e a)) : mean s w = mean s' w' := by
  unfold Hand.mean; rw [h.peak, h.sum _ w w' hw, h.den]

theorem Along.logSum (h : Along P e s s') : logSum s = logSum s' := by
  unfold Hand.logSum; rw [h.peak, h.den]

end Rows

/-- The mixture of three branches, each of a log-sum and an output. -/
def mix (l0 l1 l2 o0 o1 o2 : EReal) : EReal :=
  Ideal.div (Ideal.exp (l0 - max (max l0 l1) l2)) (Ideal.exp (l0 - max (max l0 l1) l2) + Ideal.exp (l1 - max (max l0 l1) l2) + Ideal.exp (l2 - max (max l0 l1) l2)) * o0
    + Ideal.div (Ideal.exp (l1 - max (max l0 l1) l2)) (Ideal.exp (l0 - max (max l0 l1) l2) + Ideal.exp (l1 - max (max l0 l1) l2) + Ideal.exp (l2 - max (max l0 l1) l2)) * o1
    + Ideal.div (Ideal.exp (l2 - max (max l0 l1) l2)) (Ideal.exp (l0 - max (max l0 l1) l2) + Ideal.exp (l1 - max (max l0 l1) l2) + Ideal.exp (l2 - max (max l0 l1) l2)) * o2

/-- A query's score against a key of its window: over the lanes of head `h`, the query scaled first. -/
def tscore (q : Vec Ideal S1x128x128 .f32) (k : Vec Ideal S256x128 .f32) (b : Vec Ideal S1x1x128x256 .f32) (h : Fin 2) (i : Fin 128) (j : Fin 256) : EReal :=
  (∑ d : Fin 64, q (ix3 0 i ⟨h.val * 64 + d.val, by omega⟩) * Ideal.ofBits .f32 0x3E000000#32 * k (ix2 j ⟨h.val * 64 + d.val, by omega⟩)) + b (ix4 0 0 i j)

theorem lane0 : ∀ l : Fin 128, IntOp.cmpi .slt (BitVec.ofNat 32 l.val) 64#32 = if l.val / 64 = 0 then 1#1 else 0#1 := by decide +kernel
theorem lane1 : ∀ l : Fin 128, IntOp.xori (IntOp.cmpi .slt (BitVec.ofNat 32 l.val) 64#32) 1#1 = if l.val / 64 = 1 then 1#1 else 0#1 := by decide +kernel

/-- A choice by a lane's head. -/
theorem pick0 (l : Fin 128) (a b : EReal) :
    Scalar.select (IntOp.cmpi .slt (BitVec.ofNat 32 l.val) 64#32) a b = if l.val / 64 = 0 then a else b := by
  rw [lane0]; split <;> rfl
theorem pick1 (l : Fin 128) (a b : EReal) :
    Scalar.select (IntOp.xori (IntOp.cmpi .slt (BitVec.ofNat 32 l.val) 64#32) 1#1) a b = if l.val / 64 = 1 then a else b := by
  rw [lane1]; split <;> rfl

/-- A sum over the lanes that is zero outside head `h` is the sum over the head's lanes. -/
theorem sum_head (h : Fin 2) (f : Fin 128 → EReal) :
    (∑ l : Fin 128, if l.val / 64 = h.val then f l else 0) = ∑ d : Fin 64, f ⟨h.val * 64 + d.val, by omega⟩ := by
  refine (Finset.sum_bij_ne_zero (fun (d : Fin 64) _ _ => (⟨h.val * 64 + d.val, by omega⟩ : Fin 128)) (fun _ _ _ => Finset.mem_univ _)
    (fun a _ _ b _ _ hab => ?_) (fun l _ hl => ?_) (fun d _ _ => ?_)).symm
  · have := Fin.val_eq_of_eq hab
    exact Fin.ext (by simp only at this; omega)
  · have hh : l.val / 64 = h.val := by
      by_contra hn; exact hl (by rw [if_neg hn])
    rw [if_pos hh] at hl
    have el : (⟨h.val * 64 + l.val % 64, by omega⟩ : Fin 128) = l := Fin.ext (by show h.val * 64 + l.val % 64 = l.val; omega)
    exact ⟨⟨l.val % 64, by omega⟩, Finset.mem_univ _, by
      show f ⟨h.val * 64 + l.val % 64, _⟩ ≠ 0
      rw [el]; exact hl, el⟩
  · rw [if_pos (by show (h.val * 64 + d.val) / 64 = h.val; omega)]

theorem sum_head0 (f : Fin 128 → EReal) : (∑ l : Fin 128, if l.val / 64 = 0 then f l else 0)
      = ∑ d : Fin 64, f ⟨(0 : Fin 2).val * 64 + d.val, by omega⟩ := sum_head 0 f
theorem sum_head1 (f : Fin 128 → EReal) : (∑ l : Fin 128, if l.val / 64 = 1 then f l else 0)
      = ∑ d : Fin 64, f ⟨(1 : Fin 2).val * 64 + d.val, by omega⟩ := sum_head 1 f

variable (q : Vec Ideal S1x128x128 .f32) (k v : Vec Ideal S256x128 .f32) (b b' : Vec Ideal S1x1x128x256 .f32)

section Branch1

theorem first1_at (i : Fin 128) (j : Fin 256) : k0_pay11 (F := Ideal) k0_pay40 q k b (ix2 i j) = tscore q k b 0 i j := by
  pointwise [k0_pay11, k0_pay9, k0_pay8, k0_pay40]
  simp only [pick0, ite_mul, zero_mul, sum_head0]
  rfl

theorem second1_at (i : Fin 128) (j : Fin 256) :
    k0_pay51 (F := Ideal) k0_pay40 (k0_pay8 q) (k0_pay9 k) b (ix2 i j) = tscore q k b 1 i j := by
  pointwise [k0_pay51, k0_pay9, k0_pay8, k0_pay40]
  simp only [pick1, ite_mul, zero_mul, sum_head1]
  rfl

theorem firstMax1_at (i : Fin 128) (z : Fin 1) : k0_pay12 (F := Ideal) k0_pay40 q k b (ix2 i z) = peak (tscore q k b 0 i) := by
  pointwise [k0_pay12, first1_at]
  rfl

theorem secondMax1_at (i : Fin 128) (z : Fin 1) :
    k0_pay52 (F := Ideal) k0_pay40 (k0_pay8 q) (k0_pay9 k) b (ix2 i z) = peak (tscore q k b 1 i) := by
  pointwise [k0_pay52, second1_at]
  rfl

theorem firstSum1_at (i : Fin 128) (z : Fin 1) :
    k0_pay14 (F := Ideal) k0_pay40 q k b (ix2 i z) = ∑ j, Ideal.exp (tscore q k b 0 i j - peak (tscore q k b 0 i)) := by
  pointwise [k0_pay14, k0_pay13, first1_at, firstMax1_at]

theorem secondSum1_at (i : Fin 128) (z : Fin 1) :
    k0_pay54 (F := Ideal) k0_pay40 (k0_pay8 q) (k0_pay9 k) b (ix2 i z) = ∑ j, Ideal.exp (tscore q k b 1 i j - peak (tscore q k b 1 i)) := by
  pointwise [k0_pay54, k0_pay53, second1_at, secondMax1_at]

/-- The tile of outputs: each head's mean on the head's lanes. -/
theorem out1_at (i l : Fin 128) :
    k0_pay55 (F := Ideal) k0_pay40 (k0_pay8 q) (k0_pay9 k) (k0_pay10 v) (k0_pay14 k0_pay40 q k b) (k0_pay16 k0_pay40 q k b) b' (ix2 i l)
      = if l.val / 64 = 0 then mean (tscore q k b 0 i) (fun j => v (ix2 j l)) else mean (tscore q k b' 1 i) (fun j => v (ix2 j l)) := by
  pointwise [k0_pay55, k0_pay16, k0_pay10, k0_pay13, k0_pay53, first1_at, firstMax1_at, second1_at, secondMax1_at, firstSum1_at, secondSum1_at]
  pointwise [k0_pay40]
  rw [pick0]
  rfl

/-- The tile of log-sums. -/
theorem lse1_at (i l : Fin 128) :
    k0_pay56 (F := Ideal) k0_pay40 (k0_pay8 q) (k0_pay9 k) (k0_pay15 k0_pay40 q k b) b' (ix2 i l)
      = if l.val / 64 = 0 then logSum (tscore q k b 0 i) else logSum (tscore q k b' 1 i) := by
  pointwise [k0_pay56, k0_pay15, firstMax1_at, secondMax1_at, firstSum1_at, secondSum1_at]
  pointwise [k0_pay40]
  rw [pick0]
  rfl

end Branch1

section Branch2

theorem first2_at (i : Fin 128) (j : Fin 256) : k0_pay20 (F := Ideal) k0_pay40 q k b (ix2 i j) = tscore q k b 0 i j := by
  pointwise [k0_pay20, k0_pay18, k0_pay17, k0_pay40]
  simp only [pick0, ite_mul, zero_mul, sum_head0]
  rfl

theorem second2_at (i : Fin 128) (j : Fin 256) :
    k0_pay65 (F := Ideal) k0_pay40 (k0_pay17 q) (k0_pay18 k) b (ix2 i j) = tscore q k b 1 i j := by
  pointwise [k0_pay65, k0_pay18, k0_pay17, k0_pay40]
  simp only [pick1, ite_mul, zero_mul, sum_head1]
  rfl

theorem firstMax2_at (i : Fin 128) (z : Fin 1) : k0_pay21 (F := Ideal) k0_pay40 q k b (ix2 i z) = peak (tscore q k b 0 i) := by
  pointwise [k0_pay21, first2_at]
  rfl

theorem secondMax2_at (i : Fin 128) (z : Fin 1) :
    k0_pay66 (F := Ideal) k0_pay40 (k0_pay17 q) (k0_pay18 k) b (ix2 i z) = peak (tscore q k b 1 i) := by
  pointwise [k0_pay66, second2_at]
  rfl

theorem firstSum2_at (i : Fin 128) (z : Fin 1) :
    k0_pay23 (F := Ideal) k0_pay40 q k b (ix2 i z) = ∑ j, Ideal.exp (tscore q k b 0 i j - peak (tscore q k b 0 i)) := by
  pointwise [k0_pay23, k0_pay22, first2_at, firstMax2_at]

theorem secondSum2_at (i : Fin 128) (z : Fin 1) :
    k0_pay68 (F := Ideal) k0_pay40 (k0_pay17 q) (k0_pay18 k) b (ix2 i z) = ∑ j, Ideal.exp (tscore q k b 1 i j - peak (tscore q k b 1 i)) := by
  pointwise [k0_pay68, k0_pay67, second2_at, secondMax2_at]

/-- The tile of outputs: each head's mean on the head's lanes. -/
theorem out2_at (i l : Fin 128) :
    k0_pay69 (F := Ideal) k0_pay40 (k0_pay17 q) (k0_pay18 k) (k0_pay19 v) (k0_pay23 k0_pay40 q k b) (k0_pay25 k0_pay40 q k b) b' (ix2 i l)
      = if l.val / 64 = 0 then mean (tscore q k b 0 i) (fun j => v (ix2 j l)) else mean (tscore q k b' 1 i) (fun j => v (ix2 j l)) := by
  pointwise [k0_pay69, k0_pay25, k0_pay19, k0_pay22, k0_pay67, first2_at, firstMax2_at, second2_at, secondMax2_at, firstSum2_at, secondSum2_at]
  pointwise [k0_pay40]
  rw [pick0]
  rfl

/-- The tile of log-sums. -/
theorem lse2_at (i l : Fin 128) :
    k0_pay70 (F := Ideal) k0_pay40 (k0_pay17 q) (k0_pay18 k) (k0_pay24 k0_pay40 q k b) b' (ix2 i l)
      = if l.val / 64 = 0 then logSum (tscore q k b 0 i) else logSum (tscore q k b' 1 i) := by
  pointwise [k0_pay70, k0_pay24, firstMax2_at, secondMax2_at, firstSum2_at, secondSum2_at]
  pointwise [k0_pay40]
  rw [pick0]
  rfl

end Branch2

section Branch3

theorem first3_at (i : Fin 128) (j : Fin 256) : k0_pay29 (F := Ideal) k0_pay40 q k b (ix2 i j) = tscore q k b 0 i j := by
  pointwise [k0_pay29, k0_pay27, k0_pay26, k0_pay40]
  simp only [pick0, ite_mul, zero_mul, sum_head0]
  rfl

theorem second3_at (i : Fin 128) (j : Fin 256) :
    k0_pay1 (F := Ideal) k0_pay40 (k0_pay26 q) (k0_pay27 k) b (ix2 i j) = tscore q k b 1 i j := by
  pointwise [k0_pay1, k0_pay27, k0_pay26, k0_pay40]
  simp only [pick1, ite_mul, zero_mul, sum_head1]
  rfl

theorem firstMax3_at (i : Fin 128) (z : Fin 1) : k0_pay30 (F := Ideal) k0_pay40 q k b (ix2 i z) = peak (tscore q k b 0 i) := by
  pointwise [k0_pay30, first3_at]
  rfl

theorem secondMax3_at (i : Fin 128) (z : Fin 1) :
    k0_pay2 (F := Ideal) k0_pay40 (k0_pay26 q) (k0_pay27 k) b (ix2 i z) = peak (tscore q k b 1 i) := by
  pointwise [k0_pay2, second3_at]
  rfl

theorem firstSum3_at (i : Fin 128) (z : Fin 1) :
    k0_pay32 (F := Ideal) k0_pay40 q k b (ix2 i z) = ∑ j, Ideal.exp (tscore q k b 0 i j - peak (tscore q k b 0 i)) := by
  pointwise [k0_pay32, k0_pay31, first3_at, firstMax3_at]

theorem secondSum3_at (i : Fin 128) (z : Fin 1) :
    k0_pay4 (F := Ideal) k0_pay40 (k0_pay26 q) (k0_pay27 k) b (ix2 i z) = ∑ j, Ideal.exp (tscore q k b 1 i j - peak (tscore q k b 1 i)) := by
  pointwise [k0_pay4, k0_pay3, second3_at, secondMax3_at]

/-- The tile of outputs: each head's mean on the head's lanes. -/
theorem out3_at (i l : Fin 128) :
    k0_pay5 (F := Ideal) k0_pay40 (k0_pay26 q) (k0_pay27 k) (k0_pay28 v) (k0_pay32 k0_pay40 q k b) (k0_pay34 k0_pay40 q k b) b' (ix2 i l)
      = if l.val / 64 = 0 then mean (tscore q k b 0 i) (fun j => v (ix2 j l)) else mean (tscore q k b' 1 i) (fun j => v (ix2 j l)) := by
  pointwise [k0_pay5, k0_pay34, k0_pay28, k0_pay31, k0_pay3, first3_at, firstMax3_at, second3_at, secondMax3_at, firstSum3_at, secondSum3_at]
  pointwise [k0_pay40]
  rw [pick0]
  rfl

/-- The tile of log-sums. -/
theorem lse3_at (i l : Fin 128) :
    k0_pay6 (F := Ideal) k0_pay40 (k0_pay26 q) (k0_pay27 k) (k0_pay33 k0_pay40 q k b) b' (ix2 i l)
      = if l.val / 64 = 0 then logSum (tscore q k b 0 i) else logSum (tscore q k b' 1 i) := by
  pointwise [k0_pay6, k0_pay33, firstMax3_at, secondMax3_at, firstSum3_at, secondSum3_at]
  pointwise [k0_pay40]
  rw [pick0]
  rfl

end Branch3

/-- The stored tile: the mixture of the three branches. -/
theorem mix_at (l0 l1 l2 o0 o1 o2 : Vec Ideal S256x128 .f32) (i : Fin 256) (l : Fin 128) :
    k0_pay7 (F := Ideal) l0 l1 l2 o0 o1 o2 (ix3 0 i l)
      = mix (l0 (ix2 i l)) (l1 (ix2 i l)) (l2 (ix2 i l)) (o0 (ix2 i l)) (o1 (ix2 i l)) (o2 (ix2 i l)) := by
  pointwise [k0_pay7]
  rfl

end Cert.BandIdeal.Hand

end
-- ==== Proof.BandRead.lean ====
module

public import proofs.«01_k».proof.Proof.Gen.BandRefIdeal.Read
public import proofs.«01_k».proof.Proof.BandTile
public import Idealize.ShloMosaic.Lib.Pointwise

/-! The dilated attention's reference, read at an index: the mixture of three softmax rows over all
    positions, each masked outside its branch's window. -/

@[expose] public section

set_option maxRecDepth 16384

noncomputable section

namespace Cert.BandRefIdeal.Hand

open Idealize.ShloMosaic Idealize.ShloMosaic.TcCoe Idealize.SL.Sem Cert.BandRefIdeal Cert.BandRefIdeal.Read Cert.Math
open Cert.BandIdeal.Hand (peak mean logSum mix)

/-- The positions a query at `s` sees in the branch of window `W` and dilation `d`. -/
def near (W d : Nat) (s s' : Fin 4096) : Prop := s'.val ≤ s.val ∧ s.val - s'.val ≤ W ∧ (s.val - s'.val) % d = 0

instance (W d : Nat) (s s' : Fin 4096) : Decidable (near W d s s') := inferInstanceAs (Decidable (_ ∧ _))

/-- The distance between two positions, as a word. -/
def dist (s s' : Fin 4096) : BitVec 32 := IntOp.subi (BitVec.ofNat 32 s.val) (BitVec.ofNat 32 s'.val)

theorem dist_le {s s' : Fin 4096} (h : s'.val ≤ s.val) : dist s s' = BitVec.ofNat 32 (s.val - s'.val) := by
  unfold dist IntOp.subi
  have h1 := s.isLt; have h2 := s'.isLt
  apply BitVec.eq_of_toNat_eq
  simp only [BitVec.toNat_sub, BitVec.toNat_ofNat]
  omega

theorem dist_gt {s s' : Fin 4096} (h : s.val < s'.val) : dist s s' = IntOp.subi 0#32 (BitVec.ofNat 32 (s'.val - s.val)) := by
  unfold dist IntOp.subi
  have h1 := s.isLt; have h2 := s'.isLt
  apply BitVec.eq_of_toNat_eq
  simp only [BitVec.toNat_sub, BitVec.toNat_ofNat]
  omega

/-- The mask's three comparisons. -/
def seen (W d x : BitVec 32) : BitVec 1 :=
  IntOp.andi (IntOp.andi (IntOp.cmpi .sge x 0#32) (IntOp.cmpi .sle x W)) (IntOp.cmpi .eq (IntOp.remsi .host x d) 0#32)

/-- A score, masked outside the window. -/
def rscore (W d : Nat) (X0 X1 : FVec Ideal S16x4096x384 .f32) (X3 : FVec Ideal S6 .f32) (b : Fin 16) (h : Fin 6) (s s' : Fin 4096) : EReal :=
  if near W d s s' then
    (∑ e : Fin 64, X0 (ix3 b s ⟨h.val * 64 + e.val, by omega⟩) * X1 (ix3 b s' ⟨h.val * 64 + e.val, by omega⟩)) * Ideal.ofBits .f32 0x3E000000#32
      + -X3 (ix1 h) * (((dist s s').toInt : ℝ) : EReal)
  else ⊥

/-- A maximum over the last axis, at an index. -/
theorem reduce_max (v : FVec Ideal S16x6x4096x4096 .f32) (c : FVec Ideal S_ .f32) (hr : S16x6x4096x4096.ReducesTo [3] S16x6x4096) (hu)
    (b : Fin 16) (h : Fin 6) (s : Fin 4096) :
    Host.reduce FloatOps.maximumf v c hr hu (ix3 b h s) = Finset.univ.fold max (c (Shape.Idx.first hu)) fun m : Fin 4096 => v (ix4 b h s m) := by
  simp only [pointwise]

variable (X0 X1 X2 : FVec Ideal S16x4096x384 .f32) (X3 : FVec Ideal S6 .f32)

section Branch1

theorem ahead1 : ∀ x : Fin 4096, seen 128#32 1#32 (BitVec.ofNat 32 x.val) = if x.val ≤ 128 ∧ x.val % 1 = 0 then 1#1 else 0#1 := by decide +kernel
theorem behind1 : ∀ x : Fin 4096, x.val ≠ 0 → seen 128#32 1#32 (IntOp.subi 0#32 (BitVec.ofNat 32 x.val)) = 0#1 := by decide +kernel

theorem seen1 (s s' : Fin 4096) : seen 128#32 1#32 (dist s s') = if near 128 1 s s' then 1#1 else 0#1 := by
  have h1 := s.isLt
  have h2 := s'.isLt
  rcases Nat.lt_or_ge s.val s'.val with h | h
  · rw [dist_gt h, behind1 ⟨s'.val - s.val, by omega⟩ (by show s'.val - s.val ≠ 0; omega), if_neg fun hn => by have := hn.1; omega]
  · rw [dist_le h, ahead1 ⟨s.val - s'.val, by omega⟩]
    by_cases hn : s.val - s'.val ≤ 128 ∧ (s.val - s'.val) % 1 = 0
    · rw [if_pos hn, if_pos ⟨h, hn.1, hn.2⟩]
    · rw [if_neg hn, if_neg fun hx => hn hx.2]

theorem mask1_at (s s' : Fin 4096) : val_main_v24 (F := Ideal) (ix2 s s') = if near 128 1 s s' then 1#1 else 0#1 := by
  rw [← seen1]
  pointwise [val_main_v24, val_main_v23, val_main_v22, val_main_v21, val_main_v20, val_main_v19, val_main_v18, val_main_v17, val_main_v16, val_main_v15, val_main_v14, val_main_v13, val_main_v12, val_main_v11, val_main_v10, val_main_v9, val_main_c, val_main_c_0, val_main_c_1, val_main_c_2]
  rfl

theorem score1_at (b : Fin 16) (h : Fin 6) (s s' : Fin 4096) : val_main_v35 (F := Ideal) X0 X1 X3 (ix4 b h s s') = rscore 128 1 X0 X1 X3 b h s s' := by
  pointwise [val_main_v35, val_main_v34, val_main_v33, val_main_v32, val_main_v31, val_main_v30, val_main_v29, val_main_v28, val_main_v27, val_main_v26, val_main_v25, val_main_v14, val_main_v13, val_main_v12, val_main_v11, val_main_v10, val_main_v9, val_main_v8, val_main_v7, val_main_v6, val_main_v3, val_main_v2, val_main_v1, val_main_v0, val_main_cst, val_main_cst_3, val_main_call0_v0, val_main_call0_v1, val_main_call0_v2, mask1_at]
  unfold rscore
  split
  · rfl
  · exact ninf

theorem max1_at (b : Fin 16) (h : Fin 6) (s : Fin 4096) : val_main_v36 (F := Ideal) X0 X1 X3 (ix3 b h s) = peak (rscore 128 1 X0 X1 X3 b h s) := by
  unfold val_main_v36
  generalize hv : val_main_v35 (F := Ideal) X0 X1 X3 = v
  rw [reduce_max]
  subst hv
  simp only [score1_at, val_main_cst_4_apply]
  rfl

theorem exp1_at (b : Fin 16) (h : Fin 6) (s s' : Fin 4096) :
    val_main_v40 (F := Ideal) X0 X1 X3 (ix4 b h s s') = Ideal.exp (rscore 128 1 X0 X1 X3 b h s s' - peak (rscore 128 1 X0 X1 X3 b h s)) := by
  pointwise [val_main_v40, val_main_v39, val_main_v38, val_main_v37, score1_at, max1_at]

theorem sum1_at (b : Fin 16) (h : Fin 6) (s : Fin 4096) :
    val_main_v41 (F := Ideal) X0 X1 X3 (ix3 b h s) = ∑ s', Ideal.exp (rscore 128 1 X0 X1 X3 b h s s' - peak (rscore 128 1 X0 X1 X3 b h s)) := by
  pointwise [val_main_v41, val_main_cst_5, exp1_at]

theorem flat1 (b : Fin 16) (h : Fin 6) (s : Fin 4096) : idx_main_v43 (ix3 b h s) = ix4 b h s (0 : Fin 1) := by
  funext a
  match a with
  | 0 => apply Fin.ext; show ((b.val * 6 + h.val) * 4096 + s.val) / 24576 = b.val; omega
  | 1 => apply Fin.ext; show ((b.val * 6 + h.val) * 4096 + s.val) / 4096 % 6 = h.val; omega
  | 2 => apply Fin.ext; show ((b.val * 6 + h.val) * 4096 + s.val) / 1 % 4096 = s.val; omega
  | 3 => rfl

theorem keptMax1_at (b : Fin 16) (h : Fin 6) (s : Fin 4096) : val_main_v43 (F := Ideal) X0 X1 X3 (ix3 b h s) = peak (rscore 128 1 X0 X1 X3 b h s) := by
  rw [val_main_v43_apply, flat1]
  pointwise [val_main_v37, max1_at]

theorem keptSum1_at (b : Fin 16) (h : Fin 6) (s : Fin 4096) :
    val_main_v44 (F := Ideal) X0 X1 X3 (ix3 b h s) = ∑ s', Ideal.exp (rscore 128 1 X0 X1 X3 b h s s' - peak (rscore 128 1 X0 X1 X3 b h s)) := by
  rw [val_main_v44_apply, show idx_main_v44 (ix3 b h s) = ix4 b h s (0 : Fin 1) from flat1 b h s]
  pointwise [val_main_v42, sum1_at]

theorem lse1_at (b : Fin 16) (h : Fin 6) (s : Fin 4096) :
    val_main_v46 (F := Ideal) X0 X1 X3 (ix3 b h s) = logSum (rscore 128 1 X0 X1 X3 b h s) := by
  rw [val_main_v46_apply, val_main_v45_apply, keptMax1_at, keptSum1_at]
  rfl

theorem out1_at (b : Fin 16) (h : Fin 6) (s : Fin 4096) (e : Fin 64) :
    val_main_v49 (F := Ideal) X0 X1 X2 X3 (ix4 b h s e)
      = mean (rscore 128 1 X0 X1 X3 b h s) (fun s' => X2 (ix3 b s' ⟨h.val * 64 + e.val, by omega⟩)) := by
  pointwise [val_main_v49, val_main_v48, val_main_v47, val_main_v42, val_main_v5, val_main_v4, exp1_at, sum1_at]
  rfl

end Branch1

section Branch2

theorem ahead2 : ∀ x : Fin 4096, seen 512#32 4#32 (BitVec.ofNat 32 x.val) = if x.val ≤ 512 ∧ x.val % 4 = 0 then 1#1 else 0#1 := by decide +kernel
theorem behind2 : ∀ x : Fin 4096, x.val ≠ 0 → seen 512#32 4#32 (IntOp.subi 0#32 (BitVec.ofNat 32 x.val)) = 0#1 := by decide +kernel

theorem seen2 (s s' : Fin 4096) : seen 512#32 4#32 (dist s s') = if near 512 4 s s' then 1#1 else 0#1 := by
  have h1 := s.isLt
  have h2 := s'.isLt
  rcases Nat.lt_or_ge s.val s'.val with h | h
  · rw [dist_gt h, behind2 ⟨s'.val - s.val, by omega⟩ (by show s'.val - s.val ≠ 0; omega), if_neg fun hn => by have := hn.1; omega]
  · rw [dist_le h, ahead2 ⟨s.val - s'.val, by omega⟩]
    by_cases hn : s.val - s'.val ≤ 512 ∧ (s.val - s'.val) % 4 = 0
    · rw [if_pos hn, if_pos ⟨h, hn.1, hn.2⟩]
    · rw [if_neg hn, if_neg fun hx => hn hx.2]

theorem mask2_at (s s' : Fin 4096) : val_main_v68 (F := Ideal) (ix2 s s') = if near 512 4 s s' then 1#1 else 0#1 := by
  rw [← seen2]
  pointwise [val_main_v68, val_main_v67, val_main_v66, val_main_v65, val_main_v64, val_main_v63, val_main_v62, val_main_v61, val_main_v60, val_main_v59, val_main_v58, val_main_v57, val_main_v56, val_main_v55, val_main_v54, val_main_v53, val_main_c_7, val_main_c_8, val_main_c_9, val_main_c_10]
  rfl

theorem score2_at (b : Fin 16) (h : Fin 6) (s s' : Fin 4096) : val_main_v79 (F := Ideal) X0 X1 X3 (ix4 b h s s') = rscore 512 4 X0 X1 X3 b h s s' := by
  pointwise [val_main_v79, val_main_v78, val_main_v77, val_main_v76, val_main_v75, val_main_v74, val_main_v73, val_main_v72, val_main_v71, val_main_v70, val_main_v69, val_main_v58, val_main_v57, val_main_v56, val_main_v55, val_main_v54, val_main_v53, val_main_v52, val_main_v51, val_main_v50, val_main_v3, val_main_v2, val_main_v1, val_main_v0, val_main_cst_6, val_main_cst_11, val_main_call1_v0, val_main_call1_v1, val_main_call1_v2, mask2_at]
  unfold rscore
  split
  · rfl
  · exact ninf

theorem max2_at (b : Fin 16) (h : Fin 6) (s : Fin 4096) : val_main_v80 (F := Ideal) X0 X1 X3 (ix3 b h s) = peak (rscore 512 4 X0 X1 X3 b h s) := by
  unfold val_main_v80
  generalize hv : val_main_v79 (F := Ideal) X0 X1 X3 = v
  rw [reduce_max]
  subst hv
  simp only [score2_at, val_main_cst_12_apply]
  rfl

theorem exp2_at (b : Fin 16) (h : Fin 6) (s s' : Fin 4096) :
    val_main_v84 (F := Ideal) X0 X1 X3 (ix4 b h s s') = Ideal.exp (rscore 512 4 X0 X1 X3 b h s s' - peak (rscore 512 4 X0 X1 X3 b h s)) := by
  pointwise [val_main_v84, val_main_v83, val_main_v82, val_main_v81, score2_at, max2_at]

theorem sum2_at (b : Fin 16) (h : Fin 6) (s : Fin 4096) :
    val_main_v85 (F := Ideal) X0 X1 X3 (ix3 b h s) = ∑ s', Ideal.exp (rscore 512 4 X0 X1 X3 b h s s' - peak (rscore 512 4 X0 X1 X3 b h s)) := by
  pointwise [val_main_v85, val_main_cst_13, exp2_at]

theorem flat2 (b : Fin 16) (h : Fin 6) (s : Fin 4096) : idx_main_v87 (ix3 b h s) = ix4 b h s (0 : Fin 1) := by
  funext a
  match a with
  | 0 => apply Fin.ext; show ((b.val * 6 + h.val) * 4096 + s.val) / 24576 = b.val; omega
  | 1 => apply Fin.ext; show ((b.val * 6 + h.val) * 4096 + s.val) / 4096 % 6 = h.val; omega
  | 2 => apply Fin.ext; show ((b.val * 6 + h.val) * 4096 + s.val) / 1 % 4096 = s.val; omega
  | 3 => rfl

theorem keptMax2_at (b : Fin 16) (h : Fin 6) (s : Fin 4096) : val_main_v87 (F := Ideal) X0 X1 X3 (ix3 b h s) = peak (rscore 512 4 X0 X1 X3 b h s) := by
  rw [val_main_v87_apply, flat2]
  pointwise [val_main_v81, max2_at]

theorem keptSum2_at (b : Fin 16) (h : Fin 6) (s : Fin 4096) :
    val_main_v88 (F := Ideal) X0 X1 X3 (ix3 b h s) = ∑ s', Ideal.exp (rscore 512 4 X0 X1 X3 b h s s' - peak (rscore 512 4 X0 X1 X3 b h s)) := by
  rw [val_main_v88_apply, show idx_main_v88 (ix3 b h s) = ix4 b h s (0 : Fin 1) from flat2 b h s]
  pointwise [val_main_v86, sum2_at]

theorem lse2_at (b : Fin 16) (h : Fin 6) (s : Fin 4096) :
    val_main_v90 (F := Ideal) X0 X1 X3 (ix3 b h s) = logSum (rscore 512 4 X0 X1 X3 b h s) := by
  rw [val_main_v90_apply, val_main_v89_apply, keptMax2_at, keptSum2_at]
  rfl

theorem out2_at (b : Fin 16) (h : Fin 6) (s : Fin 4096) (e : Fin 64) :
    val_main_v93 (F := Ideal) X0 X1 X2 X3 (ix4 b h s e)
      = mean (rscore 512 4 X0 X1 X3 b h s) (fun s' => X2 (ix3 b s' ⟨h.val * 64 + e.val, by omega⟩)) := by
  pointwise [val_main_v93, val_main_v92, val_main_v91, val_main_v86, val_main_v5, val_main_v4, exp2_at, sum2_at]
  rfl

end Branch2

section Branch3

theorem ahead3 : ∀ x : Fin 4096, seen 2048#32 16#32 (BitVec.ofNat 32 x.val) = if x.val ≤ 2048 ∧ x.val % 16 = 0 then 1#1 else 0#1 := by decide +kernel
theorem behind3 : ∀ x : Fin 4096, x.val ≠ 0 → seen 2048#32 16#32 (IntOp.subi 0#32 (BitVec.ofNat 32 x.val)) = 0#1 := by decide +kernel

theorem seen3 (s s' : Fin 4096) : seen 2048#32 16#32 (dist s s') = if near 2048 16 s s' then 1#1 else 0#1 := by
  have h1 := s.isLt
  have h2 := s'.isLt
  rcases Nat.lt_or_ge s.val s'.val with h | h
  · rw [dist_gt h, behind3 ⟨s'.val - s.val, by omega⟩ (by show s'.val - s.val ≠ 0; omega), if_neg fun hn => by have := hn.1; omega]
  · rw [dist_le h, ahead3 ⟨s.val - s'.val, by omega⟩]
    by_cases hn : s.val - s'.val ≤ 2048 ∧ (s.val - s'.val) % 16 = 0
    · rw [if_pos hn, if_pos ⟨h, hn.1, hn.2⟩]
    · rw [if_neg hn, if_neg fun hx => hn hx.2]

theorem mask3_at (s s' : Fin 4096) : val_main_v112 (F := Ideal) (ix2 s s') = if near 2048 16 s s' then 1#1 else 0#1 := by
  rw [← seen3]
  pointwise [val_main_v112, val_main_v111, val_main_v110, val_main_v109, val_main_v108, val_main_v107, val_main_v106, val_main_v105, val_main_v104, val_main_v103, val_main_v102, val_main_v101, val_main_v100, val_main_v99, val_main_v98, val_main_v97, val_main_c_15, val_main_c_16, val_main_c_17, val_main_c_18]
  rfl

theorem score3_at (b : Fin 16) (h : Fin 6) (s s' : Fin 4096) : val_main_v123 (F := Ideal) X0 X1 X3 (ix4 b h s s') = rscore 2048 16 X0 X1 X3 b h s s' := by
  pointwise [val_main_v123, val_main_v122, val_main_v121, val_main_v120, val_main_v119, val_main_v118, val_main_v117, val_main_v116, val_main_v115, val_main_v114, val_main_v113, val_main_v102, val_main_v101, val_main_v100, val_main_v99, val_main_v98, val_main_v97, val_main_v96, val_main_v95, val_main_v94, val_main_v3, val_main_v2, val_main_v1, val_main_v0, val_main_cst_14, val_main_cst_19, val_main_call2_v0, val_main_call2_v1, val_main_call2_v2, mask3_at]
  unfold rscore
  split
  · rfl
  · exact ninf

theorem max3_at (b : Fin 16) (h : Fin 6) (s : Fin 4096) : val_main_v124 (F := Ideal) X0 X1 X3 (ix3 b h s) = peak (rscore 2048 16 X0 X1 X3 b h s) := by
  unfold val_main_v124
  generalize hv : val_main_v123 (F := Ideal) X0 X1 X3 = v
  rw [reduce_max]
  subst hv
  simp only [score3_at, val_main_cst_20_apply]
  rfl

theorem exp3_at (b : Fin 16) (h : Fin 6) (s s' : Fin 4096) :
    val_main_v128 (F := Ideal) X0 X1 X3 (ix4 b h s s') = Ideal.exp (rscore 2048 16 X0 X1 X3 b h s s' - peak (rscore 2048 16 X0 X1 X3 b h s)) := by
  pointwise [val_main_v128, val_main_v127, val_main_v126, val_main_v125, score3_at, max3_at]

theorem sum3_at (b : Fin 16) (h : Fin 6) (s : Fin 4096) :
    val_main_v129 (F := Ideal) X0 X1 X3 (ix3 b h s) = ∑ s', Ideal.exp (rscore 2048 16 X0 X1 X3 b h s s' - peak (rscore 2048 16 X0 X1 X3 b h s)) := by
  pointwise [val_main_v129, val_main_cst_21, exp3_at]

theorem flat3 (b : Fin 16) (h : Fin 6) (s : Fin 4096) : idx_main_v131 (ix3 b h s) = ix4 b h s (0 : Fin 1) := by
  funext a
  match a with
  | 0 => apply Fin.ext; show ((b.val * 6 + h.val) * 4096 + s.val) / 24576 = b.val; omega
  | 1 => apply Fin.ext; show ((b.val * 6 + h.val) * 4096 + s.val) / 4096 % 6 = h.val; omega
  | 2 => apply Fin.ext; show ((b.val * 6 + h.val) * 4096 + s.val) / 1 % 4096 = s.val; omega
  | 3 => rfl

theorem keptMax3_at (b : Fin 16) (h : Fin 6) (s : Fin 4096) : val_main_v131 (F := Ideal) X0 X1 X3 (ix3 b h s) = peak (rscore 2048 16 X0 X1 X3 b h s) := by
  rw [val_main_v131_apply, flat3]
  pointwise [val_main_v125, max3_at]

theorem keptSum3_at (b : Fin 16) (h : Fin 6) (s : Fin 4096) :
    val_main_v132 (F := Ideal) X0 X1 X3 (ix3 b h s) = ∑ s', Ideal.exp (rscore 2048 16 X0 X1 X3 b h s s' - peak (rscore 2048 16 X0 X1 X3 b h s)) := by
  rw [val_main_v132_apply, show idx_main_v132 (ix3 b h s) = ix4 b h s (0 : Fin 1) from flat3 b h s]
  pointwise [val_main_v130, sum3_at]

theorem lse3_at (b : Fin 16) (h : Fin 6) (s : Fin 4096) :
    val_main_v134 (F := Ideal) X0 X1 X3 (ix3 b h s) = logSum (rscore 2048 16 X0 X1 X3 b h s) := by
  rw [val_main_v134_apply, val_main_v133_apply, keptMax3_at, keptSum3_at]
  rfl

theorem out3_at (b : Fin 16) (h : Fin 6) (s : Fin 4096) (e : Fin 64) :
    val_main_v137 (F := Ideal) X0 X1 X2 X3 (ix4 b h s e)
      = mean (rscore 2048 16 X0 X1 X3 b h s) (fun s' => X2 (ix3 b s' ⟨h.val * 64 + e.val, by omega⟩)) := by
  pointwise [val_main_v137, val_main_v136, val_main_v135, val_main_v130, val_main_v5, val_main_v4, exp3_at, sum3_at]
  rfl

end Branch3

/-- The three log-sums and the three outputs, by branch. -/
def lses (b : Fin 16) (h : Fin 6) (s : Fin 4096) : Fin 3 → EReal
  | 0 => logSum (rscore 128 1 X0 X1 X3 b h s)
  | 1 => logSum (rscore 512 4 X0 X1 X3 b h s)
  | 2 => logSum (rscore 2048 16 X0 X1 X3 b h s)

theorem stack_at (c : Fin 3) (b : Fin 16) (h : Fin 6) (s : Fin 4096) :
    val_main_v141 (F := Ideal) X0 X1 X3 (ix4 c b h s) = lses X0 X1 X3 b h s c := by
  match c with
  | 0 => pointwise [val_main_v141, val_main_v138, val_main_v139, val_main_v140, lse1_at, lse2_at, lse3_at, lses]
  | 1 => pointwise [val_main_v141, val_main_v138, val_main_v139, val_main_v140, lse1_at, lse2_at, lse3_at, lses]
  | 2 => pointwise [val_main_v141, val_main_v138, val_main_v139, val_main_v140, lse1_at, lse2_at, lse3_at, lses]

end Cert.BandRefIdeal.Hand

end
-- ==== Proof.BandResult.lean ====
module

public import proofs.«01_k».proof.Proof.BandRead

/-! The dilated attention's reference: its result at an index, the mixture of the three branches. -/

@[expose] public section

set_option maxRecDepth 16384

noncomputable section

namespace Cert.BandRefIdeal.Hand

open Idealize.ShloMosaic Idealize.ShloMosaic.TcCoe Idealize.SL.Sem Cert.BandRefIdeal Cert.BandRefIdeal.Read Cert.Math
open Cert.BandIdeal.Hand (peak mean logSum mix peak_eq)

variable (X0 X1 X2 : FVec Ideal S16x4096x384 .f32) (X3 : FVec Ideal S6 .f32)

/-- The largest of three. -/
theorem top3 (f : Fin 3 → EReal) : peak f = max (max (f 0) (f 1)) (f 2) := by
  rw [peak_eq]
  apply le_antisymm
  · refine Finset.sup_le fun c _ => ?_
    match c with
    | 0 => exact le_max_of_le_left (le_max_left _ _)
    | 1 => exact le_max_of_le_left (le_max_right _ _)
    | 2 => exact le_max_right _ _
  · exact max_le (max_le (Finset.le_sup (Finset.mem_univ _)) (Finset.le_sup (Finset.mem_univ _))) (Finset.le_sup (Finset.mem_univ _))

/-- A maximum over the first axis, at an index. -/
theorem reduce_max0 (v : FVec Ideal S3x16x6x4096 .f32) (c : FVec Ideal S_ .f32) (hr : S3x16x6x4096.ReducesTo [0] S16x6x4096) (hu)
    (b : Fin 16) (h : Fin 6) (s : Fin 4096) :
    Host.reduce FloatOps.maximumf v c hr hu (ix3 b h s) = Finset.univ.fold max (c (Shape.Idx.first hu)) fun m : Fin 3 => v (ix4 m b h s) := by
  simp only [pointwise]

theorem largest_at (b : Fin 16) (h : Fin 6) (s : Fin 4096) :
    val_main_v144 (F := Ideal) X0 X1 X3 (ix3 b h s) = peak (lses X0 X1 X3 b h s) := by
  rw [val_main_v144_apply, val_main_v143_apply, val_main_cst_23_apply]
  unfold val_main_v142
  generalize hv : val_main_v141 (F := Ideal) X0 X1 X3 = v
  rw [reduce_max0]
  subst hv
  simp only [stack_at, val_main_cst_22_apply, Ideal.maximumf_def, Ideal.ofBits_def, ninf]
  rw [peak_eq]
  exact max_eq_right bot_le

theorem part_at (c : Fin 3) (b : Fin 16) (h : Fin 6) (s : Fin 4096) :
    val_main_v148 (F := Ideal) X0 X1 X3 (ix4 c b h s) = Ideal.exp (lses X0 X1 X3 b h s c - peak (lses X0 X1 X3 b h s)) := by
  pointwise [val_main_v148, val_main_v147, val_main_v146, val_main_v145, stack_at, largest_at]

theorem whole_at (b : Fin 16) (h : Fin 6) (s : Fin 4096) :
    val_main_v149 (F := Ideal) X0 X1 X3 (ix3 b h s) = ∑ c, Ideal.exp (lses X0 X1 X3 b h s c - peak (lses X0 X1 X3 b h s)) := by
  pointwise [val_main_v149, val_main_cst_24, part_at]

theorem weight_at (c : Fin 3) (b : Fin 16) (h : Fin 6) (s : Fin 4096) :
    val_main_v152 (F := Ideal) X0 X1 X3 (ix4 c b h s)
      = Ideal.div (Ideal.exp (lses X0 X1 X3 b h s c - peak (lses X0 X1 X3 b h s))) (∑ c, Ideal.exp (lses X0 X1 X3 b h s c - peak (lses X0 X1 X3 b h s))) := by
  pointwise [val_main_v152, val_main_v151, val_main_v150, part_at, whole_at]

/-- The three branches' outputs. -/
def outs (b : Fin 16) (h : Fin 6) (s : Fin 4096) (e : Fin 64) : Fin 3 → EReal
  | 0 => mean (rscore 128 1 X0 X1 X3 b h s) (fun s' => X2 (ix3 b s' ⟨h.val * 64 + e.val, by omega⟩))
  | 1 => mean (rscore 512 4 X0 X1 X3 b h s) (fun s' => X2 (ix3 b s' ⟨h.val * 64 + e.val, by omega⟩))
  | 2 => mean (rscore 2048 16 X0 X1 X3 b h s) (fun s' => X2 (ix3 b s' ⟨h.val * 64 + e.val, by omega⟩))

theorem pile_at (c : Fin 3) (b : Fin 16) (h : Fin 6) (s : Fin 4096) (e : Fin 64) :
    val_main_v156 (F := Ideal) X0 X1 X2 X3 (ix5 c b h s e) = outs X0 X1 X2 X3 b h s e c := by
  match c with
  | 0 => pointwise [val_main_v156, val_main_v153, val_main_v154, val_main_v155, out1_at, out2_at, out3_at, outs]
  | 1 => pointwise [val_main_v156, val_main_v153, val_main_v154, val_main_v155, out1_at, out2_at, out3_at, outs]
  | 2 => pointwise [val_main_v156, val_main_v153, val_main_v154, val_main_v155, out1_at, out2_at, out3_at, outs]

theorem mixed_at (b : Fin 16) (h : Fin 6) (s : Fin 4096) (e : Fin 64) :
    val_main_v157 (F := Ideal) X0 X1 X2 X3 (ix4 b h s e)
      = mix (lses X0 X1 X3 b h s 0) (lses X0 X1 X3 b h s 1) (lses X0 X1 X3 b h s 2)
          (outs X0 X1 X2 X3 b h s e 0) (outs X0 X1 X2 X3 b h s e 1) (outs X0 X1 X2 X3 b h s e 2) := by
  rw [val_main_v157_apply, Fin.sum_univ_three]
  have el : ∀ c : Fin 3, lidx_main_v157 (ix4 b h s e) c = ix4 c b h s := fun c => by
    funext a; match a with
    | 0 => rfl
    | 1 => rfl
    | 2 => rfl
    | 3 => rfl
  have er : ∀ c : Fin 3, ridx_main_v157 (ix4 b h s e) c = ix5 c b h s e := fun c => by
    funext a; match a with
    | 0 => rfl
    | 1 => rfl
    | 2 => rfl
    | 3 => rfl
    | 4 => rfl
  simp only [el, er, weight_at, pile_at, Fin.sum_univ_three, top3]
  rfl

/-- The reference's result: of position `s` and lane `l`, the mixture of the lane's head. -/
theorem result_at (b : Fin 16) (s : Fin 4096) (l : Fin 384) :
    val_main_v159 (F := Ideal) X0 X1 X2 X3 (ix3 b s l)
      = mix (lses X0 X1 X3 b ⟨l.val / 64, by omega⟩ s 0) (lses X0 X1 X3 b ⟨l.val / 64, by omega⟩ s 1) (lses X0 X1 X3 b ⟨l.val / 64, by omega⟩ s 2)
          (outs X0 X1 X2 X3 b ⟨l.val / 64, by omega⟩ s ⟨l.val % 64, by omega⟩ 0) (outs X0 X1 X2 X3 b ⟨l.val / 64, by omega⟩ s ⟨l.val % 64, by omega⟩ 1)
          (outs X0 X1 X2 X3 b ⟨l.val / 64, by omega⟩ s ⟨l.val % 64, by omega⟩ 2) := by
  rw [← mixed_at, val_main_v159_apply, val_main_v158_apply]
  congr 1
  funext a
  match a with
  | 0 => apply Fin.ext; show ((b.val * 4096 + s.val) * 384 + l.val) / 1572864 = b.val; omega
  | 1 => apply Fin.ext; show ((b.val * 4096 + s.val) * 384 + l.val) / 64 % 6 = l.val / 64; omega
  | 2 => apply Fin.ext; show ((b.val * 4096 + s.val) * 384 + l.val) / 384 % 4096 = s.val; omega
  | 3 => apply Fin.ext; show ((b.val * 4096 + s.val) * 384 + l.val) % 64 = l.val % 64; omega

end Cert.BandRefIdeal.Hand

end
-- ==== Proof.BandAlong.lean ====
module

public import proofs.«01_k».proof.Proof.BandResult

/-! The dilated attention: a tile's row of scores over its window of 256 keys is the reference's row over all
    positions, along the positions the window holds. -/

@[expose] public section

set_option maxRecDepth 16384

noncomputable section

namespace Cert.BandIdeal.Hand

open Idealize.ShloMosaic Idealize.ShloMosaic.TcCoe Idealize.SL.Sem Cert.BandIdeal Cert.BandIdeal.Gen Cert.Math
open Cert.BandRefIdeal.Hand (near dist dist_le rscore)

/-- The distance in steps of the dilation between row `i` of a tile and key `j` of its window, as a word. -/
def delta (i : Fin 128) (j : Fin 256) : BitVec 32 := IntOp.subi (IntOp.addi 128#32 (BitVec.ofNat 32 i.val)) (BitVec.ofNat 32 j.val)

/-- The keys of its window that row `i` of a tile sees: none of the first half in the first tile of a residue. -/
def inView (n : Nat) (i : Fin 128) (j : Fin 256) : Prop := i.val ≤ j.val ∧ j.val ≤ i.val + 128 ∧ (n = 0 → 128 ≤ j.val)

instance (n : Nat) (i : Fin 128) (j : Fin 256) : Decidable (inView n i j) := inferInstanceAs (Decidable (_ ∧ _))

theorem delta_le {i : Fin 128} {j : Fin 256} (h : j.val ≤ i.val + 128) : delta i j = BitVec.ofNat 32 (128 + i.val - j.val) := by
  unfold delta IntOp.subi IntOp.addi
  have h1 := i.isLt; have h2 := j.isLt
  apply BitVec.eq_of_toNat_eq
  simp only [BitVec.toNat_sub, BitVec.toNat_add, BitVec.toNat_ofNat]
  omega

theorem delta_gt {i : Fin 128} {j : Fin 256} (h : i.val + 128 < j.val) : delta i j = IntOp.subi 0#32 (BitVec.ofNat 32 (j.val - i.val - 128)) := by
  unfold delta IntOp.subi IntOp.addi
  have h1 := i.isLt; have h2 := j.isLt
  apply BitVec.eq_of_toNat_eq
  simp only [BitVec.toNat_sub, BitVec.toNat_add, BitVec.toNat_ofNat]
  omega

/-- The two comparisons of the mask, and the third of a residue's first tile. -/
def within (x : BitVec 32) : BitVec 1 := IntOp.andi (IntOp.cmpi .sge x 0#32) (IntOp.cmpi .sle x 128#32)

theorem within_pos : ∀ x : Fin 512, within (BitVec.ofNat 32 x.val) = if x.val ≤ 128 then 1#1 else 0#1 := by decide +kernel
theorem within_neg : ∀ x : Fin 256, x.val ≠ 0 → within (IntOp.subi 0#32 (BitVec.ofNat 32 x.val)) = 0#1 := by decide +kernel
theorem half : ∀ j : Fin 256, IntOp.cmpi .sge (BitVec.ofNat 32 j.val) 128#32 = if 128 ≤ j.val then 1#1 else 0#1 := by decide +kernel

theorem within_eq (i : Fin 128) (j : Fin 256) : within (delta i j) = if inView 1 i j then 1#1 else 0#1 := by
  have h1 := i.isLt
  have h2 := j.isLt
  rcases Nat.lt_or_ge (i.val + 128) j.val with h | h
  · rw [delta_gt h, within_neg ⟨j.val - i.val - 128, by omega⟩ (by show j.val - i.val - 128 ≠ 0; omega), if_neg fun hn => by have := hn.2.1; omega]
  · rw [delta_le h, within_pos ⟨128 + i.val - j.val, by omega⟩]
    by_cases hn : i.val ≤ j.val
    · rw [if_pos (by show 128 + i.val - j.val ≤ 128; omega), if_pos ⟨hn, h, fun h => absurd h (by decide)⟩]
    · rw [if_neg (by show ¬ 128 + i.val - j.val ≤ 128; omega), if_neg fun hx => hn hx.1]

theorem within_half (i : Fin 128) (j : Fin 256) :
    IntOp.andi (within (delta i j)) (IntOp.cmpi .sge (BitVec.ofNat 32 j.val) 128#32) = if inView 0 i j then 1#1 else 0#1 := by
  rw [within_eq, half]
  by_cases ha : i.val ≤ j.val ∧ j.val ≤ i.val + 128
  · rw [if_pos ⟨ha.1, ha.2, fun h => absurd h (by decide)⟩]
    by_cases hb : 128 ≤ j.val
    · rw [if_pos hb, if_pos ⟨ha.1, ha.2, fun _ => hb⟩]; rfl
    · rw [if_neg hb, if_neg fun h => hb (h.2.2 rfl)]; rfl
  · rw [if_neg (fun h : inView 1 i j => ha ⟨h.1, h.2.1⟩), if_neg (fun h : inView 0 i j => ha ⟨h.1, h.2.1⟩)]
    by_cases hb : 128 ≤ j.val
    · rw [if_pos hb]; rfl
    · rw [if_neg hb]; rfl

/-- The bias of key `j` for row `i`: the slope times the distance in view, masked out of it. -/
def bias (n d : Nat) (σ : EReal) (i : Fin 128) (j : Fin 256) : EReal :=
  if inView n i j then σ * (((IntOp.muli (delta i j) (BitVec.ofNat 32 d)).toInt : ℝ) : EReal) else ⊥

theorem inView_pos {n : Nat} (h : n ≠ 0) (i : Fin 128) (j : Fin 256) : inView n i j ↔ inView 1 i j :=
  ⟨fun x => ⟨x.1, x.2.1, fun h => absurd h (by decide)⟩, fun x => ⟨x.1, x.2.1, fun h' => absurd h' h⟩⟩

theorem bias_pos {n : Nat} (h : n ≠ 0) (d : Nat) (σ : EReal) (i : Fin 128) (j : Fin 256) : bias n d σ i j = bias 1 d σ i j := by
  unfold bias; simp only [inView_pos h]

theorem muli_delta {d : Nat} (hd : d ≤ 4096) {i : Fin 128} {j : Fin 256} (h : j.val ≤ i.val + 128) :
    IntOp.muli (delta i j) (BitVec.ofNat 32 d) = BitVec.ofNat 32 (d * (128 + i.val - j.val)) := by
  rw [delta_le h, Nat.mul_comm]
  unfold IntOp.muli
  apply BitVec.eq_of_toNat_eq
  simp only [BitVec.toNat_mul, BitVec.toNat_ofNat]
  exact (Nat.mul_mod _ _ _).symm

/-- The scale of the scores comes out of the sum over the lanes. -/
theorem scale_out (a b : Fin 64 → EReal) :
    ∑ e, a e * Ideal.ofBits .f32 0x3E000000#32 * b e = (∑ e, a e * b e) * Ideal.ofBits .f32 0x3E000000#32 := by
  have hc : ∃ c : ℝ, 0 ≤ c ∧ Ideal.ofBits .f32 0x3E000000#32 = (c : EReal) := by
    refine ⟨1 / 8, by norm_num, ?_⟩
    simp [Ideal.ofBits, Ideal.ieee]
    rw [← EReal.coe_mul]
    norm_num
  obtain ⟨c, hc, e⟩ := hc
  rw [e, sum_mul_coe _ _ _ hc]
  exact Finset.sum_congr rfl fun x _ => mul_right_comm _ _ _

variable {X0 X1 : FVec Ideal Cert.BandRefIdeal.S16x4096x384 .f32} {X3 : FVec Ideal Cert.BandRefIdeal.S6 .f32}

/-- The position of key `j` of the window of a query at `p`, itself row `i` of its tile. -/
def keyAt (d : Nat) (p : Fin 4096) (i : Fin 128) (j : Fin 256) : Fin 4096 := ⟨p.val - d * (128 + i.val - j.val), Nat.lt_of_le_of_lt (Nat.sub_le _ _) p.isLt⟩

/-- A key in view lies at or after the first position. -/
theorem reach {d n r : Nat} {p : Fin 4096} {i : Fin 128} {j : Fin 256} (hp : p.val = r + d * (128 * n + i.val)) (h : inView n i j) :
    d * (128 + i.val - j.val) ≤ p.val := by
  have h1 : 128 + i.val - j.val ≤ 128 * n + i.val := by
    rcases Nat.eq_zero_or_pos n with h0 | h0
    · have := h.2.2 h0; omega
    · have := h.1; omega
  have := Nat.mul_le_mul_left d h1
  omega

/-- A tile's row of scores and the reference's row, along the keys in view. -/
theorem along {d W n r : Nat} (hW : W = 128 * d) (hd : 0 < d) (hd' : d ≤ 4096) (b : Fin 16) (H : Fin 6) (g : Fin 2) (p : Fin 4096) (i : Fin 128)
    (hr : r < d) (hp : p.val = r + d * (128 * n + i.val))
    (q : Vec Ideal S1x128x128 .f32) (k : Vec Ideal S256x128 .f32) (B : Vec Ideal S1x1x128x256 .f32)
    (hq : ∀ e : Fin 64, q (ix3 0 i ⟨g.val * 64 + e.val, by omega⟩) = X0 (ix3 b p ⟨H.val * 64 + e.val, by omega⟩))
    (hk : ∀ j, inView n i j → ∀ e : Fin 64, k (ix2 j ⟨g.val * 64 + e.val, by omega⟩) = X1 (ix3 b (keyAt d p i j) ⟨H.val * 64 + e.val, by omega⟩))
    (hB : ∀ j, B (ix4 0 0 i j) = bias n d (-X3 (ix1 H)) i j) :
    Along (inView n i) (keyAt d p i) (tscore q k B g i) (rscore W d X0 X1 X3 b H p) := by
  have hi := i.isLt
  refine ⟨fun j j' h h' hj => ?_, fun j h => ?_, fun j h => ?_, fun s' hs => ?_⟩
  · have e := Fin.val_eq_of_eq hj
    have h1 := reach hp h
    have h2 := reach hp h'
    have e2 : d * (128 + i.val - j.val) = d * (128 + i.val - j'.val) := by
      have e' : p.val - d * (128 + i.val - j.val) = p.val - d * (128 + i.val - j'.val) := e
      omega
    have e3 := Nat.eq_of_mul_eq_mul_left hd e2
    have := h.2.1
    have := h'.2.1
    exact Fin.ext (by omega)
  · have h1 := reach hp h
    have h2 : d * (128 + i.val - j.val) ≤ 128 * d := by
      rw [Nat.mul_comm 128]
      exact Nat.mul_le_mul_left d (by have := h.1; omega)
    have ek : p.val - (keyAt d p i j).val = d * (128 + i.val - j.val) := by
      show p.val - (p.val - d * (128 + i.val - j.val)) = _
      omega
    have hn : near W d p (keyAt d p i j) := ⟨Nat.sub_le _ _, by rw [ek, hW]; exact h2, by rw [ek]; exact Nat.mul_mod_right _ _⟩
    unfold tscore rscore
    rw [if_pos hn, hB, bias, if_pos h, muli_delta hd' h.2.1, dist_le hn.1, ek, ← scale_out]
    refine congrArg (· + _) (Finset.sum_congr rfl fun e _ => ?_)
    rw [hq, hk j h]
  · unfold tscore
    rw [hB, bias, if_neg h, EReal.add_bot]
  · unfold rscore
    refine if_neg fun hn => ?_
    obtain ⟨h1, h2, h3⟩ := hn
    obtain ⟨x, hx⟩ := Nat.dvd_of_mod_eq_zero h3
    have hx1 : x ≤ 128 := by
      rw [hx, hW, Nat.mul_comm 128] at h2
      exact Nat.le_of_mul_le_mul_left h2 hd
    have hx2 : n = 0 → x ≤ i.val := fun h0 => by
      have : d * x < d * (i.val + 1) := by
        rw [Nat.mul_add, Nat.mul_one]
        subst h0
        rw [Nat.mul_zero, Nat.zero_add] at hp
        omega
      have := Nat.lt_of_mul_lt_mul_left this
      omega
    refine hs ⟨128 + i.val - x, by omega⟩ ⟨?_, ?_, fun h0 => ?_⟩ (Fin.ext ?_)
    · show i.val ≤ 128 + i.val - x; omega
    · show 128 + i.val - x ≤ i.val + 128; omega
    · have := hx2 h0
      show 128 ≤ 128 + i.val - x
      omega
    · show p.val - d * (128 + i.val - (128 + i.val - x)) = s'.val
      rw [show 128 + i.val - (128 + i.val - x) = x by omega]
      omega

end Cert.BandIdeal.Hand

end
-- ==== Proof.BandLoads.lean ====
module

public import proofs.«01_k».proof.Proof.BandIdealBody
public import proofs.«01_k».proof.Proof.BandAlong
public import Idealize.ShloMosaic.Lib.Pipeline.ValueKit

/-! The dilated attention's tiles against the reference's rows: what each trip loads of the queries, the padded
    keys and values and the bias planes, and the mean and the log-sum it stores. -/

@[expose] public section

set_option maxRecDepth 16384

noncomputable section

namespace Cert.BandIdeal.Hand

open Idealize.ShloMosaic Idealize.ShloMosaic.TcCoe Idealize.SL.Sem Cert.BandIdeal Cert.BandIdeal.Gen Cert.Math
open Cert.BandRefIdeal.Hand (near dist dist_le rscore)

/-! ## The padded keys and values -/

theorem rest_emb (p : Fin 4096) (l : Fin 128) : rest.emb (ix2 p l) = (ix2 ⟨2048 + p.val, by omega⟩ l : S6144x128.Idx) := by
  funext a
  apply Fin.ext
  rw [Rect.emb_apply]
  match a with
  | 0 => show 2048 + 1 * p.val = 2048 + p.val; omega
  | 1 => show 0 + 1 * l.val = l.val; omega

theorem padK_at (x1 : Vec Ideal S1x4096x128 .f32) (p : Fin 4096) (l : Fin 128) : padK x1 (ix2 ⟨2048 + p.val, by omega⟩ l) = x1 (ix3 0 p l) := by
  rw [← rest_emb]
  unfold padK
  rw [View.canon_cons_emb]
  pointwise [k0_pay38, slab]

theorem padV_at (x2 : Vec Ideal S1x4096x128 .f32) (p : Fin 4096) (l : Fin 128) : padV x2 (ix2 ⟨2048 + p.val, by omega⟩ l) = x2 (ix3 0 p l) := by
  rw [← rest_emb]
  unfold padV
  rw [View.canon_cons_emb]
  pointwise [k0_pay39, slab]

/-! ## The bias planes -/

/-- A plane just written reads as written. -/
theorem plane_hit (a b : Nat) (inb) (w : S1x1x128x256.Idx → Elt Ideal .f32) (L : List (View.Piece (Elt Ideal) S2x2x128x256 .f32))
    (u v : Fin 2) (hu : u.val = a) (hv : v.val = b) (i : Fin 128) (j : Fin 256) :
    View.canon ((⟨Rect.unit (s := S2x2x128x256) ![a, b, 0, 0] S1x1x128x256.size inb, w⟩ : View.Piece (Elt Ideal) S2x2x128x256 .f32) :: L) (ix4 u v i j)
      = w (ix4 0 0 i j) := by
  have e : (Rect.unit (s := S2x2x128x256) ![a, b, 0, 0] S1x1x128x256.size inb).emb (ix4 0 0 i j) = (ix4 u v i j : S2x2x128x256.Idx) := by
    funext x
    apply Fin.ext
    rw [Rect.emb_apply]
    match x with
    | 0 => show a + 1 * 0 = u.val; omega
    | 1 => show b + 1 * 0 = v.val; omega
    | 2 => show 0 + 1 * i.val = i.val; omega
    | 3 => show 0 + 1 * j.val = j.val; omega
  rw [← e]
  exact View.canon_cons_emb _ _ _ _

/-- Another plane reads as before. -/
theorem plane_miss (a b : Nat) (inb) (w : S1x1x128x256.Idx → Elt Ideal .f32) (L : List (View.Piece (Elt Ideal) S2x2x128x256 .f32))
    (u v : Fin 2) (h : u.val ≠ a ∨ v.val ≠ b) (i : Fin 128) (j : Fin 256) :
    View.canon ((⟨Rect.unit (s := S2x2x128x256) ![a, b, 0, 0] S1x1x128x256.size inb, w⟩ : View.Piece (Elt Ideal) S2x2x128x256 .f32) :: L) (ix4 u v i j)
      = View.canon L (ix4 u v i j) := by
  refine View.canon_cons_of_not_mem _ L fun hm => ?_
  rcases h with h | h
  · obtain ⟨x, hx, he⟩ := (LoadRect.mem_set _).mp hm (0 : Fin 4)
    have hx1 : x < 1 := hx
    have he' : u.val = a + 1 * x := he
    omega
  · obtain ⟨x, hx, he⟩ := (LoadRect.mem_set _).mp hm (1 : Fin 4)
    have hx1 : x < 1 := hx
    have he' : v.val = b + 1 * x := he
    omega

/-- A choice by the mask, of a later tile and of a residue's first. -/
theorem pick_later (i : Fin 128) (j : Fin 256) (a : EReal) :
    Scalar.select (within (delta i j)) a (Named.named (F := Ideal) κ "mask" (φ := .f32) 0xF149F2CA#32) = if inView 1 i j then a else ⊥ := by
  rw [within_eq]; split <;> rfl
theorem pick_first (i : Fin 128) (j : Fin 256) (a : EReal) :
    Scalar.select (IntOp.andi (within (delta i j)) (IntOp.cmpi .sge (BitVec.ofNat 32 j.val) 128#32)) a (Named.named (F := Ideal) κ "mask" (φ := .f32) 0xF149F2CA#32)
      = if inView 0 i j then a else ⊥ := by
  rw [within_half]; split <;> rfl

variable (x3 : Vec Ideal S1x2x1x256 .f32)

theorem slope0_at (j : Fin 256) : slope0 x3 (ix4 0 0 0 j) = x3 (ix4 0 0 0 j) :=
  View.ld_unit_apply_of _ _ _ _ _ _ fun a => by
    match a with
    | 0 => rfl
    | 1 => rfl
    | 2 => rfl
    | 3 => exact (Nat.zero_add _).symm
theorem slope1_at (j : Fin 256) : slope1 x3 (ix4 0 0 0 j) = x3 (ix4 0 1 0 j) :=
  View.ld_unit_apply_of _ _ _ _ _ _ fun a => by
    match a with
    | 0 => rfl
    | 1 => rfl
    | 2 => rfl
    | 3 => exact (Nat.zero_add _).symm

/-! ## Dilation 1 -/

theorem piece100_at (i : Fin 128) (j : Fin 256) : (k0_pay45 lane k0_pay42 k0_pay43 (slope0 x3) : FVec Ideal S1x1x128x256 .f32) (ix4 0 0 i j) = bias 0 1 (x3 (ix4 0 0 0 j)) i j := by
  rw [← slope0_at x3 j]
  generalize slope0 x3 = s
  pointwise [k0_pay45, k0_pay44, k0_pay43, k0_pay42, k0_pay41, lane]
  exact pick_first i j _

theorem piece101_at (i : Fin 128) (j : Fin 256) : (k0_pay46 k0_pay42 k0_pay43 (slope0 x3) : FVec Ideal S1x1x128x256 .f32) (ix4 0 0 i j) = bias 1 1 (x3 (ix4 0 0 0 j)) i j := by
  rw [← slope0_at x3 j]
  generalize slope0 x3 = s
  pointwise [k0_pay46, k0_pay44, k0_pay43, k0_pay42, k0_pay41, lane]
  exact pick_later i j _

theorem piece110_at (i : Fin 128) (j : Fin 256) : (k0_pay48 lane k0_pay42 k0_pay43 (slope1 x3) : FVec Ideal S1x1x128x256 .f32) (ix4 0 0 i j) = bias 0 1 (x3 (ix4 0 1 0 j)) i j := by
  rw [← slope1_at x3 j]
  generalize slope1 x3 = s
  pointwise [k0_pay48, k0_pay47, k0_pay43, k0_pay42, k0_pay41, lane]
  exact pick_first i j _

theorem piece111_at (i : Fin 128) (j : Fin 256) : (k0_pay50 (k0_pay49 k0_pay42 k0_pay43 (slope1 x3)) : FVec Ideal S1x1x128x256 .f32) (ix4 0 0 i j) = bias 1 1 (x3 (ix4 0 1 0 j)) i j := by
  rw [← slope1_at x3 j]
  generalize slope1 x3 = s
  pointwise [k0_pay50, k0_pay49, k0_pay47, k0_pay43, k0_pay42, k0_pay41, lane]
  exact pick_later i j _

/-- A plane of this dilation, of head `u`; `n` is zero for a residue's first tile. -/
theorem planes1_at (u v : Fin 2) (n : Nat) (hv : v.val = min n 1) (i : Fin 128) (j : Fin 256) :
    View.canon (planes1 x3) (ix4 u v i j) = bias n 1 (x3 (ix4 0 u 0 j)) i j := by
  rcases Nat.eq_zero_or_pos n with h0 | h0
  · subst h0
    obtain rfl : v = 0 := Fin.ext hv
    match u with
    | 0 => exact (plane_miss 1 1 _ _ _ 0 0 (.inl (by decide)) i j).trans ((plane_miss 1 0 _ _ _ 0 0 (.inl (by decide)) i j).trans
        ((plane_miss 0 1 _ _ _ 0 0 (.inr (by decide)) i j).trans ((plane_hit 0 0 _ _ _ 0 0 rfl rfl i j).trans (piece100_at x3 i j))))
    | 1 => exact (plane_miss 1 1 _ _ _ 1 0 (.inr (by decide)) i j).trans ((plane_hit 1 0 _ _ _ 1 0 rfl rfl i j).trans (piece110_at x3 i j))
  · rw [bias_pos (Nat.pos_iff_ne_zero.mp h0)]
    obtain rfl : v = 1 := Fin.ext (by show v.val = 1; omega)
    match u with
    | 0 => exact (plane_miss 1 1 _ _ _ 0 1 (.inl (by decide)) i j).trans ((plane_miss 1 0 _ _ _ 0 1 (.inl (by decide)) i j).trans
        ((plane_hit 0 1 _ _ _ 0 1 rfl rfl i j).trans (piece101_at x3 i j)))
    | 1 => exact (plane_hit 1 1 _ _ _ 1 1 rfl rfl i j).trans (piece111_at x3 i j)

theorem load1 : ∀ k : Fin k0_t1_loop.trips, k0_off1 k = ![0, k.val / 32 + 1 * (128 * (k.val % 32)), 0]
    ∧ k0_off2 k = ![2048 + k.val / 32 + 1 * (128 * (k.val % 32)) - 1 * 128, 0]
    ∧ k0_off3 k = ![0, min (k.val % 32) 1, 0, 0] ∧ k0_off4 k = ![1, min (k.val % 32) 1, 0, 0] := by decide +kernel

theorem trip1_res (p : Fin 4096) : (trip1Of p).val / 32 = p.val % 1 ∧ (trip1Of p).val % 32 = p.val / 1 / 128 := by
  have h := p.isLt
  have e : (trip1Of p).val = p.val % 1 * 32 + p.val / 1 / 128 := rfl
  omega

/-- The rows a trip loads, those of the queries and those of the keys in view. -/
theorem qRows1_at (Q : Vec Ideal S1x4096x128 .f32) (p : Fin 4096) (l : Fin 128) :
    qRows1 Q (trip1Of p) (ix3 0 ⟨p.val / 1 % 128, Nat.mod_lt _ (by decide)⟩ l) = Q (ix3 0 p l) := by
  unfold qRows1
  refine congrArg Q (funext fun a => Fin.ext ?_)
  obtain ⟨h1, h2⟩ := trip1_res p
  have ho := (load1 (trip1Of p)).1
  have hl := p.isLt
  match a with
  | 0 => show k0_off1 (trip1Of p) 0 + 1 * 0 = 0; rw [ho]; rfl
  | 1 =>
    show k0_off1 (trip1Of p) 1 + 1 * (p.val / 1 % 128) = p.val
    rw [ho]
    show (trip1Of p).val / 32 + 1 * (128 * ((trip1Of p).val % 32)) + 1 * (p.val / 1 % 128) = p.val
    rw [h1, h2]; omega
  | 2 => show k0_off1 (trip1Of p) 2 + 1 * l.val = l.val; rw [ho]; show 0 + 1 * l.val = l.val; omega

theorem kRows1_at (K : Vec Ideal S6144x128 .f32) (p : Fin 4096) (j : Fin 256) (l : Fin 128)
    (hj : inView (p.val / 1 / 128) ⟨p.val / 1 % 128, Nat.mod_lt _ (by decide)⟩ j) :
    kRows1 K (trip1Of p) (ix2 j l) = K (ix2 ⟨2048 + (keyAt 1 p ⟨p.val / 1 % 128, Nat.mod_lt _ (by decide)⟩ j).val, by have := (keyAt 1 p ⟨p.val / 1 % 128, Nat.mod_lt _ (by decide)⟩ j).isLt; omega⟩ l) := by
  unfold kRows1
  refine congrArg K (funext fun a => Fin.ext ?_)
  obtain ⟨h1, h2⟩ := trip1_res p
  have ho := (load1 (trip1Of p)).2.1
  have hl := p.isLt
  match a with
  | 0 =>
    show k0_off2 (trip1Of p) 0 + 1 * j.val = 2048 + (p.val - 1 * (128 + p.val / 1 % 128 - j.val))
    rw [ho]
    show 2048 + (trip1Of p).val / 32 + 1 * (128 * ((trip1Of p).val % 32)) - 1 * 128 + 1 * j.val = _
    rw [h1, h2]
    have a1 : p.val / 1 % 128 ≤ j.val := hj.1
    have a2 : j.val ≤ p.val / 1 % 128 + 128 := hj.2.1
    have a3 : p.val / 1 / 128 = 0 → 128 ≤ j.val := hj.2.2
    omega
  | 1 => show k0_off2 (trip1Of p) 1 + 1 * l.val = l.val; rw [ho]; show 0 + 1 * l.val = l.val; omega

theorem bias10_at (p : Fin 4096) (i : Fin 128) (j : Fin 256) :
    bias10 (View.canon (planes1 x3)) (trip1Of p) (ix4 0 0 i j) = bias (p.val / 1 / 128) 1 (x3 (ix4 0 0 0 j)) i j := by
  rw [← planes1_at x3 0 ⟨min (p.val / 1 / 128) 1, by omega⟩ _ rfl]
  unfold bias10
  refine congrArg _ (funext fun a => Fin.ext ?_)
  obtain ⟨h1, h2⟩ := trip1_res p
  have ho := (load1 (trip1Of p)).2.2.1
  match a with
  | 0 => show k0_off3 (trip1Of p) 0 + 1 * 0 = 0; rw [ho]; rfl
  | 1 => show k0_off3 (trip1Of p) 1 + 1 * 0 = min (p.val / 1 / 128) 1; rw [ho, ← h2]; rfl
  | 2 => show k0_off3 (trip1Of p) 2 + 1 * i.val = i.val; rw [ho]; show 0 + 1 * i.val = i.val; omega
  | 3 => show k0_off3 (trip1Of p) 3 + 1 * j.val = j.val; rw [ho]; show 0 + 1 * j.val = j.val; omega

theorem bias11_at (p : Fin 4096) (i : Fin 128) (j : Fin 256) :
    bias11 (View.canon (planes1 x3)) (trip1Of p) (ix4 0 0 i j) = bias (p.val / 1 / 128) 1 (x3 (ix4 0 1 0 j)) i j := by
  rw [← planes1_at x3 1 ⟨min (p.val / 1 / 128) 1, by omega⟩ _ rfl]
  unfold bias11
  refine congrArg _ (funext fun a => Fin.ext ?_)
  obtain ⟨h1, h2⟩ := trip1_res p
  have ho := (load1 (trip1Of p)).2.2.2
  match a with
  | 0 => show k0_off4 (trip1Of p) 0 + 1 * 0 = 1; rw [ho]; rfl
  | 1 => show k0_off4 (trip1Of p) 1 + 1 * 0 = min (p.val / 1 / 128) 1; rw [ho, ← h2]; rfl
  | 2 => show k0_off4 (trip1Of p) 2 + 1 * i.val = i.val; rw [ho]; show 0 + 1 * i.val = i.val; omega
  | 3 => show k0_off4 (trip1Of p) 3 + 1 * j.val = j.val; rw [ho]; show 0 + 1 * j.val = j.val; omega

/-! ## Dilation 4 -/

theorem piece200_at (i : Fin 128) (j : Fin 256) : (k0_pay60 lane k0_pay41 (slope0 x3) : FVec Ideal S1x1x128x256 .f32) (ix4 0 0 i j) = bias 0 4 (x3 (ix4 0 0 0 j)) i j := by
  rw [← slope0_at x3 j]
  generalize slope0 x3 = s
  pointwise [k0_pay60, k0_pay59, k0_pay58, k0_pay57, k0_pay41, lane]
  exact pick_first i j _

theorem piece201_at (i : Fin 128) (j : Fin 256) : (k0_pay61 k0_pay41 (slope0 x3) : FVec Ideal S1x1x128x256 .f32) (ix4 0 0 i j) = bias 1 4 (x3 (ix4 0 0 0 j)) i j := by
  rw [← slope0_at x3 j]
  generalize slope0 x3 = s
  pointwise [k0_pay61, k0_pay59, k0_pay58, k0_pay57, k0_pay41, lane]
  exact pick_later i j _

theorem piece210_at (i : Fin 128) (j : Fin 256) : (k0_pay63 lane (k0_pay57 k0_pay41) (k0_pay58 k0_pay41) (slope1 x3) : FVec Ideal S1x1x128x256 .f32) (ix4 0 0 i j) = bias 0 4 (x3 (ix4 0 1 0 j)) i j := by
  rw [← slope1_at x3 j]
  generalize slope1 x3 = s
  pointwise [k0_pay63, k0_pay62, k0_pay58, k0_pay57, k0_pay41, lane]
  exact pick_first i j _

theorem piece211_at (i : Fin 128) (j : Fin 256) : (k0_pay64 (k0_pay57 k0_pay41) (k0_pay58 k0_pay41) (slope1 x3) : FVec Ideal S1x1x128x256 .f32) (ix4 0 0 i j) = bias 1 4 (x3 (ix4 0 1 0 j)) i j := by
  rw [← slope1_at x3 j]
  generalize slope1 x3 = s
  pointwise [k0_pay64, k0_pay62, k0_pay58, k0_pay57, k0_pay41, lane]
  exact pick_later i j _

/-- A plane of this dilation, of head `u`; `n` is zero for a residue's first tile. -/
theorem planes2_at (u v : Fin 2) (n : Nat) (hv : v.val = min n 1) (i : Fin 128) (j : Fin 256) :
    View.canon (planes2 x3) (ix4 u v i j) = bias n 4 (x3 (ix4 0 u 0 j)) i j := by
  rcases Nat.eq_zero_or_pos n with h0 | h0
  · subst h0
    obtain rfl : v = 0 := Fin.ext hv
    match u with
    | 0 => exact (plane_miss 1 1 _ _ _ 0 0 (.inl (by decide)) i j).trans ((plane_miss 1 0 _ _ _ 0 0 (.inl (by decide)) i j).trans
        ((plane_miss 0 1 _ _ _ 0 0 (.inr (by decide)) i j).trans ((plane_hit 0 0 _ _ _ 0 0 rfl rfl i j).trans (piece200_at x3 i j))))
    | 1 => exact (plane_miss 1 1 _ _ _ 1 0 (.inr (by decide)) i j).trans ((plane_hit 1 0 _ _ _ 1 0 rfl rfl i j).trans (piece210_at x3 i j))
  · rw [bias_pos (Nat.pos_iff_ne_zero.mp h0)]
    obtain rfl : v = 1 := Fin.ext (by show v.val = 1; omega)
    match u with
    | 0 => exact (plane_miss 1 1 _ _ _ 0 1 (.inl (by decide)) i j).trans ((plane_miss 1 0 _ _ _ 0 1 (.inl (by decide)) i j).trans
        ((plane_hit 0 1 _ _ _ 0 1 rfl rfl i j).trans (piece201_at x3 i j)))
    | 1 => exact (plane_hit 1 1 _ _ _ 1 1 rfl rfl i j).trans (piece211_at x3 i j)

theorem load2 : ∀ k : Fin k0_t2_loop.trips, k0_off6 k = ![0, k.val / 8 + 4 * (128 * (k.val % 8)), 0]
    ∧ k0_off7 k = ![2048 + k.val / 8 + 4 * (128 * (k.val % 8)) - 4 * 128, 0]
    ∧ k0_off8 k = ![0, min (k.val % 8) 1, 0, 0] ∧ k0_off9 k = ![1, min (k.val % 8) 1, 0, 0] := by decide +kernel

theorem trip2_res (p : Fin 4096) : (trip2Of p).val / 8 = p.val % 4 ∧ (trip2Of p).val % 8 = p.val / 4 / 128 := by
  have h := p.isLt
  have e : (trip2Of p).val = p.val % 4 * 8 + p.val / 4 / 128 := rfl
  omega

/-- The rows a trip loads, those of the queries and those of the keys in view. -/
theorem qRows2_at (Q : Vec Ideal S1x4096x128 .f32) (p : Fin 4096) (l : Fin 128) :
    qRows2 Q (trip2Of p) (ix3 0 ⟨p.val / 4 % 128, Nat.mod_lt _ (by decide)⟩ l) = Q (ix3 0 p l) := by
  unfold qRows2
  refine congrArg Q (funext fun a => Fin.ext ?_)
  obtain ⟨h1, h2⟩ := trip2_res p
  have ho := (load2 (trip2Of p)).1
  have hl := p.isLt
  match a with
  | 0 => show k0_off6 (trip2Of p) 0 + 1 * 0 = 0; rw [ho]; rfl
  | 1 =>
    show k0_off6 (trip2Of p) 1 + 4 * (p.val / 4 % 128) = p.val
    rw [ho]
    show (trip2Of p).val / 8 + 4 * (128 * ((trip2Of p).val % 8)) + 4 * (p.val / 4 % 128) = p.val
    rw [h1, h2]; omega
  | 2 => show k0_off6 (trip2Of p) 2 + 1 * l.val = l.val; rw [ho]; show 0 + 1 * l.val = l.val; omega

theorem kRows2_at (K : Vec Ideal S6144x128 .f32) (p : Fin 4096) (j : Fin 256) (l : Fin 128)
    (hj : inView (p.val / 4 / 128) ⟨p.val / 4 % 128, Nat.mod_lt _ (by decide)⟩ j) :
    kRows2 K (trip2Of p) (ix2 j l) = K (ix2 ⟨2048 + (keyAt 4 p ⟨p.val / 4 % 128, Nat.mod_lt _ (by decide)⟩ j).val, by have := (keyAt 4 p ⟨p.val / 4 % 128, Nat.mod_lt _ (by decide)⟩ j).isLt; omega⟩ l) := by
  unfold kRows2
  refine congrArg K (funext fun a => Fin.ext ?_)
  obtain ⟨h1, h2⟩ := trip2_res p
  have ho := (load2 (trip2Of p)).2.1
  have hl := p.isLt
  match a with
  | 0 =>
    show k0_off7 (trip2Of p) 0 + 4 * j.val = 2048 + (p.val - 4 * (128 + p.val / 4 % 128 - j.val))
    rw [ho]
    show 2048 + (trip2Of p).val / 8 + 4 * (128 * ((trip2Of p).val % 8)) - 4 * 128 + 4 * j.val = _
    rw [h1, h2]
    have a1 : p.val / 4 % 128 ≤ j.val := hj.1
    have a2 : j.val ≤ p.val / 4 % 128 + 128 := hj.2.1
    have a3 : p.val / 4 / 128 = 0 → 128 ≤ j.val := hj.2.2
    omega
  | 1 => show k0_off7 (trip2Of p) 1 + 1 * l.val = l.val; rw [ho]; show 0 + 1 * l.val = l.val; omega

theorem bias20_at (p : Fin 4096) (i : Fin 128) (j : Fin 256) :
    bias20 (View.canon (planes2 x3)) (trip2Of p) (ix4 0 0 i j) = bias (p.val / 4 / 128) 4 (x3 (ix4 0 0 0 j)) i j := by
  rw [← planes2_at x3 0 ⟨min (p.val / 4 / 128) 1, by omega⟩ _ rfl]
  unfold bias20
  refine congrArg _ (funext fun a => Fin.ext ?_)
  obtain ⟨h1, h2⟩ := trip2_res p
  have ho := (load2 (trip2Of p)).2.2.1
  match a with
  | 0 => show k0_off8 (trip2Of p) 0 + 1 * 0 = 0; rw [ho]; rfl
  | 1 => show k0_off8 (trip2Of p) 1 + 1 * 0 = min (p.val / 4 / 128) 1; rw [ho, ← h2]; rfl
  | 2 => show k0_off8 (trip2Of p) 2 + 1 * i.val = i.val; rw [ho]; show 0 + 1 * i.val = i.val; omega
  | 3 => show k0_off8 (trip2Of p) 3 + 1 * j.val = j.val; rw [ho]; show 0 + 1 * j.val = j.val; omega

theorem bias21_at (p : Fin 4096) (i : Fin 128) (j : Fin 256) :
    bias21 (View.canon (planes2 x3)) (trip2Of p) (ix4 0 0 i j) = bias (p.val / 4 / 128) 4 (x3 (ix4 0 1 0 j)) i j := by
  rw [← planes2_at x3 1 ⟨min (p.val / 4 / 128) 1, by omega⟩ _ rfl]
  unfold bias21
  refine congrArg _ (funext fun a => Fin.ext ?_)
  obtain ⟨h1, h2⟩ := trip2_res p
  have ho := (load2 (trip2Of p)).2.2.2
  match a with
  | 0 => show k0_off9 (trip2Of p) 0 + 1 * 0 = 1; rw [ho]; rfl
  | 1 => show k0_off9 (trip2Of p) 1 + 1 * 0 = min (p.val / 4 / 128) 1; rw [ho, ← h2]; rfl
  | 2 => show k0_off9 (trip2Of p) 2 + 1 * i.val = i.val; rw [ho]; show 0 + 1 * i.val = i.val; omega
  | 3 => show k0_off9 (trip2Of p) 3 + 1 * j.val = j.val; rw [ho]; show 0 + 1 * j.val = j.val; omega

/-! ## Dilation 16 -/

theorem piece300_at (i : Fin 128) (j : Fin 256) : (k0_pay75 (k0_pay71 k0_pay41) (k0_pay73 k0_pay41 (slope0 x3)) (k0_pay74 lane) : FVec Ideal S1x1x128x256 .f32) (ix4 0 0 i j) = bias 0 16 (x3 (ix4 0 0 0 j)) i j := by
  rw [← slope0_at x3 j]
  generalize slope0 x3 = s
  pointwise [k0_pay75, k0_pay74, k0_pay73, k0_pay72, k0_pay71, k0_pay41, lane]
  exact pick_first i j _

theorem piece301_at (i : Fin 128) (j : Fin 256) : (k0_pay76 (k0_pay71 k0_pay41) (k0_pay73 k0_pay41 (slope0 x3)) : FVec Ideal S1x1x128x256 .f32) (ix4 0 0 i j) = bias 1 16 (x3 (ix4 0 0 0 j)) i j := by
  rw [← slope0_at x3 j]
  generalize slope0 x3 = s
  pointwise [k0_pay76, k0_pay73, k0_pay72, k0_pay71, k0_pay41, lane]
  exact pick_later i j _

theorem piece310_at (i : Fin 128) (j : Fin 256) : (k0_pay78 lane (k0_pay71 k0_pay41) (k0_pay72 k0_pay41) (slope1 x3) : FVec Ideal S1x1x128x256 .f32) (ix4 0 0 i j) = bias 0 16 (x3 (ix4 0 1 0 j)) i j := by
  rw [← slope1_at x3 j]
  generalize slope1 x3 = s
  pointwise [k0_pay78, k0_pay77, k0_pay72, k0_pay71, k0_pay41, lane]
  exact pick_first i j _

theorem piece311_at (i : Fin 128) (j : Fin 256) : (k0_pay79 (k0_pay71 k0_pay41) (k0_pay72 k0_pay41) (slope1 x3) : FVec Ideal S1x1x128x256 .f32) (ix4 0 0 i j) = bias 1 16 (x3 (ix4 0 1 0 j)) i j := by
  rw [← slope1_at x3 j]
  generalize slope1 x3 = s
  pointwise [k0_pay79, k0_pay77, k0_pay72, k0_pay71, k0_pay41, lane]
  exact pick_later i j _

/-- A plane of this dilation, of head `u`; `n` is zero for a residue's first tile. -/
theorem planes3_at (u v : Fin 2) (n : Nat) (hv : v.val = min n 1) (i : Fin 128) (j : Fin 256) :
    View.canon (planes3 x3) (ix4 u v i j) = bias n 16 (x3 (ix4 0 u 0 j)) i j := by
  rcases Nat.eq_zero_or_pos n with h0 | h0
  · subst h0
    obtain rfl : v = 0 := Fin.ext hv
    match u with
    | 0 => exact (plane_miss 1 1 _ _ _ 0 0 (.inl (by decide)) i j).trans ((plane_miss 1 0 _ _ _ 0 0 (.inl (by decide)) i j).trans
        ((plane_miss 0 1 _ _ _ 0 0 (.inr (by decide)) i j).trans ((plane_hit 0 0 _ _ _ 0 0 rfl rfl i j).trans (piece300_at x3 i j))))
    | 1 => exact (plane_miss 1 1 _ _ _ 1 0 (.inr (by decide)) i j).trans ((plane_hit 1 0 _ _ _ 1 0 rfl rfl i j).trans (piece310_at x3 i j))
  · rw [bias_pos (Nat.pos_iff_ne_zero.mp h0)]
    obtain rfl : v = 1 := Fin.ext (by show v.val = 1; omega)
    match u with
    | 0 => exact (plane_miss 1 1 _ _ _ 0 1 (.inl (by decide)) i j).trans ((plane_miss 1 0 _ _ _ 0 1 (.inl (by decide)) i j).trans
        ((plane_hit 0 1 _ _ _ 0 1 rfl rfl i j).trans (piece301_at x3 i j)))
    | 1 => exact (plane_hit 1 1 _ _ _ 1 1 rfl rfl i j).trans (piece311_at x3 i j)

theorem load3 : ∀ k : Fin k0_t3_loop.trips, k0_off11 k = ![0, k.val / 2 + 16 * (128 * (k.val % 2)), 0]
    ∧ k0_off12 k = ![2048 + k.val / 2 + 16 * (128 * (k.val % 2)) - 16 * 128, 0]
    ∧ k0_off13 k = ![0, min (k.val % 2) 1, 0, 0] ∧ k0_off14 k = ![1, min (k.val % 2) 1, 0, 0] := by decide +kernel

theorem trip3_res (p : Fin 4096) : (trip3Of p).val / 2 = p.val % 16 ∧ (trip3Of p).val % 2 = p.val / 16 / 128 := by
  have h := p.isLt
  have e : (trip3Of p).val = p.val % 16 * 2 + p.val / 16 / 128 := rfl
  omega

/-- The rows a trip loads, those of the queries and those of the keys in view. -/
theorem qRows3_at (Q : Vec Ideal S1x4096x128 .f32) (p : Fin 4096) (l : Fin 128) :
    qRows3 Q (trip3Of p) (ix3 0 ⟨p.val / 16 % 128, Nat.mod_lt _ (by decide)⟩ l) = Q (ix3 0 p l) := by
  unfold qRows3
  refine congrArg Q (funext fun a => Fin.ext ?_)
  obtain ⟨h1, h2⟩ := trip3_res p
  have ho := (load3 (trip3Of p)).1
  have hl := p.isLt
  match a with
  | 0 => show k0_off11 (trip3Of p) 0 + 1 * 0 = 0; rw [ho]; rfl
  | 1 =>
    show k0_off11 (trip3Of p) 1 + 16 * (p.val / 16 % 128) = p.val
    rw [ho]
    show (trip3Of p).val / 2 + 16 * (128 * ((trip3Of p).val % 2)) + 16 * (p.val / 16 % 128) = p.val
    rw [h1, h2]; omega
  | 2 => show k0_off11 (trip3Of p) 2 + 1 * l.val = l.val; rw [ho]; show 0 + 1 * l.val = l.val; omega

theorem kRows3_at (K : Vec Ideal S6144x128 .f32) (p : Fin 4096) (j : Fin 256) (l : Fin 128)
    (hj : inView (p.val / 16 / 128) ⟨p.val / 16 % 128, Nat.mod_lt _ (by decide)⟩ j) :
    kRows3 K (trip3Of p) (ix2 j l) = K (ix2 ⟨2048 + (keyAt 16 p ⟨p.val / 16 % 128, Nat.mod_lt _ (by decide)⟩ j).val, by have := (keyAt 16 p ⟨p.val / 16 % 128, Nat.mod_lt _ (by decide)⟩ j).isLt; omega⟩ l) := by
  unfold kRows3
  refine congrArg K (funext fun a => Fin.ext ?_)
  obtain ⟨h1, h2⟩ := trip3_res p
  have ho := (load3 (trip3Of p)).2.1
  have hl := p.isLt
  match a with
  | 0 =>
    show k0_off12 (trip3Of p) 0 + 16 * j.val = 2048 + (p.val - 16 * (128 + p.val / 16 % 128 - j.val))
    rw [ho]
    show 2048 + (trip3Of p).val / 2 + 16 * (128 * ((trip3Of p).val % 2)) - 16 * 128 + 16 * j.val = _
    rw [h1, h2]
    have a1 : p.val / 16 % 128 ≤ j.val := hj.1
    have a2 : j.val ≤ p.val / 16 % 128 + 128 := hj.2.1
    have a3 : p.val / 16 / 128 = 0 → 128 ≤ j.val := hj.2.2
    omega
  | 1 => show k0_off12 (trip3Of p) 1 + 1 * l.val = l.val; rw [ho]; show 0 + 1 * l.val = l.val; omega

theorem bias30_at (p : Fin 4096) (i : Fin 128) (j : Fin 256) :
    bias30 (View.canon (planes3 x3)) (trip3Of p) (ix4 0 0 i j) = bias (p.val / 16 / 128) 16 (x3 (ix4 0 0 0 j)) i j := by
  rw [← planes3_at x3 0 ⟨min (p.val / 16 / 128) 1, by omega⟩ _ rfl]
  unfold bias30
  refine congrArg _ (funext fun a => Fin.ext ?_)
  obtain ⟨h1, h2⟩ := trip3_res p
  have ho := (load3 (trip3Of p)).2.2.1
  match a with
  | 0 => show k0_off13 (trip3Of p) 0 + 1 * 0 = 0; rw [ho]; rfl
  | 1 => show k0_off13 (trip3Of p) 1 + 1 * 0 = min (p.val / 16 / 128) 1; rw [ho, ← h2]; rfl
  | 2 => show k0_off13 (trip3Of p) 2 + 1 * i.val = i.val; rw [ho]; show 0 + 1 * i.val = i.val; omega
  | 3 => show k0_off13 (trip3Of p) 3 + 1 * j.val = j.val; rw [ho]; show 0 + 1 * j.val = j.val; omega

theorem bias31_at (p : Fin 4096) (i : Fin 128) (j : Fin 256) :
    bias31 (View.canon (planes3 x3)) (trip3Of p) (ix4 0 0 i j) = bias (p.val / 16 / 128) 16 (x3 (ix4 0 1 0 j)) i j := by
  rw [← planes3_at x3 1 ⟨min (p.val / 16 / 128) 1, by omega⟩ _ rfl]
  unfold bias31
  refine congrArg _ (funext fun a => Fin.ext ?_)
  obtain ⟨h1, h2⟩ := trip3_res p
  have ho := (load3 (trip3Of p)).2.2.2
  match a with
  | 0 => show k0_off14 (trip3Of p) 0 + 1 * 0 = 1; rw [ho]; rfl
  | 1 => show k0_off14 (trip3Of p) 1 + 1 * 0 = min (p.val / 16 / 128) 1; rw [ho, ← h2]; rfl
  | 2 => show k0_off14 (trip3Of p) 2 + 1 * i.val = i.val; rw [ho]; show 0 + 1 * i.val = i.val; omega
  | 3 => show k0_off14 (trip3Of p) 3 + 1 * j.val = j.val; rw [ho]; show 0 + 1 * j.val = j.val; omega

end Cert.BandIdeal.Hand

end
-- ==== Proof.BandValue.lean ====
module

public import proofs.«01_k».proof.Proof.BandIdealRun
public import proofs.«01_k».proof.Proof.BandLoads
public import Idealize.ShloMosaic.Lib.Claim

/-! The dilated attention: what one grid point stores is the reference's value, and so is the result array. -/

@[expose] public section

set_option maxRecDepth 16384

noncomputable section

namespace Cert.BandIdeal.Hand

open Idealize.ShloMosaic Idealize.ShloMosaic.TcCoe Idealize.SL.Sem Cert.BandIdeal Cert.BandIdeal.Gen Cert.Math
open Idealize.ShloMosaic.Pipeline (Dat)
open Cert.BandRefIdeal.Hand (rscore lses outs result_at)

/-- The blocks of batch `b` and pair of heads `c`, off the whole arrays. -/
structure Blocks (X0 X1 X2 : FVec Ideal Cert.BandRefIdeal.S16x4096x384 .f32) (X3 : FVec Ideal Cert.BandRefIdeal.S6 .f32) (b : Fin 16) (c : Fin 3)
    (x0 x1 x2 : Vec Ideal S1x4096x128 .f32) (x3 : Vec Ideal S1x2x1x256 .f32) : Prop where
  q : ∀ (p : Fin 4096) (l : Fin 128), x0 (ix3 0 p l) = X0 (ix3 b p ⟨c.val * 128 + l.val, by omega⟩)
  k : ∀ (p : Fin 4096) (l : Fin 128), x1 (ix3 0 p l) = X1 (ix3 b p ⟨c.val * 128 + l.val, by omega⟩)
  v : ∀ (p : Fin 4096) (l : Fin 128), x2 (ix3 0 p l) = X2 (ix3 b p ⟨c.val * 128 + l.val, by omega⟩)
  s : ∀ (g : Fin 2) (j : Fin 256), x3 (ix4 0 g 0 j) = -X3 (ix1 ⟨c.val * 2 + g.val, by omega⟩)

variable {X0 X1 X2 : FVec Ideal Cert.BandRefIdeal.S16x4096x384 .f32} {X3 : FVec Ideal Cert.BandRefIdeal.S6 .f32} {b : Fin 16} {c : Fin 3}
  {x0 x1 x2 : Vec Ideal S1x4096x128 .f32} {x3 : Vec Ideal S1x2x1x256 .f32} (h : Blocks X0 X1 X2 X3 b c x0 x1 x2 x3)
include h

/-! ## Dilation 1 -/

theorem along10 (p : Fin 4096) : Along (inView (p.val / 1 / 128) ⟨p.val / 1 % 128, Nat.mod_lt _ (by decide)⟩) (keyAt 1 p ⟨p.val / 1 % 128, Nat.mod_lt _ (by decide)⟩)
    (tscore (qRows1 x0 (trip1Of p)) (kRows1 (padK x1) (trip1Of p)) (bias10 (View.canon (planes1 x3)) (trip1Of p)) 0 ⟨p.val / 1 % 128, Nat.mod_lt _ (by decide)⟩)
    (rscore 128 1 X0 X1 X3 b ⟨c.val * 2 + 0, by omega⟩ p) := by
  refine along (r := p.val % 1) rfl (by decide) (by decide) b _ _ p _ (Nat.mod_lt _ (by decide)) ?_ _ _ _ (fun e => ?_) (fun j hj e => ?_) (fun j => ?_)
  · show p.val = p.val % 1 + 1 * (128 * (p.val / 1 / 128) + p.val / 1 % 128)
    omega
  · rw [qRows1_at, h.q]
    exact congrArg X0 (congrArg (ix3 b p) (Fin.ext (by show c.val * 128 + (0 * 64 + e.val) = (c.val * 2 + 0) * 64 + e.val; omega)))
  · rw [kRows1_at _ _ _ _ hj, padK_at, h.k]
    exact congrArg X1 (congrArg (ix3 b _) (Fin.ext (by show c.val * 128 + (0 * 64 + e.val) = (c.val * 2 + 0) * 64 + e.val; omega)))
  · rw [bias10_at, h.s]
    rfl

theorem along11 (p : Fin 4096) : Along (inView (p.val / 1 / 128) ⟨p.val / 1 % 128, Nat.mod_lt _ (by decide)⟩) (keyAt 1 p ⟨p.val / 1 % 128, Nat.mod_lt _ (by decide)⟩)
    (tscore (qRows1 x0 (trip1Of p)) (kRows1 (padK x1) (trip1Of p)) (bias11 (View.canon (planes1 x3)) (trip1Of p)) 1 ⟨p.val / 1 % 128, Nat.mod_lt _ (by decide)⟩)
    (rscore 128 1 X0 X1 X3 b ⟨c.val * 2 + 1, by omega⟩ p) := by
  refine along (r := p.val % 1) rfl (by decide) (by decide) b _ _ p _ (Nat.mod_lt _ (by decide)) ?_ _ _ _ (fun e => ?_) (fun j hj e => ?_) (fun j => ?_)
  · show p.val = p.val % 1 + 1 * (128 * (p.val / 1 / 128) + p.val / 1 % 128)
    omega
  · rw [qRows1_at, h.q]
    exact congrArg X0 (congrArg (ix3 b p) (Fin.ext (by show c.val * 128 + (1 * 64 + e.val) = (c.val * 2 + 1) * 64 + e.val; omega)))
  · rw [kRows1_at _ _ _ _ hj, padK_at, h.k]
    exact congrArg X1 (congrArg (ix3 b _) (Fin.ext (by show c.val * 128 + (1 * 64 + e.val) = (c.val * 2 + 1) * 64 + e.val; omega)))
  · rw [bias11_at, h.s]
    rfl

theorem lseTile1_eq (p : Fin 4096) (l : Fin 128) :
    lseTile1 k0_pay40 x0 (padK x1) (View.canon (planes1 x3)) (trip1Of p) (ix2 ⟨p.val / 1 % 128, Nat.mod_lt _ (by decide)⟩ l)
      = logSum (rscore 128 1 X0 X1 X3 b ⟨c.val * 2 + l.val / 64, by omega⟩ p) := by
  unfold lseTile1
  rw [lse1_at]
  have hl : l.val / 64 = 0 ∨ l.val / 64 = 1 := by omega
  rcases hl with hl | hl
  · rw [if_pos hl, (along10 h p).logSum]
    simp only [hl]
  · rw [if_neg (by omega), (along11 h p).logSum]
    simp only [hl]

theorem val1 (p : Fin 4096) (l : Fin 128) (j : Fin 256) (hj : inView (p.val / 1 / 128) ⟨p.val / 1 % 128, Nat.mod_lt _ (by decide)⟩ j) :
    kRows1 (padV x2) (trip1Of p) (ix2 j l) = X2 (ix3 b (keyAt 1 p ⟨p.val / 1 % 128, Nat.mod_lt _ (by decide)⟩ j) ⟨c.val * 128 + l.val, by omega⟩) := by
  rw [kRows1_at _ _ _ _ hj, padV_at, h.v]

theorem outTile1_eq (p : Fin 4096) (l : Fin 128) :
    outTile1 k0_pay40 x0 (padK x1) (padV x2) (View.canon (planes1 x3)) (trip1Of p) (ix2 ⟨p.val / 1 % 128, Nat.mod_lt _ (by decide)⟩ l)
      = mean (rscore 128 1 X0 X1 X3 b ⟨c.val * 2 + l.val / 64, by omega⟩ p) (fun s' => X2 (ix3 b s' ⟨c.val * 128 + l.val, by omega⟩)) := by
  unfold outTile1
  rw [out1_at]
  have hl : l.val / 64 = 0 ∨ l.val / 64 = 1 := by omega
  rcases hl with hl | hl
  · rw [if_pos hl, (along10 h p).mean _ (fun s' => X2 (ix3 b s' ⟨c.val * 128 + l.val, by omega⟩)) (fun j hj => val1 h p l j hj)]
    simp only [hl]
  · rw [if_neg (by omega), (along11 h p).mean _ (fun s' => X2 (ix3 b s' ⟨c.val * 128 + l.val, by omega⟩)) (fun j hj => val1 h p l j hj)]
    simp only [hl]

omit h in
theorem rows1_at (T : Fin k0_t1_loop.trips → Vec Ideal S128x128 .f32) (p : Fin 4096) (l : Fin 128) :
    rows1 T (ix2 p l) = T (trip1Of p) (ix2 ⟨p.val / 1 % 128, Nat.mod_lt _ (by decide)⟩ l) := by
  unfold rows1
  refine congrArg (T _) (funext fun a => ?_)
  match a with
  | 0 => rfl
  | 1 => rfl

/-! ## Dilation 4 -/

theorem along20 (p : Fin 4096) : Along (inView (p.val / 4 / 128) ⟨p.val / 4 % 128, Nat.mod_lt _ (by decide)⟩) (keyAt 4 p ⟨p.val / 4 % 128, Nat.mod_lt _ (by decide)⟩)
    (tscore (qRows2 x0 (trip2Of p)) (kRows2 (padK x1) (trip2Of p)) (bias20 (View.canon (planes2 x3)) (trip2Of p)) 0 ⟨p.val / 4 % 128, Nat.mod_lt _ (by decide)⟩)
    (rscore 512 4 X0 X1 X3 b ⟨c.val * 2 + 0, by omega⟩ p) := by
  refine along (r := p.val % 4) rfl (by decide) (by decide) b _ _ p _ (Nat.mod_lt _ (by decide)) ?_ _ _ _ (fun e => ?_) (fun j hj e => ?_) (fun j => ?_)
  · show p.val = p.val % 4 + 4 * (128 * (p.val / 4 / 128) + p.val / 4 % 128)
    omega
  · rw [qRows2_at, h.q]
    exact congrArg X0 (congrArg (ix3 b p) (Fin.ext (by show c.val * 128 + (0 * 64 + e.val) = (c.val * 2 + 0) * 64 + e.val; omega)))
  · rw [kRows2_at _ _ _ _ hj, padK_at, h.k]
    exact congrArg X1 (congrArg (ix3 b _) (Fin.ext (by show c.val * 128 + (0 * 64 + e.val) = (c.val * 2 + 0) * 64 + e.val; omega)))
  · rw [bias20_at, h.s]
    rfl

theorem along21 (p : Fin 4096) : Along (inView (p.val / 4 / 128) ⟨p.val / 4 % 128, Nat.mod_lt _ (by decide)⟩) (keyAt 4 p ⟨p.val / 4 % 128, Nat.mod_lt _ (by decide)⟩)
    (tscore (qRows2 x0 (trip2Of p)) (kRows2 (padK x1) (trip2Of p)) (bias21 (View.canon (planes2 x3)) (trip2Of p)) 1 ⟨p.val / 4 % 128, Nat.mod_lt _ (by decide)⟩)
    (rscore 512 4 X0 X1 X3 b ⟨c.val * 2 + 1, by omega⟩ p) := by
  refine along (r := p.val % 4) rfl (by decide) (by decide) b _ _ p _ (Nat.mod_lt _ (by decide)) ?_ _ _ _ (fun e => ?_) (fun j hj e => ?_) (fun j => ?_)
  · show p.val = p.val % 4 + 4 * (128 * (p.val / 4 / 128) + p.val / 4 % 128)
    omega
  · rw [qRows2_at, h.q]
    exact congrArg X0 (congrArg (ix3 b p) (Fin.ext (by show c.val * 128 + (1 * 64 + e.val) = (c.val * 2 + 1) * 64 + e.val; omega)))
  · rw [kRows2_at _ _ _ _ hj, padK_at, h.k]
    exact congrArg X1 (congrArg (ix3 b _) (Fin.ext (by show c.val * 128 + (1 * 64 + e.val) = (c.val * 2 + 1) * 64 + e.val; omega)))
  · rw [bias21_at, h.s]
    rfl

theorem lseTile2_eq (p : Fin 4096) (l : Fin 128) :
    lseTile2 k0_pay40 x0 (padK x1) (View.canon (planes2 x3)) (trip2Of p) (ix2 ⟨p.val / 4 % 128, Nat.mod_lt _ (by decide)⟩ l)
      = logSum (rscore 512 4 X0 X1 X3 b ⟨c.val * 2 + l.val / 64, by omega⟩ p) := by
  unfold lseTile2
  rw [lse2_at]
  have hl : l.val / 64 = 0 ∨ l.val / 64 = 1 := by omega
  rcases hl with hl | hl
  · rw [if_pos hl, (along20 h p).logSum]
    simp only [hl]
  · rw [if_neg (by omega), (along21 h p).logSum]
    simp only [hl]

theorem val2 (p : Fin 4096) (l : Fin 128) (j : Fin 256) (hj : inView (p.val / 4 / 128) ⟨p.val / 4 % 128, Nat.mod_lt _ (by decide)⟩ j) :
    kRows2 (padV x2) (trip2Of p) (ix2 j l) = X2 (ix3 b (keyAt 4 p ⟨p.val / 4 % 128, Nat.mod_lt _ (by decide)⟩ j) ⟨c.val * 128 + l.val, by omega⟩) := by
  rw [kRows2_at _ _ _ _ hj, padV_at, h.v]

theorem outTile2_eq (p : Fin 4096) (l : Fin 128) :
    outTile2 k0_pay40 x0 (padK x1) (padV x2) (View.canon (planes2 x3)) (trip2Of p) (ix2 ⟨p.val / 4 % 128, Nat.mod_lt _ (by decide)⟩ l)
      = mean (rscore 512 4 X0 X1 X3 b ⟨c.val * 2 + l.val / 64, by omega⟩ p) (fun s' => X2 (ix3 b s' ⟨c.val * 128 + l.val, by omega⟩)) := by
  unfold outTile2
  rw [out2_at]
  have hl : l.val / 64 = 0 ∨ l.val / 64 = 1 := by omega
  rcases hl with hl | hl
  · rw [if_pos hl, (along20 h p).mean _ (fun s' => X2 (ix3 b s' ⟨c.val * 128 + l.val, by omega⟩)) (fun j hj => val2 h p l j hj)]
    simp only [hl]
  · rw [if_neg (by omega), (along21 h p).mean _ (fun s' => X2 (ix3 b s' ⟨c.val * 128 + l.val, by omega⟩)) (fun j hj => val2 h p l j hj)]
    simp only [hl]

omit h in
theorem rows2_at (T : Fin k0_t2_loop.trips → Vec Ideal S128x128 .f32) (p : Fin 4096) (l : Fin 128) :
    rows2 T (ix2 p l) = T (trip2Of p) (ix2 ⟨p.val / 4 % 128, Nat.mod_lt _ (by decide)⟩ l) := by
  unfold rows2
  refine congrArg (T _) (funext fun a => ?_)
  match a with
  | 0 => rfl
  | 1 => rfl

/-! ## Dilation 16 -/

theorem along30 (p : Fin 4096) : Along (inView (p.val / 16 / 128) ⟨p.val / 16 % 128, Nat.mod_lt _ (by decide)⟩) (keyAt 16 p ⟨p.val / 16 % 128, Nat.mod_lt _ (by decide)⟩)
    (tscore (qRows3 x0 (trip3Of p)) (kRows3 (padK x1) (trip3Of p)) (bias30 (View.canon (planes3 x3)) (trip3Of p)) 0 ⟨p.val / 16 % 128, Nat.mod_lt _ (by decide)⟩)
    (rscore 2048 16 X0 X1 X3 b ⟨c.val * 2 + 0, by omega⟩ p) := by
  refine along (r := p.val % 16) rfl (by decide) (by decide) b _ _ p _ (Nat.mod_lt _ (by decide)) ?_ _ _ _ (fun e => ?_) (fun j hj e => ?_) (fun j => ?_)
  · show p.val = p.val % 16 + 16 * (128 * (p.val / 16 / 128) + p.val / 16 % 128)
    omega
  · rw [qRows3_at, h.q]
    exact congrArg X0 (congrArg (ix3 b p) (Fin.ext (by show c.val * 128 + (0 * 64 + e.val) = (c.val * 2 + 0) * 64 + e.val; omega)))
  · rw [kRows3_at _ _ _ _ hj, padK_at, h.k]
    exact congrArg X1 (congrArg (ix3 b _) (Fin.ext (by show c.val * 128 + (0 * 64 + e.val) = (c.val * 2 + 0) * 64 + e.val; omega)))
  · rw [bias30_at, h.s]
    rfl

theorem along31 (p : Fin 4096) : Along (inView (p.val / 16 / 128) ⟨p.val / 16 % 128, Nat.mod_lt _ (by decide)⟩) (keyAt 16 p ⟨p.val / 16 % 128, Nat.mod_lt _ (by decide)⟩)
    (tscore (qRows3 x0 (trip3Of p)) (kRows3 (padK x1) (trip3Of p)) (bias31 (View.canon (planes3 x3)) (trip3Of p)) 1 ⟨p.val / 16 % 128, Nat.mod_lt _ (by decide)⟩)
    (rscore 2048 16 X0 X1 X3 b ⟨c.val * 2 + 1, by omega⟩ p) := by
  refine along (r := p.val % 16) rfl (by decide) (by decide) b _ _ p _ (Nat.mod_lt _ (by decide)) ?_ _ _ _ (fun e => ?_) (fun j hj e => ?_) (fun j => ?_)
  · show p.val = p.val % 16 + 16 * (128 * (p.val / 16 / 128) + p.val / 16 % 128)
    omega
  · rw [qRows3_at, h.q]
    exact congrArg X0 (congrArg (ix3 b p) (Fin.ext (by show c.val * 128 + (1 * 64 + e.val) = (c.val * 2 + 1) * 64 + e.val; omega)))
  · rw [kRows3_at _ _ _ _ hj, padK_at, h.k]
    exact congrArg X1 (congrArg (ix3 b _) (Fin.ext (by show c.val * 128 + (1 * 64 + e.val) = (c.val * 2 + 1) * 64 + e.val; omega)))
  · rw [bias31_at, h.s]
    rfl

theorem lseTile3_eq (p : Fin 4096) (l : Fin 128) :
    lseTile3 k0_pay40 x0 (padK x1) (View.canon (planes3 x3)) (trip3Of p) (ix2 ⟨p.val / 16 % 128, Nat.mod_lt _ (by decide)⟩ l)
      = logSum (rscore 2048 16 X0 X1 X3 b ⟨c.val * 2 + l.val / 64, by omega⟩ p) := by
  unfold lseTile3
  rw [lse3_at]
  have hl : l.val / 64 = 0 ∨ l.val / 64 = 1 := by omega
  rcases hl with hl | hl
  · rw [if_pos hl, (along30 h p).logSum]
    simp only [hl]
  · rw [if_neg (by omega), (along31 h p).logSum]
    simp only [hl]

theorem val3 (p : Fin 4096) (l : Fin 128) (j : Fin 256) (hj : inView (p.val / 16 / 128) ⟨p.val / 16 % 128, Nat.mod_lt _ (by decide)⟩ j) :
    kRows3 (padV x2) (trip3Of p) (ix2 j l) = X2 (ix3 b (keyAt 16 p ⟨p.val / 16 % 128, Nat.mod_lt _ (by decide)⟩ j) ⟨c.val * 128 + l.val, by omega⟩) := by
  rw [kRows3_at _ _ _ _ hj, padV_at, h.v]

theorem outTile3_eq (p : Fin 4096) (l : Fin 128) :
    outTile3 k0_pay40 x0 (padK x1) (padV x2) (View.canon (planes3 x3)) (trip3Of p) (ix2 ⟨p.val / 16 % 128, Nat.mod_lt _ (by decide)⟩ l)
      = mean (rscore 2048 16 X0 X1 X3 b ⟨c.val * 2 + l.val / 64, by omega⟩ p) (fun s' => X2 (ix3 b s' ⟨c.val * 128 + l.val, by omega⟩)) := by
  unfold outTile3
  rw [out3_at]
  have hl : l.val / 64 = 0 ∨ l.val / 64 = 1 := by omega
  rcases hl with hl | hl
  · rw [if_pos hl, (along30 h p).mean _ (fun s' => X2 (ix3 b s' ⟨c.val * 128 + l.val, by omega⟩)) (fun j hj => val3 h p l j hj)]
    simp only [hl]
  · rw [if_neg (by omega), (along31 h p).mean _ (fun s' => X2 (ix3 b s' ⟨c.val * 128 + l.val, by omega⟩)) (fun j hj => val3 h p l j hj)]
    simp only [hl]

omit h in
theorem rows3_at (T : Fin k0_t3_loop.trips → Vec Ideal S128x128 .f32) (p : Fin 4096) (l : Fin 128) :
    rows3 T (ix2 p l) = T (trip3Of p) (ix2 ⟨p.val / 16 % 128, Nat.mod_lt _ (by decide)⟩ l) := by
  unfold rows3
  refine congrArg (T _) (funext fun a => ?_)
  match a with
  | 0 => rfl
  | 1 => rfl

/-! ## The stored slab -/

omit h in
theorem mixRows_at (L : Vec Ideal S4096x128 .f32) (p : Fin 4096) (l : Fin 128) :
    mixRows L (mixOf p) (ix2 ⟨p.val % 256, Nat.mod_lt _ (by decide)⟩ l) = L (ix2 p l) := by
  unfold mixRows
  refine congrArg L (funext fun a => Fin.ext ?_)
  have ho := k0_off16_eq (mixOf p)
  match a with
  | 0 =>
    show k0_off16 (mixOf p) 0 + 1 * (p.val % 256) = p.val
    rw [ho]
    show 256 * (p.val / 256) + 1 * (p.val % 256) = p.val
    omega
  | 1 => show k0_off16 (mixOf p) 1 + 1 * l.val = l.val; rw [ho]; show 0 + 1 * l.val = l.val; omega

omit h in
theorem mixed_at (L1 L2 L3 O1 O2 O3 : Vec Ideal S4096x128 .f32) (p : Fin 4096) (l : Fin 128) :
    mixed L1 L2 L3 O1 O2 O3 (ix3 0 p l) = mix (L1 (ix2 p l)) (L2 (ix2 p l)) (L3 (ix2 p l)) (O1 (ix2 p l)) (O2 (ix2 p l)) (O3 (ix2 p l)) := by
  unfold mixed
  have e : mixPlace (ix3 0 p l) = (ix3 0 ⟨p.val % 256, Nat.mod_lt _ (by decide)⟩ l : S1x256x128.Idx) := by
    funext a
    match a with
    | 0 => rfl
    | 1 => rfl
    | 2 => rfl
  rw [e]
  unfold mixTile
  rw [mix_at]
  show mix (mixRows L1 (mixOf p) _) (mixRows L2 (mixOf p) _) (mixRows L3 (mixOf p) _) (mixRows O1 (mixOf p) _) (mixRows O2 (mixOf p) _) (mixRows O3 (mixOf p) _) = _
  simp only [mixRows_at]

/-- What a grid point stores is the reference's value. -/
theorem point (p : Fin 4096) (l : Fin 128) :
    outBand x0 x1 x2 x3 (ix3 0 p l) = Cert.BandRefIdeal.Read.val_main_v159 (F := Ideal) X0 X1 X2 X3 (ix3 b p ⟨c.val * 128 + l.val, by omega⟩) := by
  rw [result_at]
  unfold outBand
  rw [mixed_at]
  simp only [rows1_at, rows2_at, rows3_at, lseTile1_eq h, lseTile2_eq h, lseTile3_eq h, outTile1_eq h, outTile2_eq h, outTile3_eq h, lses, outs]
  have e1 : (⟨(c.val * 128 + l.val) / 64, by omega⟩ : Fin 6) = ⟨c.val * 2 + l.val / 64, by omega⟩ := Fin.ext (by show (c.val * 128 + l.val) / 64 = c.val * 2 + l.val / 64; omega)
  have e2 : (⟨(c.val * 128 + l.val) / 64 * 64 + (c.val * 128 + l.val) % 64, by omega⟩ : Fin 384) = ⟨c.val * 128 + l.val, by omega⟩ := Fin.ext (by show (c.val * 128 + l.val) / 64 * 64 + (c.val * 128 + l.val) % 64 = c.val * 128 + l.val; omega)
  simp only [e1, e2]

omit h in
theorem idx : ∀ t : Fin cfg0.N, win0_0.index t = ![t.val / 3, 0, t.val % 3] ∧ win0_1.index t = ![t.val / 3, 0, t.val % 3]
    ∧ win0_2.index t = ![t.val / 3, 0, t.val % 3] ∧ win0_3.index t = ![t.val % 3, 0, 0, 0] ∧ win0_4.index t = ![t.val / 3, 0, t.val % 3] :=
  (by decide +kernel : ∀ t : Fin grid0.N, _)

omit h in
/-- The slopes' block: the pair's two slopes, negated, each on a row of its own. -/
theorem slopes (m : (ℓ : Loc nD τ sig) → Buf (Elt Ideal) ℓ) (c : Dev nD) (t : Fin cfg0.N) (ht : t.val < 48) (g : Fin 2) (j : Fin 256) :
    (iblk m c 3 t (ix4 0 g 0 j) : EReal) = Neg.neg (α := EReal) (m ((c : Thread nD τ).loc main_arg3) (ix1 (⟨t.val % 3 * 2 + g.val, by omega⟩ : Fin 6))) := by
  unfold iblk
  refine Eq.trans (b := V m c (Pipeline.arrRef spec0 3) (ix4 (⟨t.val % 3, by omega⟩ : Fin 3) g 0 j)) ?_ (by entry_read; pointwise)
  generalize V m c _ = B
  blk_ext [idx t]

omit h in
/-- The result array after the run is the reference's. -/
theorem final (m : (ℓ : Loc nD τ sig) → Buf (Elt Ideal) ℓ) (c : Dev nD) :
    (dats m 0 c).arrAt 4 (cfgs 0).N
      = Cert.BandRefIdeal.Read.val_main_v159 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  have ht : t.val < 48 := t.isLt
  idx_vars y
  obtain rfl : y0 = 0 := Subsingleton.elim _ _
  rw [show ((View.whole main_v3).slice (win0_4.rect t)).emb (ix3 (0 : Fin 1) y1 y2)
      = ix3 (⟨t.val / 3, by omega⟩ : Fin 16) y1 (⟨t.val % 3 * 128 + y2.val, by omega⟩ : Fin 384) by blk_ext [idx t]]
  exact point (b := ⟨t.val / 3, by omega⟩) (c := ⟨t.val % 3, by omega⟩)
    ⟨fun p l => by blk_ext [iblk, V, idx t], fun p l => by blk_ext [iblk, V, idx t], fun p l => by blk_ext [iblk, V, idx t], fun g j => slopes m c t ht g j⟩ y1 y2

end Cert.BandIdeal.Hand

end
-- ==== Proof.Norms.lean ====
module

public import proofs.«01_k».proof.Proof.Softmax

/-! A row divided by its root mean square, whole or head by head, and a sum over three parts laid side by side. -/

@[expose] public section

set_option maxRecDepth 16384

noncomputable section

namespace Cert.Math

open Idealize.ShloMosaic

/-- The reciprocal root of the mean square of a row of `n` numbers, with the small constant under the root. -/
def irms {n : ℕ} (c : EReal) (x : Fin n → EReal) : EReal :=
  Ideal.rsqrt (Ideal.div (∑ j, x j * x j) c + Ideal.ofBits .f32 897988541#32)

/-- The row over its root mean square, times a gain. -/
def rms {n : ℕ} (c : EReal) (x g : Fin n → EReal) (l : Fin n) : EReal := x l * irms c x * g l

/-- A sum over three parts laid side by side is the sum of the parts' sums. -/
theorem sum_three (f g : Fin 384 → EReal) (k : Fin 256 → EReal) (w : Fin 1024 → EReal) :
    (∑ x : Fin 1024, (if h : x.val < 384 then f ⟨x.val, h⟩ else if h' : x.val - 384 < 384 then g ⟨x.val - 384, h'⟩
        else k ⟨x.val - 384 - 384, by omega⟩) * w x)
      = (∑ x : Fin 384, f x * w ⟨x.val, by omega⟩) + (∑ x : Fin 384, g x * w ⟨384 + x.val, by omega⟩)
        + ∑ x : Fin 256, k x * w ⟨768 + x.val, by omega⟩ := by
  rw [show (∑ x : Fin 1024, (if h : x.val < 384 then f ⟨x.val, h⟩ else if h' : x.val - 384 < 384 then g ⟨x.val - 384, h'⟩
        else k ⟨x.val - 384 - 384, by omega⟩) * w x)
      = ∑ x : Fin (384 + 384 + 256), (if h : x.val < 384 then f ⟨x.val, h⟩ else if h' : x.val - 384 < 384 then g ⟨x.val - 384, h'⟩
        else k ⟨x.val - 384 - 384, by omega⟩) * w x from rfl, Fin.sum_univ_add, Fin.sum_univ_add]
  refine congrArg₂ (· + ·) (congrArg₂ (· + ·) ?_ ?_) ?_
  · refine Finset.sum_congr rfl fun x _ => ?_
    rw [dif_pos (show ((Fin.castAdd 256 (Fin.castAdd 384 x) : Fin (384 + 384 + 256)) : ℕ) < 384 from x.isLt)]
    rfl
  · refine Finset.sum_congr rfl fun x _ => ?_
    have e : ((Fin.castAdd 256 (Fin.natAdd 384 x) : Fin (384 + 384 + 256)) : ℕ) = 384 + x.val := rfl
    rw [dif_neg (by omega), dif_pos (by omega)]
    congr 2
    exact Fin.ext (by simp only [e]; omega)
  · refine Finset.sum_congr rfl fun x _ => ?_
    have e : ((Fin.natAdd (384 + 384) x : Fin (384 + 384 + 256)) : ℕ) = 384 + 384 + x.val := rfl
    rw [dif_neg (by omega), dif_neg (by omega)]
    congr 2
    exact Fin.ext (by simp only [e]; omega)

/-! ### Heads of 64 lanes -/

/-- The head of a lane below `2 ^ 32`, as its bits shifted. -/
theorem shift_lane (x : ℕ) (hx : x < 4294967296) : IntOp.shrui .vector (BitVec.ofNat 32 x) 6#32 = BitVec.ofNat 32 (x / 64) := by
  unfold IntOp.shrui
  rw [if_pos (by decide)]
  apply BitVec.eq_of_toNat_eq
  simp [Nat.shiftRight_eq_div_pow]
  omega

theorem same_head (x l : ℕ) (hx : x < 4294967296) (hl : l < 4294967296) (a b : EReal) :
    Scalar.select (IntOp.cmpi .eq (IntOp.shrui .vector (BitVec.ofNat 32 x) 6#32) (IntOp.shrui .vector (BitVec.ofNat 32 l) 6#32)) a b
      = if x / 64 = l / 64 then a else b := by
  rw [shift_lane x hx, shift_lane l hl]
  by_cases h : x / 64 = l / 64
  · rw [h, if_pos rfl]; simp [IntOp.cmpi, Scalar.select]
  · have hne : BitVec.ofNat 32 (x / 64) ≠ BitVec.ofNat 32 (l / 64) := fun e => h (by
      have e' := congrArg BitVec.toNat e
      simp at e'
      omega)
    have hb : (BitVec.ofNat 32 (x / 64) == BitVec.ofNat 32 (l / 64)) = false := beq_eq_false_iff_ne.mpr hne
    rw [if_neg h]
    simp [IntOp.cmpi, Scalar.select, hb]

/-- A sum over the lanes of one head. -/
theorem sum_head {n : ℕ} (hn : n % 64 = 0) (l : Fin n) (f : Fin n → EReal) :
    (∑ j : Fin n, if j.val / 64 = l.val / 64 then f j else 0)
      = ∑ d : Fin 64, f ⟨l.val / 64 * 64 + d.val, by omega⟩ := by
  rw [← Finset.sum_filter]
  refine (Finset.sum_bij (fun (d : Fin 64) _ => (⟨l.val / 64 * 64 + d.val, by omega⟩ : Fin n)) ?_ ?_ ?_ ?_).symm
  · intro d _; simp; omega
  · intro a _ b _ hab; simp at hab; exact Fin.ext hab
  · intro j hj; simp at hj
    exact ⟨⟨j.val % 64, by omega⟩, Finset.mem_univ _, Fin.ext (by show l.val / 64 * 64 + j.val % 64 = j.val; omega)⟩
  · intro d _; rfl

/-- One head's lanes over their root mean square, from the sums over all lanes of a head's squares and of what rounding the squares leaves. -/
def headSplit {n : ℕ} (p g : Fin n → EReal) (l : Fin n) : EReal :=
  p l * Ideal.rsqrt (((∑ x : Fin n, Scalar.select (IntOp.cmpi .eq (IntOp.shrui .vector (BitVec.ofNat 32 x.val) 6#32) (IntOp.shrui .vector (BitVec.ofNat 32 l.val) 6#32)) (p x * p x) 0)
      + ∑ x : Fin n, Scalar.select (IntOp.cmpi .eq (IntOp.shrui .vector (BitVec.ofNat 32 x.val) 6#32) (IntOp.shrui .vector (BitVec.ofNat 32 l.val) 6#32)) (p x * p x - p x * p x) 0)
      * Ideal.ofBits .f32 1015021568#32 + Ideal.ofBits .f32 897988541#32) * g l

/-- One head's lanes over their root mean square. -/
def headNorm {n : ℕ} (hn : n % 64 = 0) (p : Fin n → EReal) (g : Fin 64 → EReal) (l : Fin n) : EReal :=
  p l * Ideal.rsqrt (Ideal.div (∑ d : Fin 64, p ⟨l.val / 64 * 64 + d.val, by omega⟩ * p ⟨l.val / 64 * 64 + d.val, by omega⟩)
      (Ideal.ofBits .f32 1115684864#32) + Ideal.ofBits .f32 897988541#32) * g ⟨l.val % 64, by omega⟩

theorem sixty_four : Ideal.ofBits .f32 1115684864#32 = ((64 : ℝ) : EReal) := by
  simp [Ideal.ofBits, Ideal.ieee]
  rw [← EReal.coe_mul]
  norm_num

theorem over_sixty_four : Ideal.ofBits .f32 1015021568#32 = ((1 / 64 : ℝ) : EReal) := by
  simp [Ideal.ofBits, Ideal.ieee]
  rw [← EReal.coe_mul]
  norm_num

theorem thousand : Ideal.ofBits .f32 1149239296#32 = ((1024 : ℝ) : EReal) := by
  simp [Ideal.ofBits, Ideal.ieee]
  rw [← EReal.coe_mul]
  norm_num

theorem small_pos : ∃ e : ℝ, 0 < e ∧ Ideal.ofBits .f32 897988541#32 = (e : EReal) := by
  refine ⟨8796093 / 2 ^ 43, by norm_num, ?_⟩
  simp [Ideal.ofBits, Ideal.ieee]
  rw [← EReal.coe_mul]
  norm_num

theorem sub_self_real {x : EReal} (h : IsReal x) : x - x = 0 := by
  obtain ⟨r, rfl⟩ := h
  rw [← EReal.coe_sub, sub_self, EReal.coe_zero]

/-- For real lanes the two ways of norming a head agree. -/
theorem head_eq {n : ℕ} (hn : n % 64 = 0) (hb : n < 4294967296) (p g : Fin n → EReal) (g' : Fin 64 → EReal) (l : Fin n)
    (h : ∀ x, IsReal (p x)) (hg : g l = g' ⟨l.val % 64, by omega⟩) : headSplit p g l = headNorm hn p g' l := by
  unfold headSplit headNorm
  have e1 : (∑ x : Fin n, Scalar.select (IntOp.cmpi .eq (IntOp.shrui .vector (BitVec.ofNat 32 x.val) 6#32) (IntOp.shrui .vector (BitVec.ofNat 32 l.val) 6#32)) (p x * p x) 0)
      = ∑ d : Fin 64, p ⟨l.val / 64 * 64 + d.val, by omega⟩ * p ⟨l.val / 64 * 64 + d.val, by omega⟩ := by
    rw [← sum_head hn l fun x => p x * p x]
    exact Finset.sum_congr rfl fun x _ => same_head _ _ (by omega) (by omega) _ _
  have e2 : (∑ x : Fin n, Scalar.select (IntOp.cmpi .eq (IntOp.shrui .vector (BitVec.ofNat 32 x.val) 6#32) (IntOp.shrui .vector (BitVec.ofNat 32 l.val) 6#32)) (p x * p x - p x * p x) 0) = 0 := by
    refine Finset.sum_eq_zero fun x _ => ?_
    rw [same_head _ _ (by omega) (by omega), sub_self_real ((h x).mul (h x)), ite_self]
  rw [e1, e2, add_zero, sixty_four, over_sixty_four, Ideal.div_coe (by norm_num), hg]

/-- The reciprocal root of the mean square of a row of real numbers is real. -/
theorem irms_isReal {n : ℕ} {x : Fin n → EReal} (h : ∀ j, IsReal (x j)) : IsReal (irms (Ideal.ofBits .f32 1149239296#32) x) := by
  choose r hr using h
  obtain ⟨e, he, hE⟩ := small_pos
  have hs : (∑ j, x j * x j) = ((∑ j, r j * r j : ℝ) : EReal) := by
    rw [Finset.sum_congr rfl fun j _ => by rw [hr j, ← EReal.coe_mul]]
    exact (map_sum (⟨⟨Real.toEReal, EReal.coe_zero⟩, EReal.coe_add⟩ : ℝ →+ EReal) _ _).symm
  have hp : 0 < (∑ j, r j * r j) * (1 / 1024) + e := by
    have := Finset.sum_nonneg (s := Finset.univ) fun j _ => mul_self_nonneg (r j)
    positivity
  unfold irms
  rw [hs, thousand, hE, Ideal.div_coe (by norm_num), ← EReal.coe_mul, ← EReal.coe_add, Ideal.rsqrt_coe, if_neg hp.not_gt, if_neg hp.ne']
  exact ⟨_, rfl⟩

theorem rms_isReal {n : ℕ} {x g : Fin n → EReal} (h : ∀ j, IsReal (x j)) (hg : ∀ j, IsReal (g j)) (l : Fin n) :
    IsReal (rms (Ideal.ofBits .f32 1149239296#32) x g l) := ((h l).mul (irms_isReal h)).mul (hg l)

end Cert.Math

end
-- ==== Proof.MixValue.lean ====
module

public import proofs.«01_k».proof.Proof.Gen.MixIdeal.Value
public import proofs.«01_k».proof.Proof.Gen.MixRefIdeal.Read
public import proofs.«01_k».proof.Proof.Norms
public import Idealize.ShloMosaic.Lib.Pipeline.ValueKit
public import Idealize.ShloMosaic.Lib.Pointwise
public import Idealize.ShloMosaic.Lib.Claim

/-! The output projection with the layer's second norm, the retrieval queries and their two score tables: what
    one grid point stores, row by row, and the four result arrays against the reference's. -/

@[expose] public section

set_option maxRecDepth 16384

noncomputable section

namespace Cert.MixIdeal.Hand

open Idealize.ShloMosaic Idealize.ShloMosaic.TcCoe Idealize.SL.Sem Cert.MixIdeal Cert.MixIdeal.Gen Cert.Math
open Idealize.ShloMosaic.Pipeline (Dat)

/-- One entry of the residual stream after the projection of the three normalised branches. -/
def mix (x : EReal) (a b : Fin 384 → EReal) (d : Fin 256 → EReal) (ga gb : Fin 384 → EReal) (gd : Fin 256 → EReal)
    (wa wb : Fin 384 → EReal) (wd : Fin 256 → EReal) : EReal :=
  x + ((∑ j, rms (Ideal.ofBits .f32 1136656384#32) a ga j * wa j) + (∑ j, rms (Ideal.ofBits .f32 1136656384#32) b gb j * wb j)
    + ∑ j, rms (Ideal.ofBits .f32 1132462080#32) d gd j * wd j)

theorem pay4_at (v0 v1 v16 v19 v20 v35 v39 v40 v55 v59) (r : Fin 512) (l : Fin 1024) :
    k0_pay4 (F := Ideal) (k0_pay3 v0 v1 v16 v19 v20 v35) v39 v40 v55 v59 (ix2 r l)
      = mix (v59 (ix2 r l)) (fun j => v0 (ix2 r j)) (fun j => v19 (ix2 r j)) (fun j => v39 (ix2 r j))
          (fun j => v1 (ix2 0 j)) (fun j => v20 (ix2 0 j)) (fun j => v40 (ix2 0 j))
          (fun j => v16 (ix2 j l)) (fun j => v35 (ix2 j l)) (fun j => v55 (ix2 j l)) := by
  pointwise [k0_pay4, k0_pay3]
  rfl

theorem pay5_at (v38 v39 v40 v55 v59 v62) (r : Fin 512) (l : Fin 1024) :
    k0_pay5 (F := Ideal) v38 v39 v40 v55 v59 v62 (ix2 r l)
      = rms (Ideal.ofBits .f32 1149239296#32) (fun j => k0_pay4 (F := Ideal) v38 v39 v40 v55 v59 (ix2 r j)) (fun j => v62 (ix2 0 j)) l := by
  pointwise [k0_pay5]
  rfl

theorem pay6_at (v76 v78) (r : Fin 512) (l : Fin 2048) :
    k0_pay6 (F := Ideal) v76 v78 (ix2 r l) = ∑ j : Fin 1024, v76 (ix2 r j) * v78 (ix2 j l) := by
  pointwise [k0_pay6]

section Ref
open Cert.MixRefIdeal.Read

theorem r12_at (X0 X4) (s : Fin 65536) (l : Fin 384) :
    val_main_v12 (F := Ideal) X0 X4 (ix2 s l) = rms (Ideal.ofBits .f32 1136656384#32) (fun j => X0 (ix2 s j)) (fun j => X4 (ix1 j)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem r25_at (X1 X5) (s : Fin 65536) (l : Fin 384) :
    val_main_v25 (F := Ideal) X1 X5 (ix2 s l) = rms (Ideal.ofBits .f32 1136656384#32) (fun j => X1 (ix2 s j)) (fun j => X5 (ix1 j)) l := by
  pointwise [val_main_v25, val_main_v24, val_main_v23, val_main_v22, val_main_v21, val_main_v20, val_main_v19, val_main_v18, val_main_v17, val_main_v16, val_main_v15, val_main_v14, val_main_v13, val_main_cst_2, val_main_cst_3, val_main_cst_4]
  rfl

theorem r38_at (X2 X6) (s : Fin 65536) (l : Fin 256) :
    val_main_v38 (F := Ideal) X2 X6 (ix2 s l) = rms (Ideal.ofBits .f32 1132462080#32) (fun j => X2 (ix2 s j)) (fun j => X6 (ix1 j)) l := by
  pointwise [val_main_v38, val_main_v37, val_main_v36, val_main_v35, val_main_v34, val_main_v33, val_main_v32, val_main_v31, val_main_v30, val_main_v29, val_main_v28, val_main_v27, val_main_v26, val_main_cst_5, val_main_cst_6, val_main_cst_7]
  rfl

theorem r41_at (X0 X1 X2 X3 X4 X5 X6 X7) (s : Fin 65536) (l : Fin 1024) :
    val_main_v41 (F := Ideal) X0 X1 X2 X3 X4 X5 X6 X7 (ix2 s l)
      = mix (X3 (ix2 s l)) (fun j => X0 (ix2 s j)) (fun j => X1 (ix2 s j)) (fun j => X2 (ix2 s j))
          (fun j => X4 (ix1 j)) (fun j => X5 (ix1 j)) (fun j => X6 (ix1 j))
          (fun j => X7 (ix2 ⟨j.val, by omega⟩ l)) (fun j => X7 (ix2 ⟨384 + j.val, by omega⟩ l)) (fun j => X7 (ix2 ⟨768 + j.val, by omega⟩ l)) := by
  pointwise [val_main_v41, val_main_v40, val_main_v39]
  refine congrArg (X3 (ix2 s l) + ·) ?_
  refine (sum_three (fun j => val_main_v12 (F := Ideal) X0 X4 (ix2 s j)) (fun j => val_main_v25 (F := Ideal) X1 X5 (ix2 s j))
    (fun j => val_main_v38 (F := Ideal) X2 X6 (ix2 s j)) (fun j => X7 (ix2 j l))).trans ?_
  simp only [r12_at, r25_at, r38_at]

theorem r54_at (X0 X1 X2 X3 X4 X5 X6 X7 X8) (s : Fin 65536) (l : Fin 1024) :
    val_main_v54 (F := Ideal) X0 X1 X2 X3 X4 X5 X6 X7 X8 (ix2 s l)
      = rms (Ideal.ofBits .f32 1149239296#32) (fun j => val_main_v41 (F := Ideal) X0 X1 X2 X3 X4 X5 X6 X7 (ix2 s j)) (fun j => X8 (ix1 j)) l := by
  pointwise [val_main_v54, val_main_v53, val_main_v52, val_main_v51, val_main_v50, val_main_v49, val_main_v48, val_main_v47, val_main_v46, val_main_v45, val_main_v44, val_main_v43, val_main_v42, val_main_cst_8, val_main_cst_9, val_main_cst_10]
  rfl

theorem r61_at (X0 X1 X2 X3 X4 X5 X6 X7 X8) (s : Fin 65536) (l : Fin 1024) :
    val_main_v61 (F := Ideal) X0 X1 X2 X3 X4 X5 X6 X7 X8 (ix2 s l) = val_main_v54 (F := Ideal) X0 X1 X2 X3 X4 X5 X6 X7 X8 (ix2 s l) := by
  pointwise [val_main_v61]

theorem r55_at (X0 X1 X2 X3 X4 X5 X6 X7 X8 X9) (s : Fin 65536) (l : Fin 2048) :
    val_main_v55 (F := Ideal) X0 X1 X2 X3 X4 X5 X6 X7 X8 X9 (ix2 s l)
      = ∑ j : Fin 1024, val_main_v54 (F := Ideal) X0 X1 X2 X3 X4 X5 X6 X7 X8 (ix2 s j) * X9 (ix2 j l) := by
  pointwise [val_main_v55]

theorem r58_at (X0 X1 X2 X3 X4 X5 X6 X7 X8 X9 X10) (h : Fin 8) (k : Fin 128) (s : Fin 65536) :
    val_main_v58 (F := Ideal) X0 X1 X2 X3 X4 X5 X6 X7 X8 X9 X10 (ix3 h k s)
      = ∑ d : Fin 128, X10 (ix3 h k d) * val_main_v55 (F := Ideal) X0 X1 X2 X3 X4 X5 X6 X7 X8 X9 (ix2 s ⟨h.val * 256 + d.val, by omega⟩) := by
  pointwise [val_main_v58, val_main_v57, val_main_v56]

theorem r60_at (X0 X1 X2 X3 X4 X5 X6 X7 X8 X9 X11) (h : Fin 8) (k : Fin 128) (s : Fin 65536) :
    val_main_v60 (F := Ideal) X0 X1 X2 X3 X4 X5 X6 X7 X8 X9 X11 (ix3 h k s)
      = ∑ d : Fin 128, X11 (ix3 h k d) * val_main_v55 (F := Ideal) X0 X1 X2 X3 X4 X5 X6 X7 X8 X9 (ix2 s ⟨h.val * 256 + (128 + d.val), by omega⟩) := by
  pointwise [val_main_v60, val_main_v59, val_main_v56]

end Ref

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0, 0]
    ∧ win0_11.index t = ![0, 0, 0] ∧ win0_12.index t = ![t.val, 0] ∧ win0_13.index t = ![t.val, 0] ∧ win0_14.index t = ![0, 0, t.val]
    ∧ win0_15.index t = ![0, 0, t.val] :=
  (by decide +kernel : ∀ t : Fin grid0.N, _)

theorem ld0 (B : Vec Ideal S512x384 .f32) : View.ld B r0_0 = B := View.ld_unit_lit _ B (by decide)
theorem ld1 (B : Vec Ideal S1x384 .f32) : View.ld B r0_1 = B := View.ld_unit_lit _ B (by decide)
theorem ld4 (B : Vec Ideal S512x256 .f32) : View.ld B r0_4 = B := View.ld_unit_lit _ B (by decide)
theorem ld5 (B : Vec Ideal S1x256 .f32) : View.ld B r0_5 = B := View.ld_unit_lit _ B (by decide)
theorem ld7 (B : Vec Ideal S512x1024 .f32) : View.ld B r0_7 = B := View.ld_unit_lit _ B (by decide)
theorem ld8 (B : Vec Ideal S1x1024 .f32) : View.ld B r0_8 = B := View.ld_unit_lit _ B (by decide)
theorem ld9 (B : Vec Ideal S1024x2048 .bf16) : View.ld B r0_9 = B := View.ld_unit_lit _ B (by decide)

/-- The stream's entry that point `t` stores is the reference's at the same row. -/
theorem x1_point (c : Dev nD) (t : Fin cfg0.N) (r : Fin 512) (l : Fin 1024) (s : Fin 65536) (hs : s.val = t.val * 512 + r.val) :
    k0_pay4 (F := Ideal) (k0_pay3 (iblk m c 0 t) (iblk m c 4 t) (View.ld (iblk m c 7 t) r0_2) (iblk m c 1 t) (iblk m c 5 t) (View.ld (iblk m c 7 t) r0_3))
        (iblk m c 2 t) (iblk m c 6 t) (View.ld (iblk m c 7 t) r0_6) (iblk m c 3 t) (ix2 r l)
      = Cert.MixRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 s l) := by
  rw [pay4_at, r41_at]
  have e0 : ∀ j : Fin 384, iblk m c 0 t (ix2 r j) = m ((c : Thread nD τ).loc main_arg0) (ix2 s j) := fun j => by blk_point [iblk, V, idx t]
  have e1 : ∀ j : Fin 384, iblk m c 1 t (ix2 r j) = m ((c : Thread nD τ).loc main_arg1) (ix2 s j) := fun j => by blk_point [iblk, V, idx t]
  have e2 : ∀ j : Fin 256, iblk m c 2 t (ix2 r j) = m ((c : Thread nD τ).loc main_arg2) (ix2 s j) := fun j => by blk_point [iblk, V, idx t]
  have e3 : iblk m c 3 t (ix2 r l) = m ((c : Thread nD τ).loc main_arg3) (ix2 s l) := by blk_point [iblk, V, idx t]
  have e4 : ∀ j : Fin 384, iblk m c 4 t (ix2 0 j) = m ((c : Thread nD τ).loc main_arg4) (ix1 j) := fun j => by
    unfold iblk
    refine Eq.trans (b := V m c (Pipeline.arrRef spec0 4) (ix2 0 j)) ?_ (by entry_read; pointwise)
    generalize V m c _ = B
    blk_ext [idx t]
  have e5 : ∀ j : Fin 384, iblk m c 5 t (ix2 0 j) = m ((c : Thread nD τ).loc main_arg5) (ix1 j) := fun j => by
    unfold iblk
    refine Eq.trans (b := V m c (Pipeline.arrRef spec0 5) (ix2 0 j)) ?_ (by entry_read; pointwise)
    generalize V m c _ = B
    blk_ext [idx t]
  have e6 : ∀ j : Fin 256, iblk m c 6 t (ix2 0 j) = m ((c : Thread nD τ).loc main_arg6) (ix1 j) := fun j => by
    unfold iblk
    refine Eq.trans (b := V m c (Pipeline.arrRef spec0 6) (ix2 0 j)) ?_ (by entry_read; pointwise)
    generalize V m c _ = B
    blk_ext [idx t]
  have e7 : ∀ j : Fin 384, View.ld (iblk m c 7 t) r0_2 (ix2 j l) = m ((c : Thread nD τ).loc main_arg7) (ix2 ⟨j.val, by omega⟩ l) := fun j => by blk_point [iblk, V, idx t]
  have e8 : ∀ j : Fin 384, View.ld (iblk m c 7 t) r0_3 (ix2 j l) = m ((c : Thread nD τ).loc main_arg7) (ix2 ⟨384 + j.val, by omega⟩ l) := fun j => by blk_point [iblk, V, idx t]
  have e9 : ∀ j : Fin 256, View.ld (iblk m c 7 t) r0_6 (ix2 j l) = m ((c : Thread nD τ).loc main_arg7) (ix2 ⟨768 + j.val, by omega⟩ l) := fun j => by blk_point [iblk, V, idx t]
  simp only [e0, e1, e2, e3, e4, e5, e6, e7, e8, e9]

/-- The point's blocks put into the values its stores share. -/
abbrev hb (c : Dev nD) (t : Fin cfg0.N) : FVec Ideal S512x1024 .bf16 :=
  k0_pay5 (F := Ideal) (k0_pay3 (iblk m c 0 t) (iblk m c 4 t) (View.ld (iblk m c 7 t) r0_2) (iblk m c 1 t) (iblk m c 5 t) (View.ld (iblk m c 7 t) r0_3))
    (iblk m c 2 t) (iblk m c 6 t) (View.ld (iblk m c 7 t) r0_6) (iblk m c 3 t) (iblk m c 8 t)

theorem hb_eq (c : Dev nD) (t : Fin cfg0.N) : k0_pay31 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = hb m c t := by
  unfold k0_pay31 k0_pay30
  simp only [ld0, ld1, ld4, ld5, ld7, ld8]
  rfl

theorem hn_point (c : Dev nD) (t : Fin cfg0.N) (r : Fin 512) (l : Fin 1024) (s : Fin 65536) (hs : s.val = t.val * 512 + r.val) :
    hb m c t (ix2 r l) = Cert.MixRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 s l) := by
  unfold hb
  rw [pay5_at, r54_at]
  have e8 : ∀ j : Fin 1024, iblk m c 8 t (ix2 0 j) = m ((c : Thread nD τ).loc main_arg8) (ix1 j) := fun j => by
    unfold iblk
    refine Eq.trans (b := V m c (Pipeline.arrRef spec0 8) (ix2 0 j)) ?_ (by entry_read; pointwise)
    generalize V m c _ = B
    blk_ext [idx t]
  simp only [e8]
  exact congrArg (fun f => rms _ f _ l) (funext fun j => x1_point m c t r j s hs)

theorem qry_point (c : Dev nD) (t : Fin cfg0.N) (r : Fin 512) (l : Fin 2048) (s : Fin 65536) (hs : s.val = t.val * 512 + r.val) :
    k0_pay6 (F := Ideal) (hb m c t) (iblk m c 9 t) (ix2 r l)
      = Cert.MixRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 s l) := by
  rw [pay6_at, r55_at]
  have e9 : ∀ j : Fin 1024, iblk m c 9 t (ix2 j l) = m ((c : Thread nD τ).loc main_arg9) (ix2 j l) := fun j => by blk_point [iblk, V, idx t]
  simp only [e9, fun j => hn_point m c t r j s hs]

/-- A score table of one tile: the keys of each head against the queries of that head's lanes from `o` on. -/
def table (o : ℕ) (ho : o ≤ 128) (x : Vec Ideal S8x128x128 .bf16) (q : FVec Ideal S512x2048 .bf16) : Vec Ideal S8x128x512 .f32 := fun y =>
  ∑ d : Fin 128, x (ix3 (y 0) (y 1) d) * q (ix2 (y 2) ⟨(y 0).val * 256 + (o + d.val), by have h : (y 0).val < 8 := (y 0).isLt; omega⟩)

/-- The stores of the first score table are one table over the heads. -/
theorem tiles14 (x0 x1 x2 x3 x4 x5 x6 x7 x8 x9 x10 x11) (y : S8x128x512.Idx) :
    out0_14 (F := Ideal) x0 x1 x2 x3 x4 x5 x6 x7 x8 x9 x10 x11 y
      = table 0 (by omega) x10 (k0_pay6 (F := Ideal) (k0_pay31 x0 x1 x2 x3 x4 x5 x6 x7 x8 x9 x10 x11) x9) y := by
  unfold out0_14 k0_pay32
  simp only [ld9]
  canon_tiles x h
  all_goals (open_payloads; pointwise [table]; blk_point [])

/-- The same for the second score table. -/
theorem tiles15 (x0 x1 x2 x3 x4 x5 x6 x7 x8 x9 x10 x11) (y : S8x128x512.Idx) :
    out0_15 (F := Ideal) x0 x1 x2 x3 x4 x5 x6 x7 x8 x9 x10 x11 y
      = table 128 (by omega) x11 (k0_pay6 (F := Ideal) (k0_pay31 x0 x1 x2 x3 x4 x5 x6 x7 x8 x9 x10 x11) x9) y := by
  unfold out0_15 k0_pay32
  simp only [ld9]
  canon_tiles x h
  all_goals (open_payloads; pointwise [table]; blk_point [])

set_option maxHeartbeats 400000 in
theorem final12 (c : Dev nD) :
    (dats m 0 c).arrAt 12 (cfgs 0).N = Cert.MixRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t _ y => ?_
  blk_simp
  rw [after0_12]
  unfold_out out0_12
  have ht : t.val < 128 := t.isLt
  idx_vars y
  rw [show ((View.whole main_v8_0).slice (win0_12.rect t)).emb (ix2 y0 y1)
      = ix2 (⟨t.val * 512 + y0.val, by omega⟩ : Fin 65536) y1 by blk_ext [idx t]]
  frame_out
  exact x1_point m c t y0 y1 _ rfl

set_option maxHeartbeats 400000 in
theorem final13 (c : Dev nD) :
    (dats m 0 c).arrAt 13 (cfgs 0).N = Cert.MixRefIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t _ y => ?_
  blk_simp
  rw [after0_13]
  unfold_out out0_13
  have ht : t.val < 128 := t.isLt
  idx_vars y
  rw [show ((View.whole main_v8_1).slice (win0_13.rect t)).emb (ix2 y0 y1)
      = ix2 (⟨t.val * 512 + y0.val, by omega⟩ : Fin 65536) y1 by blk_ext [idx t]]
  rw [r61_at]
  frame_out
  exact hn_point m c t y0 y1 _ rfl

set_option maxHeartbeats 400000 in
theorem final14 (c : Dev nD) :
    (dats m 0 c).arrAt 14 (cfgs 0).N = Cert.MixRefIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t _ y => ?_
  blk_simp
  rw [after0_14]
  have ht : t.val < 128 := t.isLt
  rw [tiles14, hb_eq]
  idx_vars y
  rw [show ((View.whole main_v8_2).slice (win0_14.rect t)).emb (ix3 y0 y1 y2)
      = ix3 y0 y1 (⟨t.val * 512 + y2.val, by omega⟩ : Fin 65536) by blk_ext [idx t]]
  rw [r58_at]
  have e : ∀ d : Fin 128, iblk m c 10 t (ix3 y0 y1 d) = m ((c : Thread nD τ).loc main_arg10) (ix3 y0 y1 d) := fun d => by blk_point [iblk, V, idx t]
  refine Fin.sum_fin_congr fun d => ?_
  exact congrArg₂ (· * ·) (e d) ((qry_point m c t y2 _ (⟨t.val * 512 + y2.val, by omega⟩ : Fin 65536) rfl).trans (by blk_ext []))

set_option maxHeartbeats 400000 in
theorem final15 (c : Dev nD) :
    (dats m 0 c).arrAt 15 (cfgs 0).N = Cert.MixRefIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) := by
  refine (dats m 0 c).arrAt_eq_of_covers 15 _ (by decide +kernel) fun t _ y => ?_
  blk_simp
  rw [after0_15]
  have ht : t.val < 128 := t.isLt
  rw [tiles15, hb_eq]
  idx_vars y
  rw [show ((View.whole main_v8_3).slice (win0_15.rect t)).emb (ix3 y0 y1 y2)
      = ix3 y0 y1 (⟨t.val * 512 + y2.val, by omega⟩ : Fin 65536) by blk_ext [idx t]]
  rw [r60_at]
  have e : ∀ d : Fin 128, iblk m c 11 t (ix3 y0 y1 d) = m ((c : Thread nD τ).loc main_arg11) (ix3 y0 y1 d) := fun d => by blk_point [iblk, V, idx t]
  refine Fin.sum_fin_congr fun d => ?_
  exact congrArg₂ (· * ·) (e d) ((qry_point m c t y2 _ (⟨t.val * 512 + y2.val, by omega⟩ : Fin 65536) rfl).trans (by blk_ext []))

end Cert.MixIdeal.Hand

end
-- ==== Proof.ProjectValue.lean ====
module

public import proofs.«01_k».proof.Proof.Gen.ProjectIdeal.Value
public import proofs.«01_k».proof.Proof.Gen.ProjectRefIdeal.Read
public import proofs.«01_k».proof.Proof.Norms
public import Idealize.ShloMosaic.Lib.Pipeline.ValueKit
public import Idealize.ShloMosaic.Lib.Pointwise
public import Idealize.ShloMosaic.Lib.Claim

/-! The input projection with its per-head norms: what one grid point stores, and the seven result arrays against the
    reference's. Squares of real numbers leave nothing when rounded, so the sum of what they leave is zero. -/

@[expose] public section

set_option maxRecDepth 16384

noncomputable section

namespace Cert.ProjectIdeal.Hand

open Idealize.ShloMosaic Idealize.ShloMosaic.TcCoe Idealize.SL.Sem Cert.ProjectIdeal Cert.ProjectIdeal.Gen Cert.Math
open Idealize.ShloMosaic.Pipeline (Dat)

theorem pay2_at (v0 v1 v16) (r : Fin 512) (l : Fin 2560) :
    k0_pay2 (F := Ideal) v0 v1 v16 (ix2 r l)
      = ∑ j : Fin 1024, rms (Ideal.ofBits .f32 1149239296#32) (fun j => v0 (ix2 r j)) (fun j => v1 (ix2 0 j)) j * v16 (ix2 j l) := by
  pointwise [k0_pay2]
  rfl

theorem pay6_at (v0 v1 v16 v20) (r : Fin 512) (l : Fin 384) :
    k0_pay6 (F := Ideal) (k0_pay3 v0 v1 v16) (k0_pay4 v20) (k0_pay5 v0 v1 v16) (ix2 r l)
      = headSplit (fun j : Fin 384 => k0_pay2 (F := Ideal) v0 v1 v16 (ix2 r ⟨j.val, by omega⟩)) (fun j => v20 (ix2 0 j)) l := by
  pointwise [k0_pay6, k0_pay3, k0_pay4, k0_pay5]
  rfl

theorem pay7_at (v18 v51) (r : Fin 512) (l : Fin 384) :
    k0_pay7 (F := Ideal) v18 v51 (ix2 r l)
      = headSplit (fun j : Fin 384 => v18 (ix2 r ⟨384 + j.val, by omega⟩)) (fun j => v51 (ix2 0 j)) l := by
  pointwise [k0_pay7]
  rfl

theorem pay8_at (v18) (r : Fin 512) (l : Fin 384) : k0_pay8 (F := Ideal) v18 (ix2 r l) = v18 (ix2 r ⟨768 + l.val, by omega⟩) := by
  pointwise [k0_pay8]

theorem pay9_at (v18 v84) (r : Fin 512) (l : Fin 384) :
    k0_pay9 (F := Ideal) v18 v84 (ix2 r l)
      = headSplit (fun j : Fin 384 => v18 (ix2 r ⟨1152 + j.val, by omega⟩)) (fun j => v84 (ix2 0 j)) l := by
  pointwise [k0_pay9]
  rfl

theorem pay14_at (v18 v115) (r : Fin 512) (l : Fin 384) :
    k0_pay14 (F := Ideal) (k0_pay10 v18) (k0_pay11 v115) k0_pay12 k0_pay13 (ix2 r l)
      = headSplit (fun j : Fin 384 => v18 (ix2 r ⟨1536 + j.val, by omega⟩)) (fun j => v115 (ix2 0 j)) l := by
  pointwise [k0_pay14, k0_pay10, k0_pay11, k0_pay12, k0_pay13]
  rfl

theorem pay15_at (v18) (r : Fin 512) (l : Fin 384) : k0_pay15 (F := Ideal) v18 (ix2 r l) = v18 (ix2 r ⟨1920 + l.val, by omega⟩) := by
  pointwise [k0_pay15]

theorem pay1_at (v18 v148) (r : Fin 512) (l : Fin 256) :
    k0_pay1 (F := Ideal) (k0_pay16 v18) (k0_pay17 v148) k0_pay18 (k0_pay20 v18) (k0_pay21 v18) (ix2 r l)
      = headSplit (fun j : Fin 256 => v18 (ix2 r ⟨2304 + j.val, by omega⟩)) (fun j => v148 (ix2 0 j)) l := by
  pointwise [k0_pay1, k0_pay16, k0_pay17, k0_pay18, k0_pay19, k0_pay20, k0_pay21]
  rfl

section Ref
open Cert.ProjectRefIdeal.Read

theorem r13_at (X0 X1 X2) (s : Fin 65536) (l : Fin 2560) :
    val_main_v13 (F := Ideal) X0 X1 X2 (ix2 s l)
      = ∑ j : Fin 1024, rms (Ideal.ofBits .f32 1149239296#32) (fun j => X0 (ix2 s j)) (fun j => X1 (ix1 j)) j * X2 (ix2 j l) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem r35_at (X0 X1 X2 X3) (s : Fin 65536) (l : Fin 384) :
    val_main_v35 (F := Ideal) X0 X1 X2 X3 (ix2 s l)
      = headNorm (n := 384) (by decide) (fun j => val_main_v13 (F := Ideal) X0 X1 X2 (ix2 s ⟨j.val, by omega⟩)) (fun j => X3 (ix1 j)) l := by
  pointwise [val_main_v35, val_main_v34, val_main_v33, val_main_v32, val_main_v31, val_main_v30, val_main_v29, val_main_v28, val_main_v27, val_main_v26, val_main_v25, val_main_v24, val_main_v23, val_main_v22, val_main_v21, val_main_v14, val_main_cst_2, val_main_cst_3, val_main_cst_4]
  rfl

theorem r50_at (X0 X1 X2 X4) (s : Fin 65536) (l : Fin 384) :
    val_main_v50 (F := Ideal) X0 X1 X2 X4 (ix2 s l)
      = headNorm (n := 384) (by decide) (fun j => val_main_v13 (F := Ideal) X0 X1 X2 (ix2 s ⟨384 + j.val, by omega⟩)) (fun j => X4 (ix1 j)) l := by
  pointwise [val_main_v50, val_main_v49, val_main_v48, val_main_v47, val_main_v46, val_main_v45, val_main_v44, val_main_v43, val_main_v42, val_main_v41, val_main_v40, val_main_v39, val_main_v38, val_main_v37, val_main_v36, val_main_v15, val_main_cst_5, val_main_cst_6, val_main_cst_7]
  rfl

theorem r65_at (X0 X1 X2 X5) (s : Fin 65536) (l : Fin 384) :
    val_main_v65 (F := Ideal) X0 X1 X2 X5 (ix2 s l)
      = headNorm (n := 384) (by decide) (fun j => val_main_v13 (F := Ideal) X0 X1 X2 (ix2 s ⟨1152 + j.val, by omega⟩)) (fun j => X5 (ix1 j)) l := by
  pointwise [val_main_v65, val_main_v64, val_main_v63, val_main_v62, val_main_v61, val_main_v60, val_main_v59, val_main_v58, val_main_v57, val_main_v56, val_main_v55, val_main_v54, val_main_v53, val_main_v52, val_main_v51, val_main_v17, val_main_cst_8, val_main_cst_9, val_main_cst_10]
  rfl

theorem r80_at (X0 X1 X2 X6) (s : Fin 65536) (l : Fin 384) :
    val_main_v80 (F := Ideal) X0 X1 X2 X6 (ix2 s l)
      = headNorm (n := 384) (by decide) (fun j => val_main_v13 (F := Ideal) X0 X1 X2 (ix2 s ⟨1536 + j.val, by omega⟩)) (fun j => X6 (ix1 j)) l := by
  pointwise [val_main_v80, val_main_v79, val_main_v78, val_main_v77, val_main_v76, val_main_v75, val_main_v74, val_main_v73, val_main_v72, val_main_v71, val_main_v70, val_main_v69, val_main_v68, val_main_v67, val_main_v66, val_main_v18, val_main_cst_11, val_main_cst_12, val_main_cst_13]
  rfl

theorem r95_at (X0 X1 X2 X7) (s : Fin 65536) (l : Fin 256) :
    val_main_v95 (F := Ideal) X0 X1 X2 X7 (ix2 s l)
      = headNorm (n := 256) (by decide) (fun j => val_main_v13 (F := Ideal) X0 X1 X2 (ix2 s ⟨2304 + j.val, by omega⟩)) (fun j => X7 (ix1 j)) l := by
  pointwise [val_main_v95, val_main_v94, val_main_v93, val_main_v92, val_main_v91, val_main_v90, val_main_v89, val_main_v88, val_main_v87, val_main_v86, val_main_v85, val_main_v84, val_main_v83, val_main_v82, val_main_v81, val_main_v20, val_main_cst_14, val_main_cst_15, val_main_cst_16]
  rfl

theorem r16_at (X0 X1 X2) (s : Fin 65536) (l : Fin 384) :
    val_main_v16 (F := Ideal) X0 X1 X2 (ix2 s l) = val_main_v13 (F := Ideal) X0 X1 X2 (ix2 s ⟨768 + l.val, by omega⟩) := by
  pointwise [val_main_v16]

theorem r19_at (X0 X1 X2) (s : Fin 65536) (l : Fin 384) :
    val_main_v19 (F := Ideal) X0 X1 X2 (ix2 s l) = val_main_v13 (F := Ideal) X0 X1 X2 (ix2 s ⟨1920 + l.val, by omega⟩) := by
  pointwise [val_main_v19]

theorem r13_isReal (X0 X1 X2) (h0 : ∀ i, IsReal (X0 i)) (h1 : ∀ i, IsReal (X1 i)) (h2 : ∀ i, IsReal (X2 i)) (s : Fin 65536) (l : Fin 2560) :
    IsReal (val_main_v13 (F := Ideal) X0 X1 X2 (ix2 s l)) := by
  rw [r13_at]
  exact IsReal.sum _ fun j _ => (rms_isReal (fun j => h0 _) (fun j => h1 _) j).mul (h2 _)

end Ref

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

/-- The projected row of a tile is the reference's projected row. -/
theorem proj_point (c : Dev nD) (t : Fin cfg0.N) (r : Fin 512) (l : Fin 2560) (s : Fin 65536) (hs : s.val = t.val * 512 + r.val) :
    k0_pay2 (F := Ideal) (iblk m c 0 t) (iblk m c 1 t) (iblk m c 2 t) (ix2 r l)
      = Cert.ProjectRefIdeal.Read.val_main_v13 (F := Ideal) (m ((c : Thread nD τ).loc main_arg0)) (m ((c : Thread nD τ).loc main_arg1)) (m ((c : Thread nD τ).loc main_arg2)) (ix2 s l) := by
  rw [pay2_at, r13_at]
  have e0 : ∀ j : Fin 1024, iblk m c 0 t (ix2 r j) = m ((c : Thread nD τ).loc main_arg0) (ix2 s j) := fun j => by blk_point [iblk, V, idx t]
  have e1 : ∀ j : Fin 1024, iblk m c 1 t (ix2 0 j) = m ((c : Thread nD τ).loc main_arg1) (ix1 j) := fun j => by
    unfold iblk
    refine Eq.trans (b := V m c (Pipeline.arrRef spec0 1) (ix2 0 j)) ?_ (by entry_read; pointwise)
    generalize V m c _ = B
    blk_ext [idx t]
  have e2 : ∀ j : Fin 1024, iblk m c 2 t (ix2 j l) = m ((c : Thread nD τ).loc main_arg2) (ix2 j l) := fun j => by blk_point [iblk, V, idx t]
  simp only [e0, e1, e2]

theorem gain3 (c : Dev nD) (t : Fin cfg0.N) (j : Fin 384) :
    iblk m c 3 t (ix2 0 j) = m ((c : Thread nD τ).loc main_arg3) (ix1 ⟨j.val % 64, by omega⟩) := by
  unfold iblk
  refine Eq.trans (b := V m c (Pipeline.arrRef spec0 3) (ix2 0 j)) ?_ (by entry_read; pointwise)
  generalize V m c _ = B
  blk_ext [idx t]

theorem gain4 (c : Dev nD) (t : Fin cfg0.N) (j : Fin 384) :
    iblk m c 4 t (ix2 0 j) = m ((c : Thread nD τ).loc main_arg4) (ix1 ⟨j.val % 64, by omega⟩) := by
  unfold iblk
  refine Eq.trans (b := V m c (Pipeline.arrRef spec0 4) (ix2 0 j)) ?_ (by entry_read; pointwise)
  generalize V m c _ = B
  blk_ext [idx t]

theorem gain5 (c : Dev nD) (t : Fin cfg0.N) (j : Fin 384) :
    iblk m c 5 t (ix2 0 j) = m ((c : Thread nD τ).loc main_arg5) (ix1 ⟨j.val % 64, by omega⟩) := by
  unfold iblk
  refine Eq.trans (b := V m c (Pipeline.arrRef spec0 5) (ix2 0 j)) ?_ (by entry_read; pointwise)
  generalize V m c _ = B
  blk_ext [idx t]

theorem gain6 (c : Dev nD) (t : Fin cfg0.N) (j : Fin 384) :
    iblk m c 6 t (ix2 0 j) = m ((c : Thread nD τ).loc main_arg6) (ix1 ⟨j.val % 64, by omega⟩) := by
  unfold iblk
  refine Eq.trans (b := V m c (Pipeline.arrRef spec0 6) (ix2 0 j)) ?_ (by entry_read; pointwise)
  generalize V m c _ = B
  blk_ext [idx t]

theorem gain7 (c : Dev nD) (t : Fin cfg0.N) (j : Fin 256) :
    iblk m c 7 t (ix2 0 j) = m ((c : Thread nD τ).loc main_arg7) (ix1 ⟨j.val % 64, by omega⟩) := by
  unfold iblk
  refine Eq.trans (b := V m c (Pipeline.arrRef spec0 7) (ix2 0 j)) ?_ (by entry_read; pointwise)
  generalize V m c _ = B
  blk_ext [idx t]

set_option maxHeartbeats 400000 in
theorem final8 (c : Dev nD) (h0 : ∀ i, IsReal (m ((c : Thread nD τ).loc main_arg0) i)) (h1 : ∀ i, IsReal (m ((c : Thread nD τ).loc main_arg1) i)) (h2 : ∀ i, IsReal (m ((c : Thread nD τ).loc main_arg2) i)) :
    (dats m 0 c).arrAt 8 (cfgs 0).N = Cert.ProjectRefIdeal.Read.val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  unfold_out out0_8
  have ht : t.val < 128 := t.isLt
  idx_vars y
  rw [show ((View.whole main_v22_0).slice (win0_8.rect t)).emb (ix2 y0 y1)
      = ix2 (⟨t.val * 512 + y0.val, by omega⟩ : Fin 65536) y1 by blk_ext [idx t]]
  frame_out
  refine (pay6_at _ _ _ _ _ _).trans ?_
  rw [r35_at, ← head_eq (n := 384) (by decide) (by decide) _ (fun j => iblk m c 3 t (ix2 0 j)) _ _ (fun x => r13_isReal _ _ _ h0 h1 h2 _ _) (gain3 m c t y1)]
  exact congrArg (fun p => headSplit p (fun j : Fin 384 => iblk m c 3 t (ix2 0 j)) y1) (funext fun j => proj_point m c t y0 _ _ rfl)

set_option maxHeartbeats 400000 in
theorem final9 (c : Dev nD) (h0 : ∀ i, IsReal (m ((c : Thread nD τ).loc main_arg0) i)) (h1 : ∀ i, IsReal (m ((c : Thread nD τ).loc main_arg1) i)) (h2 : ∀ i, IsReal (m ((c : Thread nD τ).loc main_arg2) i)) :
    (dats m 0 c).arrAt 9 (cfgs 0).N = Cert.ProjectRefIdeal.Read.val_main_v50 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t _ y => ?_
  blk_simp
  rw [after0_9]
  unfold_out out0_9
  have ht : t.val < 128 := t.isLt
  idx_vars y
  rw [show ((View.whole main_v22_1).slice (win0_9.rect t)).emb (ix2 y0 y1)
      = ix2 (⟨t.val * 512 + y0.val, by omega⟩ : Fin 65536) y1 by blk_ext [idx t]]
  frame_out
  refine (pay7_at _ _ _ _).trans ?_
  rw [r50_at, ← head_eq (n := 384) (by decide) (by decide) _ (fun j => iblk m c 4 t (ix2 0 j)) _ _ (fun x => r13_isReal _ _ _ h0 h1 h2 _ _) (gain4 m c t y1)]
  exact congrArg (fun p => headSplit p (fun j : Fin 384 => iblk m c 4 t (ix2 0 j)) y1) (funext fun j => proj_point m c t y0 _ _ rfl)

set_option maxHeartbeats 400000 in
theorem final10 (c : Dev nD) :
    (dats m 0 c).arrAt 10 (cfgs 0).N = Cert.ProjectRefIdeal.Read.val_main_v16 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  unfold_out out0_10
  have ht : t.val < 128 := t.isLt
  idx_vars y
  rw [show ((View.whole main_v22_2).slice (win0_10.rect t)).emb (ix2 y0 y1)
      = ix2 (⟨t.val * 512 + y0.val, by omega⟩ : Fin 65536) y1 by blk_ext [idx t]]
  frame_out
  rw [r16_at]
  exact (pay8_at _ _ _).trans (proj_point m c t y0 _ _ rfl)

set_option maxHeartbeats 400000 in
theorem final11 (c : Dev nD) (h0 : ∀ i, IsReal (m ((c : Thread nD τ).loc main_arg0) i)) (h1 : ∀ i, IsReal (m ((c : Thread nD τ).loc main_arg1) i)) (h2 : ∀ i, IsReal (m ((c : Thread nD τ).loc main_arg2) i)) :
    (dats m 0 c).arrAt 11 (cfgs 0).N = Cert.ProjectRefIdeal.Read.val_main_v65 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 11 _ (by decide +kernel) fun t _ y => ?_
  blk_simp
  rw [after0_11]
  unfold_out out0_11
  have ht : t.val < 128 := t.isLt
  idx_vars y
  rw [show ((View.whole main_v22_3).slice (win0_11.rect t)).emb (ix2 y0 y1)
      = ix2 (⟨t.val * 512 + y0.val, by omega⟩ : Fin 65536) y1 by blk_ext [idx t]]
  frame_out
  refine (pay9_at _ _ _ _).trans ?_
  rw [r65_at, ← head_eq (n := 384) (by decide) (by decide) _ (fun j => iblk m c 5 t (ix2 0 j)) _ _ (fun x => r13_isReal _ _ _ h0 h1 h2 _ _) (gain5 m c t y1)]
  exact congrArg (fun p => headSplit p (fun j : Fin 384 => iblk m c 5 t (ix2 0 j)) y1) (funext fun j => proj_point m c t y0 _ _ rfl)

set_option maxHeartbeats 400000 in
theorem final12 (c : Dev nD) (h0 : ∀ i, IsReal (m ((c : Thread nD τ).loc main_arg0) i)) (h1 : ∀ i, IsReal (m ((c : Thread nD τ).loc main_arg1) i)) (h2 : ∀ i, IsReal (m ((c : Thread nD τ).loc main_arg2) i)) :
    (dats m 0 c).arrAt 12 (cfgs 0).N = Cert.ProjectRefIdeal.Read.val_main_v80 (F := Ideal) (m ((c : Thread nD τ).loc main_arg0)) (m ((c : Thread nD τ).loc main_arg1)) (m ((c : Thread nD τ).loc main_arg2)) (m ((c : Thread nD τ).loc main_arg6)) := by
  refine (dats m 0 c).arrAt_eq_of_covers 12 _ (by decide +kernel) fun t _ y => ?_
  blk_simp
  rw [after0_12]
  unfold_out out0_12
  have ht : t.val < 128 := t.isLt
  idx_vars y
  rw [show ((View.whole main_v22_4).slice (win0_12.rect t)).emb (ix2 y0 y1)
      = ix2 (⟨t.val * 512 + y0.val, by omega⟩ : Fin 65536) y1 by blk_ext [idx t]]
  frame_out
  refine (pay14_at _ _ _ _).trans ?_
  rw [r80_at, ← head_eq (n := 384) (by decide) (by decide) _ (fun j => iblk m c 6 t (ix2 0 j)) _ _ (fun x => r13_isReal _ _ _ h0 h1 h2 _ _) (gain6 m c t y1)]
  exact congrArg (fun p => headSplit p (fun j : Fin 384 => iblk m c 6 t (ix2 0 j)) y1) (funext fun j => proj_point m c t y0 _ _ rfl)

set_option maxHeartbeats 400000 in
theorem final13 (c : Dev nD) :
    (dats m 0 c).arrAt 13 (cfgs 0).N = Cert.ProjectRefIdeal.Read.val_main_v19 (F := Ideal) (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  unfold_out out0_13
  have ht : t.val < 128 := t.isLt
  idx_vars y
  rw [show ((View.whole main_v22_5).slice (win0_13.rect t)).emb (ix2 y0 y1)
      = ix2 (⟨t.val * 512 + y0.val, by omega⟩ : Fin 65536) y1 by blk_ext [idx t]]
  frame_out
  rw [r19_at]
  exact (pay15_at _ _ _).trans (proj_point m c t y0 _ _ rfl)

set_option maxHeartbeats 400000 in
theorem final14 (c : Dev nD) (h0 : ∀ i, IsReal (m ((c : Thread nD τ).loc main_arg0) i)) (h1 : ∀ i, IsReal (m ((c : Thread nD τ).loc main_arg1) i)) (h2 : ∀ i, IsReal (m ((c : Thread nD τ).loc main_arg2) i)) :
    (dats m 0 c).arrAt 14 (cfgs 0).N = Cert.ProjectRefIdeal.Read.val_main_v95 (F := Ideal) (m ((c : Thread nD τ).loc main_arg0)) (m ((c : Thread nD τ).loc main_arg1)) (m ((c : Thread nD τ).loc main_arg2)) (m ((c : Thread nD τ).loc main_arg7)) := by
  refine (dats m 0 c).arrAt_eq_of_covers 14 _ (by decide +kernel) fun t _ y => ?_
  blk_simp
  rw [after0_14]
  unfold_out out0_14
  have ht : t.val < 128 := t.isLt
  idx_vars y
  rw [show ((View.whole main_v22_6).slice (win0_14.rect t)).emb (ix2 y0 y1)
      = ix2 (⟨t.val * 512 + y0.val, by omega⟩ : Fin 65536) y1 by blk_ext [idx t]]
  frame_out
  refine (pay1_at _ _ _ _).trans ?_
  rw [r95_at, ← head_eq (n := 256) (by decide) (by decide) _ (fun j => iblk m c 7 t (ix2 0 j)) _ _ (fun x => r13_isReal _ _ _ h0 h1 h2 _ _) (gain7 m c t y1)]
  exact congrArg (fun p => headSplit p (fun j : Fin 256 => iblk m c 7 t (ix2 0 j)) y1) (funext fun j => proj_point m c t y0 _ _ rfl)

end Cert.ProjectIdeal.Hand

end
-- ==== Proof.TokensValue.lean ====
module

public import proofs.«01_k».proof.Proof.Gen.TokensIdeal.Value
public import proofs.«01_k».proof.Proof.Gen.TokensRefIdeal.Read
public import proofs.«01_k».proof.Proof.Norms
public import Idealize.ShloMosaic.Lib.Pipeline.ValueKit
public import Idealize.ShloMosaic.Lib.Pointwise
public import Idealize.ShloMosaic.Lib.Claim

/-! The memory's keys and values with the keys' per-head norm: what one grid point stores, and the two result
    arrays against the reference's. -/

@[expose] public section

set_option maxRecDepth 16384

noncomputable section

namespace Cert.TokensIdeal.Hand

open Idealize.ShloMosaic Idealize.ShloMosaic.TcCoe Idealize.SL.Sem Cert.TokensIdeal Cert.TokensIdeal.Gen Cert.Math
open Idealize.ShloMosaic.Pipeline (Dat)

theorem pay3_at (v0 v2 v17) (r : Fin 256) (l : Fin 512) :
    k0_pay3 (F := Ideal) v0 v2 v17 (ix2 r l)
      = ∑ j : Fin 1024, rms (Ideal.ofBits .f32 1149239296#32) (fun j => v0 (ix3 0 r j)) (fun j => v2 (ix2 0 j)) j * v17 (ix2 j l) := by
  pointwise [k0_pay3]
  rfl

theorem pay1_at (v0 v2 v17 v21) (r : Fin 256) (l : Fin 256) :
    k0_pay1 (F := Ideal) (k0_pay4 v0 v2 v17) (k0_pay5 v21) k0_pay6 (k0_pay9 v0 v2 v17) (k0_pay10 v0 v2 v17) (constant S256x256 .f32 0x00000000#32) (ix3 0 r l)
      = headSplit (fun j : Fin 256 => k0_pay3 (F := Ideal) v0 v2 v17 (ix2 r ⟨j.val, by omega⟩)) (fun j => v21 (ix2 0 j)) l := by
  pointwise [k0_pay1, k0_pay4, k0_pay5, k0_pay6, k0_pay7, k0_pay8, k0_pay9, k0_pay10]
  rfl

theorem pay2_at (v19) (r : Fin 256) (l : Fin 256) : k0_pay2 (F := Ideal) v19 (ix3 0 r l) = v19 (ix2 r ⟨256 + l.val, by omega⟩) := by
  pointwise [k0_pay2]

section Ref
open Cert.TokensRefIdeal.Read

theorem r13_at (X0 X1 X2) (b : Fin 16) (s : Fin 256) (l : Fin 512) :
    val_main_v13 (F := Ideal) X0 X1 X2 (ix3 b s l)
      = ∑ j : Fin 1024, rms (Ideal.ofBits .f32 1149239296#32) (fun j => X0 (ix3 b s j)) (fun j => X1 (ix1 j)) j * X2 (ix2 j l) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem r32_at (X0 X1 X2 X3) (b : Fin 16) (s : Fin 256) (l : Fin 256) :
    val_main_v32 (F := Ideal) X0 X1 X2 X3 (ix3 b s l)
      = headNorm (n := 256) (by decide) (fun j => val_main_v13 (F := Ideal) X0 X1 X2 (ix3 b s ⟨j.val, by omega⟩)) (fun j => X3 (ix1 j)) l := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v14, val_main_cst_2, val_main_cst_3, val_main_cst_4]
  rfl

theorem r15_at (X0 X1 X2) (b : Fin 16) (s : Fin 256) (l : Fin 256) :
    val_main_v15 (F := Ideal) X0 X1 X2 (ix3 b s l) = val_main_v13 (F := Ideal) X0 X1 X2 (ix3 b s ⟨256 + l.val, by omega⟩) := by
  pointwise [val_main_v15]

theorem r13_isReal (X0 X1 X2) (h0 : ∀ i, IsReal (X0 i)) (h1 : ∀ i, IsReal (X1 i)) (h2 : ∀ i, IsReal (X2 i)) (b : Fin 16) (s : Fin 256) (l : Fin 512) :
    IsReal (val_main_v13 (F := Ideal) X0 X1 X2 (ix3 b s l)) := by
  rw [r13_at]
  exact IsReal.sum _ fun j _ => (rms_isReal (fun j => h0 _) (fun j => h1 _) j).mul (h2 _)

end Ref

variable (m : (ℓ : Loc nD τ sig) → Buf (Elt Ideal) ℓ)

theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

/-- The projected row of a tile is the reference's projected row. -/
theorem proj_point (c : Dev nD) (t : Fin cfg0.N) (r : Fin 256) (l : Fin 512) (b : Fin 16) (hb : b.val = t.val) :
    k0_pay3 (F := Ideal) (iblk m c 0 t) (iblk m c 1 t) (iblk m c 2 t) (ix2 r l)
      = Cert.TokensRefIdeal.Read.val_main_v13 (F := Ideal) (m ((c : Thread nD τ).loc main_arg0)) (m ((c : Thread nD τ).loc main_arg1)) (m ((c : Thread nD τ).loc main_arg2)) (ix3 b r l) := by
  rw [pay3_at, r13_at]
  have e0 : ∀ j : Fin 1024, iblk m c 0 t (ix3 0 r j) = m ((c : Thread nD τ).loc main_arg0) (ix3 b r j) := fun j => by blk_point [iblk, V, idx t]
  have e1 : ∀ j : Fin 1024, iblk m c 1 t (ix2 0 j) = m ((c : Thread nD τ).loc main_arg1) (ix1 j) := fun j => by
    unfold iblk
    refine Eq.trans (b := V m c (Pipeline.arrRef spec0 1) (ix2 0 j)) ?_ (by entry_read; pointwise)
    generalize V m c _ = B
    blk_ext [idx t]
  have e2 : ∀ j : Fin 1024, iblk m c 2 t (ix2 j l) = m ((c : Thread nD τ).loc main_arg2) (ix2 j l) := fun j => by blk_point [iblk, V, idx t]
  simp only [e0, e1, e2]

theorem gain3 (c : Dev nD) (t : Fin cfg0.N) (j : Fin 256) :
    iblk m c 3 t (ix2 0 j) = m ((c : Thread nD τ).loc main_arg3) (ix1 ⟨j.val % 64, by omega⟩) := by
  unfold iblk
  refine Eq.trans (b := V m c (Pipeline.arrRef spec0 3) (ix2 0 j)) ?_ (by entry_read; pointwise)
  generalize V m c _ = B
  blk_ext [idx t]

set_option maxHeartbeats 400000 in
theorem final4 (c : Dev nD) (h0 : ∀ i, IsReal (m ((c : Thread nD τ).loc main_arg0) i)) (h1 : ∀ i, IsReal (m ((c : Thread nD τ).loc main_arg1) i)) (h2 : ∀ i, IsReal (m ((c : Thread nD τ).loc main_arg2) i)) :
    (dats m 0 c).arrAt 4 (cfgs 0).N = Cert.TokensRefIdeal.Read.val_main_v32 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  have ht : t.val < 16 := t.isLt
  idx_vars y
  obtain rfl : y0 = 0 := Subsingleton.elim _ _
  rw [show ((View.whole main_v6_0).slice (win0_4.rect t)).emb (ix3 (0 : Fin 1) y1 y2)
      = ix3 (⟨t.val, by omega⟩ : Fin 16) y1 y2 by blk_ext [idx t]]
  frame_out
  refine (pay1_at _ _ _ _ _ _).trans ?_
  rw [r32_at, ← head_eq (n := 256) (by decide) (by decide) _ (fun j => iblk m c 3 t (ix2 0 j)) _ _ (fun x => r13_isReal _ _ _ h0 h1 h2 _ _ _) (gain3 m c t y2)]
  exact congrArg (fun p => headSplit p (fun j : Fin 256 => iblk m c 3 t (ix2 0 j)) y2) (funext fun j => proj_point m c t y1 _ _ rfl)

set_option maxHeartbeats 400000 in
theorem final5 (c : Dev nD) :
    (dats m 0 c).arrAt 5 (cfgs 0).N = Cert.TokensRefIdeal.Read.val_main_v15 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  have ht : t.val < 16 := t.isLt
  idx_vars y
  obtain rfl : y0 = 0 := Subsingleton.elim _ _
  rw [show ((View.whole main_v6_1).slice (win0_5.rect t)).emb (ix3 (0 : Fin 1) y1 y2)
      = ix3 (⟨t.val, by omega⟩ : Fin 16) y1 y2 by blk_ext [idx t]]
  frame_out
  rw [r15_at]
  exact (pay2_at _ _ _).trans (proj_point m c t y1 _ _ rfl)

end Cert.TokensIdeal.Hand

end
-- ==== Proof.lean ====
module

public import proofs.«01_k».proof.Defs
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectRefIdeal
public import proofs.«01_k».proof.Proof.Gen.Tokens
public import proofs.«01_k».proof.Proof.Gen.Tokens.Skeleton
public import proofs.«01_k».proof.Proof.Gen.Tokens.Launch
public import proofs.«01_k».proof.Proof.Gen.Tokens.Points
public import proofs.«01_k».proof.Proof.Gen.Tokens.Frame
public import proofs.«01_k».proof.Proof.Gen.TokensIdeal
public import proofs.«01_k».proof.Proof.Gen.TokensIdeal.Skeleton
public import proofs.«01_k».proof.Proof.Gen.TokensIdeal.Launch
public import proofs.«01_k».proof.Proof.Gen.TokensIdeal.Points
public import proofs.«01_k».proof.Proof.Gen.TokensIdeal.Frame
public import proofs.«01_k».proof.Proof.Gen.TokensRefIdeal
public import proofs.«01_k».proof.Proof.Gen.Pre_finite_qk
public import proofs.«01_k».proof.Proof.Gen.Pre_finite_input
public import proofs.«01_k».proof.Proof.Gen.Pre_finite_tokens
public import proofs.«01_k».proof.Proof.Gen.CrossIdeal.Value
public import proofs.«01_k».proof.Proof.Gen.CrossRefIdeal.Run
public import proofs.«01_k».proof.Proof.Gen.CrossRefIdeal.Read
public import proofs.«01_k».proof.Proof.Gen.MixIdeal.Value
public import proofs.«01_k».proof.Proof.Gen.MixRefIdeal.Run
public import proofs.«01_k».proof.Proof.Gen.MixRefIdeal.Read
public import proofs.«01_k».proof.Proof.Gen.ProjectIdeal.Value
public import proofs.«01_k».proof.Proof.Gen.ProjectRefIdeal.Run
public import proofs.«01_k».proof.Proof.Gen.ProjectRefIdeal.Read
public import proofs.«01_k».proof.Proof.Gen.TokensIdeal.Value
public import proofs.«01_k».proof.Proof.Gen.TokensRefIdeal.Run
public import proofs.«01_k».proof.Proof.Gen.TokensRefIdeal.Read
public import proofs.«01_k».proof.Proof.CrossValue
public import proofs.«01_k».proof.Proof.Gen.BandRefIdeal.Run
public import proofs.«01_k».proof.Proof.Gen.BandRefIdeal.Read
public import proofs.«01_k».proof.Proof.BandRun
public import proofs.«01_k».proof.Proof.BandIdealRun
public import proofs.«01_k».proof.Proof.BandValue
public import proofs.«01_k».proof.Proof.MixValue
public import proofs.«01_k».proof.Proof.ProjectValue
public import proofs.«01_k».proof.Proof.TokensValue
public import Idealize.ShloMosaic.Lib.Claim
public import Idealize.ShloMosaic.Adequacy
public import Idealize.ShloMosaic.Init
public import proofs.«01_k».proof.Proof.Gen.Band
public import proofs.«01_k».proof.Proof.Gen.Band.Skeleton
public import proofs.«01_k».proof.Proof.Gen.Band.Loops
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Loops
public import proofs.«01_k».proof.Proof.Gen.BandIdeal.Launch
public import proofs.«01_k».proof.Proof.Gen.BandIdeal.Points
public import proofs.«01_k».proof.Proof.Gen.BandIdeal.Frame
public import proofs.«01_k».proof.Proof.Gen.BandRefIdeal

@[expose] public section

noncomputable section

namespace Cert.Proof

open Idealize.ShloMosaic Idealize.SL.Sem Cert.Cross

/-- The precondition gives real queries and keys. -/
theorem real_of_pre_qk (X0 : FVec Ideal Cert.CrossIdeal.S16x4096x256 .f32) (X1 X2 : FVec Ideal Cert.CrossIdeal.S16x256x256 .f32)
    (h0 : (Cert.Pre_finite_qk.fn (F := Ideal) X0 X1 X2).1 = fun _ => 1#1) (h1 : (Cert.Pre_finite_qk.fn (F := Ideal) X0 X1 X2).2 = fun _ => 1#1) :
    (∀ i, Cert.Math.IsReal (X0 i)) ∧ (∀ i, Cert.Math.IsReal (X1 i)) := by
  refine ⟨fun i => ?_, fun i => ?_⟩
  · have h := congrFun h0 i
    pointwise [Cert.Pre_finite_qk.fn] at h
    exact Cert.Math.isReal_of_olt h
  · have h := congrFun h1 i
    pointwise [Cert.Pre_finite_qk.fn] at h
    exact Cert.Math.isReal_of_olt h

/-- The two cross-attentions leave the same result. -/
theorem algebraic_cross : Cert.algebraic_CrossIdeal_CrossRefIdeal_pre_finite_qk := by
  pair_intro
  · run_from Cert.CrossIdeal.Gen.run_main m g
  · run_from Cert.CrossRefIdeal.Value.run m' g'
    obtain ⟨h0, h1⟩ := real_of_pre_qk _ _ _ (hpre c).1 (hpre c).2
    exact (Cert.CrossIdeal.Hand.final m c h0 h1).symm

theorem real_of_pre_finite_input (X0 : FVec Ideal Cert.ProjectIdeal.S65536x1024 .f32) (X1 : FVec Ideal Cert.ProjectIdeal.S1024 .f32) (X2 : FVec Ideal Cert.ProjectIdeal.S1024x2560 .f32) (X3 : FVec Ideal Cert.ProjectIdeal.S64 .f32) (X4 : FVec Ideal Cert.ProjectIdeal.S64 .f32) (X5 : FVec Ideal Cert.ProjectIdeal.S64 .f32) (X6 : FVec Ideal Cert.ProjectIdeal.S64 .f32) (X7 : FVec Ideal Cert.ProjectIdeal.S64 .f32)
    (h0 : (Cert.Pre_finite_input.fn (F := Ideal) X0 X1 X2 X3 X4 X5 X6 X7).1 = fun _ => 1#1) (h1 : (Cert.Pre_finite_input.fn (F := Ideal) X0 X1 X2 X3 X4 X5 X6 X7).2.1 = fun _ => 1#1) (h2 : (Cert.Pre_finite_input.fn (F := Ideal) X0 X1 X2 X3 X4 X5 X6 X7).2.2 = fun _ => 1#1) :
    (∀ i, Cert.Math.IsReal (X0 i)) ∧ (∀ i, Cert.Math.IsReal (X1 i)) ∧ (∀ i, Cert.Math.IsReal (X2 i)) := by
  refine ⟨fun i => ?_, fun i => ?_, fun i => ?_⟩
  · have h := congrFun h0 i
    pointwise [Cert.Pre_finite_input.fn] at h
    exact Cert.Math.isReal_of_olt h
  · have h := congrFun h1 i
    pointwise [Cert.Pre_finite_input.fn] at h
    exact Cert.Math.isReal_of_olt h
  · have h := congrFun h2 i
    pointwise [Cert.Pre_finite_input.fn] at h
    exact Cert.Math.isReal_of_olt h

theorem real_of_pre_finite_tokens (X0 : FVec Ideal Cert.TokensIdeal.S16x256x1024 .f32) (X1 : FVec Ideal Cert.TokensIdeal.S1024 .f32) (X2 : FVec Ideal Cert.TokensIdeal.S1024x512 .f32) (X3 : FVec Ideal Cert.TokensIdeal.S64 .f32)
    (h0 : (Cert.Pre_finite_tokens.fn (F := Ideal) X0 X1 X2 X3).1 = fun _ => 1#1) (h1 : (Cert.Pre_finite_tokens.fn (F := Ideal) X0 X1 X2 X3).2.1 = fun _ => 1#1) (h2 : (Cert.Pre_finite_tokens.fn (F := Ideal) X0 X1 X2 X3).2.2 = fun _ => 1#1) :
    (∀ i, Cert.Math.IsReal (X0 i)) ∧ (∀ i, Cert.Math.IsReal (X1 i)) ∧ (∀ i, Cert.Math.IsReal (X2 i)) := by
  refine ⟨fun i => ?_, fun i => ?_, fun i => ?_⟩
  · have h := congrFun h0 i
    pointwise [Cert.Pre_finite_tokens.fn] at h
    exact Cert.Math.isReal_of_olt h
  · have h := congrFun h1 i
    pointwise [Cert.Pre_finite_tokens.fn] at h
    exact Cert.Math.isReal_of_olt h
  · have h := congrFun h2 i
    pointwise [Cert.Pre_finite_tokens.fn] at h
    exact Cert.Math.isReal_of_olt h

set_option maxHeartbeats 1000000 in
/-- The two output projections leave the same four results. -/
theorem algebraic_mix : Cert.algebraic_MixIdeal_MixRefIdeal := by
  pair_intro
  · run_from Cert.MixIdeal.Gen.run_main m g
  · run_from Cert.MixRefIdeal.Value.run m' g'
    · obtain ⟨a0, a1, a2, a3, a4, a5, a6, a7, a8, a9, a10, a11⟩ := hagree c
      refine (Cert.MixRefIdeal.Read.val_main_v41_eq (F := Ideal) _ _ _ _ _ _ _ _).trans ?_
      rw [a4, a5, a6]
      exact (Cert.MixIdeal.Hand.final12 m c).symm
    · obtain ⟨a0, a1, a2, a3, a4, a5, a6, a7, a8, a9, a10, a11⟩ := hagree c
      refine (Cert.MixRefIdeal.Read.val_main_v61_eq m' c).trans ?_
      rw [a0, a1, a2, a3, a4, a5, a6, a7, a8]
      exact (Cert.MixIdeal.Hand.final13 m c).symm
    · obtain ⟨a0, a1, a2, a3, a4, a5, a6, a7, a8, a9, a10, a11⟩ := hagree c
      refine (Cert.MixRefIdeal.Read.val_main_v58_eq m' c).trans ?_
      rw [a0, a1, a2, a3, a4, a5, a6, a7, a8, a9, a10]
      exact (Cert.MixIdeal.Hand.final14 m c).symm
    · obtain ⟨a0, a1, a2, a3, a4, a5, a6, a7, a8, a9, a10, a11⟩ := hagree c
      refine (Cert.MixRefIdeal.Read.val_main_v60_eq m' c).trans ?_
      rw [a0, a1, a2, a3, a4, a5, a6, a7, a8, a9, a11]
      exact (Cert.MixIdeal.Hand.final15 m c).symm

set_option maxHeartbeats 4000000 in
/-- The two input projections leave the same seven results. -/
theorem algebraic_project : Cert.algebraic_ProjectIdeal_ProjectRefIdeal_pre_finite_input := by
  pair_intro
  · run_from Cert.ProjectIdeal.Gen.run_main m g
  · run_from Cert.ProjectRefIdeal.Value.run m' g'
    all_goals obtain ⟨h0, h1, h2⟩ := real_of_pre_finite_input _ _ _ _ _ _ _ _ (hpre c).1 (hpre c).2.1 (hpre c).2.2
    · exact (Cert.ProjectIdeal.Hand.final8 m c h0 h1 h2).symm
    · exact (Cert.ProjectIdeal.Hand.final9 m c h0 h1 h2).symm
    · exact (Cert.ProjectIdeal.Hand.final10 m c).symm
    · exact (Cert.ProjectIdeal.Hand.final11 m c h0 h1 h2).symm
    · exact (Cert.ProjectIdeal.Hand.final12 m c h0 h1 h2).symm
    · exact (Cert.ProjectIdeal.Hand.final13 m c).symm
    · exact (Cert.ProjectIdeal.Hand.final14 m c h0 h1 h2).symm

/-- The two memory projections leave the same two results. -/
theorem algebraic_tokens : Cert.algebraic_TokensIdeal_TokensRefIdeal_pre_finite_tokens := by
  pair_intro
  · run_from Cert.TokensIdeal.Gen.run_main m g
  · run_from Cert.TokensRefIdeal.Value.run m' g'
    all_goals obtain ⟨h0, h1, h2⟩ := real_of_pre_finite_tokens _ _ _ _ (hpre c).1 (hpre c).2.1 (hpre c).2.2
    · exact (Cert.TokensIdeal.Hand.final4 m c h0 h1 h2).symm
    · exact (Cert.TokensIdeal.Hand.final5 m c).symm

/-- The two dilated attentions leave the same result. -/
theorem algebraic_band : Cert.algebraic_BandIdeal_BandRefIdeal := by
  pair_intro
  · run_from Cert.BandIdeal.Hand.run_main m g
  · run_from Cert.BandRefIdeal.Value.run m' g'
    obtain ⟨a0, a1, a2, a3⟩ := hagree c
    refine (Cert.BandRefIdeal.Read.val_main_v159_eq (StableHlo.launchContents m' c)).trans ?_
    show Cert.BandRefIdeal.Read.val_main_v159 (F := Ideal) (m' ((c.tc : Thread Cert.BandRefIdeal.nD Cert.BandRefIdeal.τ).loc Cert.BandRefIdeal.main_arg0))
      (m' ((c.tc : Thread Cert.BandRefIdeal.nD Cert.BandRefIdeal.τ).loc Cert.BandRefIdeal.main_arg1))
      (m' ((c.tc : Thread Cert.BandRefIdeal.nD Cert.BandRefIdeal.τ).loc Cert.BandRefIdeal.main_arg2))
      (m' ((c.tc : Thread Cert.BandRefIdeal.nD Cert.BandRefIdeal.τ).loc Cert.BandRefIdeal.main_arg3)) = _
    rw [a0, a1, a2, a3]
    exact (Cert.BandIdeal.Hand.final m c).symm

/-! The references leave their arguments and have no semaphore. -/

theorem frame_ref_Cross : Cert.quiescent_CrossRefIdeal := fun m ρ _ =>
  (θ_run Cert.CrossRefIdeal.defs _ _).mono (fun r h => ⟨fun c => ⟨(h c).2.1, (h c).2.2.1, (h c).2.2.2⟩,
    sem_eq_zero_of_no_sems (by decide) r.2⟩) (Cert.CrossRefIdeal.Value.run m ρ)

theorem frame_ref_Mix : Cert.quiescent_MixRefIdeal := fun m ρ _ =>
  (θ_run Cert.MixRefIdeal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩,
    sem_eq_zero_of_no_sems (by decide) r.2⟩) (Cert.MixRefIdeal.Value.run m ρ)

theorem frame_ref_Project : Cert.quiescent_ProjectRefIdeal := fun m ρ _ =>
  (θ_run Cert.ProjectRefIdeal.defs _ _).mono (fun r h => ⟨fun c => ⟨(h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩,
    sem_eq_zero_of_no_sems (by decide) r.2⟩) (Cert.ProjectRefIdeal.Value.run m ρ)

theorem frame_ref_Tokens : Cert.quiescent_TokensRefIdeal := fun m ρ _ =>
  (θ_run Cert.TokensRefIdeal.defs _ _).mono (fun r h => ⟨fun c => ⟨(h c).2.2.1, (h c).2.2.2.1, (h c).2.2.2.2.1, (h c).2.2.2.2.2⟩,
    sem_eq_zero_of_no_sems (by decide) r.2⟩) (Cert.TokensRefIdeal.Value.run m ρ)

theorem frame_ref_Band : Cert.quiescent_BandRefIdeal := fun m ρ _ =>
  (θ_run Cert.BandRefIdeal.defs _ _).mono (fun r h => ⟨fun c => ⟨(h c).2.1, (h c).2.2.1, (h c).2.2.2.1, (h c).2.2.2.2⟩,
    sem_eq_zero_of_no_sems (by decide) r.2⟩) (Cert.BandRefIdeal.Value.run m ρ)

/-- The mask the idealized dilated attention names stands for the constant its kernel has. -/
theorem preserves_band : Cert.preserves_Band_BandIdeal :=
  IdealRules.named_const.statement Cert.BandIdeal.κ "mask" .f32 0xF149F2CA#32 ⊥ rfl

theorem claim : Cert.Claim := ⟨Cert.Cross.Gen.facts, Cert.CrossIdeal.Gen.facts, Cert.CrossRefIdeal.Gen.facts, Cert.Mix.Gen.facts, Cert.MixIdeal.Gen.facts, Cert.MixRefIdeal.Gen.facts, Cert.Project.Gen.facts, Cert.ProjectIdeal.Gen.facts, Cert.ProjectRefIdeal.Gen.facts, Cert.Tokens.Gen.facts, Cert.TokensIdeal.Gen.facts, Cert.TokensRefIdeal.Gen.facts, Cert.Band.Gen.facts, Cert.BandIdeal.Gen.facts, Cert.BandRefIdeal.Gen.facts, Cert.Pre_finite_qk.Gen.facts, Cert.Pre_finite_input.Gen.facts, Cert.Pre_finite_tokens.Gen.facts, by
  exact ⟨fun m ρ _ => Cert.Cross.Gen.frame m ρ,
  fun m ρ _ => Cert.CrossIdeal.Gen.frame m ρ,
  fun m ρ _ => Cert.CrossIdeal.Gen.frame m ρ,
  fun m ρ _ => frame_ref_Cross m ρ trivial,
  fun m ρ _ => frame_ref_Cross m ρ trivial,
  fun m ρ _ => Cert.Mix.Gen.frame m ρ,
  fun m ρ _ => Cert.MixIdeal.Gen.frame m ρ,
  fun m ρ _ => frame_ref_Mix m ρ trivial,
  fun m ρ _ => Cert.Project.Gen.frame m ρ,
  fun m ρ _ => Cert.ProjectIdeal.Gen.frame m ρ,
  fun m ρ _ => Cert.ProjectIdeal.Gen.frame m ρ,
  fun m ρ _ => frame_ref_Project m ρ trivial,
  fun m ρ _ => frame_ref_Project m ρ trivial,
  fun m ρ _ => Cert.Tokens.Gen.frame m ρ,
  fun m ρ _ => Cert.TokensIdeal.Gen.frame m ρ,
  fun m ρ _ => Cert.TokensIdeal.Gen.frame m ρ,
  fun m ρ _ => frame_ref_Tokens m ρ trivial,
  fun m ρ _ => frame_ref_Tokens m ρ trivial,
  fun m ρ _ => Cert.Band.Hand.frame m ρ,
  fun m ρ _ => Cert.BandIdeal.Hand.frame m ρ,
  fun m ρ _ => frame_ref_Band m ρ trivial,
  trivial,
  algebraic_cross,
  trivial,
  algebraic_mix,
  trivial,
  algebraic_project,
  trivial,
  algebraic_tokens,
  preserves_band,
  algebraic_band⟩⟩

end Cert.Proof

end
